-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_experts [hPre_distinct_experts : Cert.Pre_distinct_experts.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_experts [hPre_distinct_experts : Cert.Pre_distinct_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_distinct_experts [hKernelIdeal : Cert.KernelIdeal.Facts] [hPre_distinct_experts : Cert.Pre_distinct_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_distinct_experts [hReferenceIdeal : Cert.ReferenceIdeal.Facts] [hPre_distinct_experts : Cert.Pre_distinct_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_distinct_experts [hKernelIdeal : Cert.KernelIdeal.Facts] [hReferenceIdeal : Cert.ReferenceIdeal.Facts] [hPre_distinct_experts : Cert.Pre_distinct_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_distinct_experts : Cert.Pre_distinct_experts.Facts),
    quiescent_Kernel (hKernel := hKernel)
    ∧ quiescent_KernelIdeal (hKernelIdeal := hKernelIdeal)
    ∧ quiescent_KernelIdeal_pre_distinct_experts (hKernelIdeal := hKernelIdeal) (hPre_distinct_experts := hPre_distinct_experts)
    ∧ quiescent_ReferenceIdeal (hReferenceIdeal := hReferenceIdeal)
    ∧ quiescent_ReferenceIdeal_pre_distinct_experts (hReferenceIdeal := hReferenceIdeal) (hPre_distinct_experts := hPre_distinct_experts)
    ∧ preserves_Kernel_KernelIdeal
    ∧ algebraic_KernelIdeal_ReferenceIdeal_pre_distinct_experts (hKernelIdeal := hKernelIdeal) (hReferenceIdeal := hReferenceIdeal) (hPre_distinct_experts := hPre_distinct_experts)
-- ==== Pre_distinct_experts.lean ====
abbrev S32x1x3072 : Shape := ⟨3, ![32, 1, 3072]⟩
abbrev S32x1x2 : Shape := ⟨3, ![32, 1, 2]⟩
abbrev S8x1536x2048 : Shape := ⟨3, ![8, 1536, 2048]⟩
abbrev S8x24x2048 : Shape := ⟨3, ![8, 24, 2048]⟩
abbrev S8x512x3072 : Shape := ⟨3, ![8, 512, 3072]⟩
abbrev S8x8x3072 : Shape := ⟨3, ![8, 8, 3072]⟩
abbrev S32x1x1 : Shape := ⟨3, ![32, 1, 1]⟩
abbrev S32x1 : Shape := ⟨2, ![32, 1]⟩

class Facts : Prop where
  slices_S32x1x2_S32x1x1_0_0_0 : S32x1x2.Slices ![0, 0, 0] S32x1x1
  shapeCasts_S32x1x1_S32x1 : S32x1x1.ShapeCasts S32x1
  slices_S32x1x2_S32x1x1_0_0_1 : S32x1x2.Slices ![0, 0, 1] S32x1x1

variable [Facts]

def fn {F : FTy → Type} [FloatOps F] (main_arg0 : FVec F S32x1x3072 .bf16) (main_arg1 : IVec S32x1x2 32) (main_arg2 : FVec F S32x1x2 .f32) (main_arg3 : IVec S8x1536x2048 8) (main_arg4 : FVec F S8x24x2048 .bf16) (main_arg5 : IVec S8x512x3072 8) (main_arg6 : FVec F S8x8x3072 .bf16) : IVec S32x1 1 :=
  let main_v0 : IVec S32x1x1 32 := (extractStridedSlice S32x1x1 ![0, 0, 0] · slices_S32x1x2_S32x1x1_0_0_0) main_arg1
  let main_v1 : IVec S32x1 32 := shapeCast S32x1 main_v0 shapeCasts_S32x1x1_S32x1
  let main_v2 : IVec S32x1x1 32 := (extractStridedSlice S32x1x1 ![0, 0, 1] · slices_S32x1x2_S32x1x1_0_0_1) main_arg1
  let main_v3 : IVec S32x1 32 := shapeCast S32x1 main_v2 shapeCasts_S32x1x1_S32x1
  let main_v4 : IVec S32x1 1 := cmpi .ne main_v1 main_v3
  main_v4
-- ==== Kernel.lean ====
abbrev S32x1x3072 : Shape := ⟨3, ![32, 1, 3072]⟩
abbrev S32x1x2 : Shape := ⟨3, ![32, 1, 2]⟩
abbrev S8x1536x2048 : Shape := ⟨3, ![8, 1536, 2048]⟩
abbrev S8x24x2048 : Shape := ⟨3, ![8, 24, 2048]⟩
abbrev S8x512x3072 : Shape := ⟨3, ![8, 512, 3072]⟩
abbrev S8x8x3072 : Shape := ⟨3, ![8, 8, 3072]⟩
abbrev S32x2 : Shape := ⟨2, ![32, 2]⟩
abbrev S64 : Shape := ⟨1, ![64]⟩
abbrev S32x3072 : Shape := ⟨2, ![32, 3072]⟩
abbrev S8 : Shape := ⟨1, ![8]⟩
abbrev S8x4 : Shape := ⟨2, ![8, 4]⟩
abbrev S1 : Shape := ⟨1, ![1]⟩
abbrev S1x1 : Shape := ⟨2, ![1, 1]⟩
abbrev S_ : Shape := ⟨0, ![]⟩
abbrev S1x24x2048 : Shape := ⟨3, ![1, 24, 2048]⟩
abbrev S24x2048 : Shape := ⟨2, ![24, 2048]⟩
abbrev S1x1536x2048 : Shape := ⟨3, ![1, 1536, 2048]⟩
abbrev S1536x2048 : Shape := ⟨2, ![1536, 2048]⟩
abbrev S1x8x3072 : Shape := ⟨3, ![1, 8, 3072]⟩
abbrev S8x3072 : Shape := ⟨2, ![8, 3072]⟩
abbrev S1x512x3072 : Shape := ⟨3, ![1, 512, 3072]⟩
abbrev S512x3072 : Shape := ⟨2, ![512, 3072]⟩
abbrev S32x256 : Shape := ⟨2, ![32, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x256 : Shape := ⟨2, ![1, 256]⟩
abbrev S32 : Shape := ⟨1, ![32]⟩
abbrev S32x1 : Shape := ⟨2, ![32, 1]⟩

abbrev nBuf : Space → Nat
  | .hbm => 12
  | .vmem => 9
  | .smem => 2
  | _ => 0

abbrev bufTy : (tb : Table) → Fin (tcTables nBuf tb) → BufTy
  | .hbm, ⟨0, _⟩ => ⟨S32x1x3072, .bf16⟩
  | .hbm, ⟨1, _⟩ => ⟨S32x1x2, .i32⟩
  | .hbm, ⟨2, _⟩ => ⟨S32x1x2, .f32⟩
  | .hbm, ⟨3, _⟩ => ⟨S8x1536x2048, .i8⟩
  | .hbm, ⟨4, _⟩ => ⟨S8x24x2048, .bf16⟩
  | .hbm, ⟨5, _⟩ => ⟨S8x512x3072, .i8⟩
  | .hbm, ⟨6, _⟩ => ⟨S8x8x3072, .bf16⟩
  | .hbm, ⟨7, _⟩ => ⟨S32x2, .i32⟩
  | .hbm, ⟨8, _⟩ => ⟨S64, .i32⟩
  | .hbm, ⟨9, _⟩ => ⟨S32x2, .f32⟩
  | .hbm, ⟨10, _⟩ => ⟨S32x3072, .bf16⟩
  | .hbm, ⟨11, _⟩ => ⟨S32x3072, .bf16⟩
  | .local _ .vmem, ⟨0, _⟩ => ⟨S32x2, .i32⟩
  | .local _ .vmem, ⟨1, _⟩ => ⟨S32x2, .f32⟩
  | .local _ .vmem, ⟨2, _⟩ => ⟨S32x3072, .bf16⟩
  | .local _ .vmem, ⟨3, _⟩ => ⟨S32x3072, .bf16⟩
  | .local _ .vmem, ⟨4, _⟩ => ⟨S8x1536x2048, .i8⟩
  | .local _ .vmem, ⟨5, _⟩ => ⟨S8x24x2048, .bf16⟩
  | .local _ .vmem, ⟨6, _⟩ => ⟨S8x512x3072, .i8⟩
  | .local _ .vmem, ⟨7, _⟩ => ⟨S8x8x3072, .bf16⟩
  | .local _ .vmem, ⟨8, _⟩ => ⟨S32x3072, .f32⟩
  | .local _ .smem, ⟨0, _⟩ => ⟨S64, .i32⟩
  | .local _ .smem, ⟨1, _⟩ => ⟨S8, .i32⟩
  | _, _ => ⟨S32x1x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_stg0_0 : Ref sig .tc := ⟨.smem, 0, rfl⟩
abbrev cc0_scratch5 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Fin 1 → Nat :=
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let v196 : Index := Scalar.indexCast v195
  ![v196.toNat]

def k0_off2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Fin 1 → Nat :=
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let v201 : Index := Scalar.indexCast v200
  ![v201.toNat]
def k0_off3 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Fin 1 → Nat :=
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let v206 : Index := Scalar.indexCast v205
  ![v206.toNat]
def k0_off4 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Fin 1 → Nat :=
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let v211 : Index := Scalar.indexCast v210
  ![v211.toNat]
def k0_off5 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Fin 1 → Nat :=
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let v216 : Index := Scalar.indexCast v215
  ![v216.toNat]
def k0_off6 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Fin 1 → Nat :=
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let v221 : Index := Scalar.indexCast v220
  ![v221.toNat]
def k0_off7 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Fin 1 → Nat :=
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let v226 : Index := Scalar.indexCast v225
  ![v226.toNat]
@[reducible] def k0_t1_loop (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Scf.Loop 32 :=
  let c0_i32_84 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v231 : BitVec 32 := Scalar.subi v230 c0_i32_84
  let c1_i32_85 : BitVec 32 := 1#32
  let v233 : BitVec 32 := Scalar.divsi v231 c1_i32_85
  let v234 : BitVec 32 := Scalar.muli v233 c1_i32_85
  let v235 : BitVec 32 := Scalar.addi c0_i32_84 v234
  let c1_i32_86 : BitVec 32 := 1#32
  ⟨c0_i32_84, v235, c1_i32_86⟩
def k0_off8 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 1 → Nat :=
  let c0_i32_84 : BitVec 32 := 0#32
  let c1_i32_86 : BitVec 32 := 1#32
  let arg16 : BitVec 32 := Scf.iv c0_i32_84 c1_i32_86 k0_t1
  let v248 : Index := Scalar.indexCast arg16
  ![v248.toNat]
def k0_off9 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_84 : BitVec 32 := 0#32
  let c1_i32_86 : BitVec 32 := 1#32
  let arg16 : BitVec 32 := Scf.iv c0_i32_84 c1_i32_86 k0_t1
  let c0_i32_99 : BitVec 32 := 0#32
  ![arg16.toNat, 0]
def k0_off10 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_84 : BitVec 32 := 0#32
  let c1_i32_86 : BitVec 32 := 1#32
  let arg16 : BitVec 32 := Scf.iv c0_i32_84 c1_i32_86 k0_t1
  let c0_i32_100 : BitVec 32 := 0#32
  let c0_i32_101 : BitVec 32 := 0#32
  ![arg16.toNat, 0, 0]
def k0_off11 (v249 : BitVec 32) : Fin 3 → Nat :=
  let c0_i32_102 : BitVec 32 := 0#32
  let c0_i32_103 : BitVec 32 := 0#32
  ![v249.toNat, 0, 0]

def k0_off12 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_84 : BitVec 32 := 0#32
  let c1_i32_86 : BitVec 32 := 1#32
  let arg16 : BitVec 32 := Scf.iv c0_i32_84 c1_i32_86 k0_t1
  let c1_i32_104 : BitVec 32 := 1#32
  ![arg16.toNat, 1]
def k0_off13 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_84 : BitVec 32 := 0#32
  let c1_i32_86 : BitVec 32 := 1#32
  let arg16 : BitVec 32 := Scf.iv c0_i32_84 c1_i32_86 k0_t1
  let c0_i32_105 : BitVec 32 := 0#32
  let c0_i32_106 : BitVec 32 := 0#32
  ![arg16.toNat, 0, 0]
def k0_off14 (v249 : BitVec 32) : Fin 3 → Nat :=
  let c0_i32_107 : BitVec 32 := 0#32
  let c0_i32_108 : BitVec 32 := 0#32
  ![v249.toNat, 0, 0]
def k0_off15 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_84 : BitVec 32 := 0#32
  let c1_i32_86 : BitVec 32 := 1#32
  let arg16 : BitVec 32 := Scf.iv c0_i32_84 c1_i32_86 k0_t1
  let c2_i32_109 : BitVec 32 := 2#32
  ![arg16.toNat, 2]
def k0_off16 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_84 : BitVec 32 := 0#32
  let c1_i32_86 : BitVec 32 := 1#32
  let arg16 : BitVec 32 := Scf.iv c0_i32_84 c1_i32_86 k0_t1
  let c0_i32_110 : BitVec 32 := 0#32
  let c0_i32_111 : BitVec 32 := 0#32
  ![arg16.toNat, 0, 0]
def k0_off17 (v249 : BitVec 32) : Fin 3 → Nat :=
  let c0_i32_112 : BitVec 32 := 0#32
  let c0_i32_113 : BitVec 32 := 0#32
  ![v249.toNat, 0, 0]
def k0_off18 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_84 : BitVec 32 := 0#32
  let c1_i32_86 : BitVec 32 := 1#32
  let arg16 : BitVec 32 := Scf.iv c0_i32_84 c1_i32_86 k0_t1
  let c3_i32_114 : BitVec 32 := 3#32
  ![arg16.toNat, 3]
def k0_off19 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_84 : BitVec 32 := 0#32
  let c1_i32_86 : BitVec 32 := 1#32
  let arg16 : BitVec 32 := Scf.iv c0_i32_84 c1_i32_86 k0_t1
  let c0_i32_115 : BitVec 32 := 0#32
  let c0_i32_116 : BitVec 32 := 0#32
  ![arg16.toNat, 0, 0]
def k0_off20 (v249 : BitVec 32) : Fin 3 → Nat :=
  let c0_i32_117 : BitVec 32 := 0#32
  let c0_i32_118 : BitVec 32 := 0#32
  ![v249.toNat, 0, 0]

def k0_chk2 (v249 : BitVec 32) : Prop :=
  (∀ a, (k0_off11 v249) a + S1x24x2048.size a ≤ S8x24x2048.size a) ∧
  (∀ (hinb : ∀ a, (k0_off11 v249) a + S1x24x2048.size a ≤ S8x24x2048.size a), (Rect.unit (s := S8x24x2048) (k0_off11 v249) S1x24x2048.size hinb).WholeWords (EltTy.packing .bf16)) ∧
  (∀ a, (k0_off14 v249) a + S1x1536x2048.size a ≤ S8x1536x2048.size a) ∧
  (∀ (hinb : ∀ a, (k0_off14 v249) a + S1x1536x2048.size a ≤ S8x1536x2048.size a), (Rect.unit (s := S8x1536x2048) (k0_off14 v249) S1x1536x2048.size hinb).WholeWords (EltTy.packing .i8)) ∧
  (∀ a, (k0_off17 v249) a + S1x8x3072.size a ≤ S8x8x3072.size a) ∧
  (∀ (hinb : ∀ a, (k0_off17 v249) a + S1x8x3072.size a ≤ S8x8x3072.size a), (Rect.unit (s := S8x8x3072) (k0_off17 v249) S1x8x3072.size hinb).WholeWords (EltTy.packing .bf16)) ∧
  (∀ a, (k0_off20 v249) a + S1x512x3072.size a ≤ S8x512x3072.size a) ∧
  (∀ (hinb : ∀ a, (k0_off20 v249) a + S1x512x3072.size a ≤ S8x512x3072.size a), (Rect.unit (s := S8x512x3072) (k0_off20 v249) S1x512x3072.size hinb).WholeWords (EltTy.packing .i8))
theorem k0_off11_inb : ∀ (v249 : BitVec 32) (k0_hw2 : k0_chk2 v249), ∀ a, (k0_off11 v249) a + S1x24x2048.size a ≤ S8x24x2048.size a := fun v249 k0_hw2 => k0_hw2.1
theorem k0_off11_wordsbf16 : ∀ (v249 : BitVec 32) (k0_hw2 : k0_chk2 v249), (Rect.unit (s := S8x24x2048) (k0_off11 v249) S1x24x2048.size (k0_off11_inb v249 k0_hw2)).WholeWords (EltTy.packing .bf16) := fun v249 k0_hw2 => k0_hw2.2.1 (k0_off11_inb v249 k0_hw2)
theorem k0_off14_inb : ∀ (v249 : BitVec 32) (k0_hw2 : k0_chk2 v249), ∀ a, (k0_off14 v249) a + S1x1536x2048.size a ≤ S8x1536x2048.size a := fun v249 k0_hw2 => k0_hw2.2.2.1
theorem k0_off14_wordsi8 : ∀ (v249 : BitVec 32) (k0_hw2 : k0_chk2 v249), (Rect.unit (s := S8x1536x2048) (k0_off14 v249) S1x1536x2048.size (k0_off14_inb v249 k0_hw2)).WholeWords (EltTy.packing .i8) := fun v249 k0_hw2 => k0_hw2.2.2.2.1 (k0_off14_inb v249 k0_hw2)
theorem k0_off17_inb : ∀ (v249 : BitVec 32) (k0_hw2 : k0_chk2 v249), ∀ a, (k0_off17 v249) a + S1x8x3072.size a ≤ S8x8x3072.size a := fun v249 k0_hw2 => k0_hw2.2.2.2.2.1
theorem k0_off17_wordsbf16 : ∀ (v249 : BitVec 32) (k0_hw2 : k0_chk2 v249), (Rect.unit (s := S8x8x3072) (k0_off17 v249) S1x8x3072.size (k0_off17_inb v249 k0_hw2)).WholeWords (EltTy.packing .bf16) := fun v249 k0_hw2 => k0_hw2.2.2.2.2.2.1 (k0_off17_inb v249 k0_hw2)
theorem k0_off20_inb : ∀ (v249 : BitVec 32) (k0_hw2 : k0_chk2 v249), ∀ a, (k0_off20 v249) a + S1x512x3072.size a ≤ S8x512x3072.size a := fun v249 k0_hw2 => k0_hw2.2.2.2.2.2.2.1
theorem k0_off20_wordsi8 : ∀ (v249 : BitVec 32) (k0_hw2 : k0_chk2 v249), (Rect.unit (s := S8x512x3072) (k0_off20 v249) S1x512x3072.size (k0_off20_inb v249 k0_hw2)).WholeWords (EltTy.packing .i8) := fun v249 k0_hw2 => k0_hw2.2.2.2.2.2.2.2 (k0_off20_inb v249 k0_hw2)

@[reducible] def k0_t2_loop (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Scf.Loop 32 :=
  let c0_i32_84 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v231 : BitVec 32 := Scalar.subi v230 c0_i32_84
  let c1_i32_85 : BitVec 32 := 1#32
  let v233 : BitVec 32 := Scalar.divsi v231 c1_i32_85
  let v234 : BitVec 32 := Scalar.muli v233 c1_i32_85
  let v235 : BitVec 32 := Scalar.addi c0_i32_84 v234
  let v232 : BitVec 32 := Scalar.addi c0_i32_84 v231
  let c1_i32_87 : BitVec 32 := 1#32
  ⟨v235, v232, c1_i32_87⟩
def k0_off21 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 1 → Nat :=
  let c0_i32_84 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v231 : BitVec 32 := Scalar.subi v230 c0_i32_84
  let c1_i32_85 : BitVec 32 := 1#32
  let v233 : BitVec 32 := Scalar.divsi v231 c1_i32_85
  let v234 : BitVec 32 := Scalar.muli v233 c1_i32_85
  let v235 : BitVec 32 := Scalar.addi c0_i32_84 v234
  let c1_i32_87 : BitVec 32 := 1#32
  let arg16 : BitVec 32 := Scf.iv v235 c1_i32_87 k0_t2
  let v248 : Index := Scalar.indexCast arg16
  ![v248.toNat]
def k0_off22 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_84 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v231 : BitVec 32 := Scalar.subi v230 c0_i32_84
  let c1_i32_85 : BitVec 32 := 1#32
  let v233 : BitVec 32 := Scalar.divsi v231 c1_i32_85
  let v234 : BitVec 32 := Scalar.muli v233 c1_i32_85
  let v235 : BitVec 32 := Scalar.addi c0_i32_84 v234
  let c1_i32_87 : BitVec 32 := 1#32
  let arg16 : BitVec 32 := Scf.iv v235 c1_i32_87 k0_t2
  let c0_i32_99 : BitVec 32 := 0#32
  ![arg16.toNat, 0]
def k0_off23 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_84 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v231 : BitVec 32 := Scalar.subi v230 c0_i32_84
  let c1_i32_85 : BitVec 32 := 1#32
  let v233 : BitVec 32 := Scalar.divsi v231 c1_i32_85
  let v234 : BitVec 32 := Scalar.muli v233 c1_i32_85
  let v235 : BitVec 32 := Scalar.addi c0_i32_84 v234
  let c1_i32_87 : BitVec 32 := 1#32
  let arg16 : BitVec 32 := Scf.iv v235 c1_i32_87 k0_t2
  let c0_i32_100 : BitVec 32 := 0#32
  let c0_i32_101 : BitVec 32 := 0#32
  ![arg16.toNat, 0, 0]
def k0_off24 (v249 : BitVec 32) : Fin 3 → Nat :=
  let c0_i32_102 : BitVec 32 := 0#32
  let c0_i32_103 : BitVec 32 := 0#32
  ![v249.toNat, 0, 0]

def k0_off25 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_84 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v231 : BitVec 32 := Scalar.subi v230 c0_i32_84
  let c1_i32_85 : BitVec 32 := 1#32
  let v233 : BitVec 32 := Scalar.divsi v231 c1_i32_85
  let v234 : BitVec 32 := Scalar.muli v233 c1_i32_85
  let v235 : BitVec 32 := Scalar.addi c0_i32_84 v234
  let c1_i32_87 : BitVec 32 := 1#32
  let arg16 : BitVec 32 := Scf.iv v235 c1_i32_87 k0_t2
  let c1_i32_104 : BitVec 32 := 1#32
  ![arg16.toNat, 1]
def k0_off26 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_84 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v231 : BitVec 32 := Scalar.subi v230 c0_i32_84
  let c1_i32_85 : BitVec 32 := 1#32
  let v233 : BitVec 32 := Scalar.divsi v231 c1_i32_85
  let v234 : BitVec 32 := Scalar.muli v233 c1_i32_85
  let v235 : BitVec 32 := Scalar.addi c0_i32_84 v234
  let c1_i32_87 : BitVec 32 := 1#32
  let arg16 : BitVec 32 := Scf.iv v235 c1_i32_87 k0_t2
  let c0_i32_105 : BitVec 32 := 0#32
  let c0_i32_106 : BitVec 32 := 0#32
  ![arg16.toNat, 0, 0]
def k0_off27 (v249 : BitVec 32) : Fin 3 → Nat :=
  let c0_i32_107 : BitVec 32 := 0#32
  let c0_i32_108 : BitVec 32 := 0#32
  ![v249.toNat, 0, 0]
def k0_off28 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_84 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v231 : BitVec 32 := Scalar.subi v230 c0_i32_84
  let c1_i32_85 : BitVec 32 := 1#32
  let v233 : BitVec 32 := Scalar.divsi v231 c1_i32_85
  let v234 : BitVec 32 := Scalar.muli v233 c1_i32_85
  let v235 : BitVec 32 := Scalar.addi c0_i32_84 v234
  let c1_i32_87 : BitVec 32 := 1#32
  let arg16 : BitVec 32 := Scf.iv v235 c1_i32_87 k0_t2
  let c2_i32_109 : BitVec 32 := 2#32
  ![arg16.toNat, 2]
def k0_off29 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_84 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v231 : BitVec 32 := Scalar.subi v230 c0_i32_84
  let c1_i32_85 : BitVec 32 := 1#32
  let v233 : BitVec 32 := Scalar.divsi v231 c1_i32_85
  let v234 : BitVec 32 := Scalar.muli v233 c1_i32_85
  let v235 : BitVec 32 := Scalar.addi c0_i32_84 v234
  let c1_i32_87 : BitVec 32 := 1#32
  let arg16 : BitVec 32 := Scf.iv v235 c1_i32_87 k0_t2
  let c0_i32_110 : BitVec 32 := 0#32
  let c0_i32_111 : BitVec 32 := 0#32
  ![arg16.toNat, 0, 0]
def k0_off30 (v249 : BitVec 32) : Fin 3 → Nat :=
  let c0_i32_112 : BitVec 32 := 0#32
  let c0_i32_113 : BitVec 32 := 0#32
  ![v249.toNat, 0, 0]
def k0_off31 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_84 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v231 : BitVec 32 := Scalar.subi v230 c0_i32_84
  let c1_i32_85 : BitVec 32 := 1#32
  let v233 : BitVec 32 := Scalar.divsi v231 c1_i32_85
  let v234 : BitVec 32 := Scalar.muli v233 c1_i32_85
  let v235 : BitVec 32 := Scalar.addi c0_i32_84 v234
  let c1_i32_87 : BitVec 32 := 1#32
  let arg16 : BitVec 32 := Scf.iv v235 c1_i32_87 k0_t2
  let c3_i32_114 : BitVec 32 := 3#32
  ![arg16.toNat, 3]
def k0_off32 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_84 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v231 : BitVec 32 := Scalar.subi v230 c0_i32_84
  let c1_i32_85 : BitVec 32 := 1#32
  let v233 : BitVec 32 := Scalar.divsi v231 c1_i32_85
  let v234 : BitVec 32 := Scalar.muli v233 c1_i32_85
  let v235 : BitVec 32 := Scalar.addi c0_i32_84 v234
  let c1_i32_87 : BitVec 32 := 1#32
  let arg16 : BitVec 32 := Scf.iv v235 c1_i32_87 k0_t2
  let c0_i32_115 : BitVec 32 := 0#32
  let c0_i32_116 : BitVec 32 := 0#32
  ![arg16.toNat, 0, 0]
def k0_off33 (v249 : BitVec 32) : Fin 3 → Nat :=
  let c0_i32_117 : BitVec 32 := 0#32
  let c0_i32_118 : BitVec 32 := 0#32
  ![v249.toNat, 0, 0]

def k0_chk3 (v249 : BitVec 32) : Prop :=
  (∀ a, (k0_off24 v249) a + S1x24x2048.size a ≤ S8x24x2048.size a) ∧
  (∀ (hinb : ∀ a, (k0_off24 v249) a + S1x24x2048.size a ≤ S8x24x2048.size a), (Rect.unit (s := S8x24x2048) (k0_off24 v249) S1x24x2048.size hinb).WholeWords (EltTy.packing .bf16)) ∧
  (∀ a, (k0_off27 v249) a + S1x1536x2048.size a ≤ S8x1536x2048.size a) ∧
  (∀ (hinb : ∀ a, (k0_off27 v249) a + S1x1536x2048.size a ≤ S8x1536x2048.size a), (Rect.unit (s := S8x1536x2048) (k0_off27 v249) S1x1536x2048.size hinb).WholeWords (EltTy.packing .i8)) ∧
  (∀ a, (k0_off30 v249) a + S1x8x3072.size a ≤ S8x8x3072.size a) ∧
  (∀ (hinb : ∀ a, (k0_off30 v249) a + S1x8x3072.size a ≤ S8x8x3072.size a), (Rect.unit (s := S8x8x3072) (k0_off30 v249) S1x8x3072.size hinb).WholeWords (EltTy.packing .bf16)) ∧
  (∀ a, (k0_off33 v249) a + S1x512x3072.size a ≤ S8x512x3072.size a) ∧
  (∀ (hinb : ∀ a, (k0_off33 v249) a + S1x512x3072.size a ≤ S8x512x3072.size a), (Rect.unit (s := S8x512x3072) (k0_off33 v249) S1x512x3072.size hinb).WholeWords (EltTy.packing .i8))
theorem k0_off24_inb : ∀ (v249 : BitVec 32) (k0_hw3 : k0_chk3 v249), ∀ a, (k0_off24 v249) a + S1x24x2048.size a ≤ S8x24x2048.size a := fun v249 k0_hw3 => k0_hw3.1
theorem k0_off24_wordsbf16 : ∀ (v249 : BitVec 32) (k0_hw3 : k0_chk3 v249), (Rect.unit (s := S8x24x2048) (k0_off24 v249) S1x24x2048.size (k0_off24_inb v249 k0_hw3)).WholeWords (EltTy.packing .bf16) := fun v249 k0_hw3 => k0_hw3.2.1 (k0_off24_inb v249 k0_hw3)
theorem k0_off27_inb : ∀ (v249 : BitVec 32) (k0_hw3 : k0_chk3 v249), ∀ a, (k0_off27 v249) a + S1x1536x2048.size a ≤ S8x1536x2048.size a := fun v249 k0_hw3 => k0_hw3.2.2.1
theorem k0_off27_wordsi8 : ∀ (v249 : BitVec 32) (k0_hw3 : k0_chk3 v249), (Rect.unit (s := S8x1536x2048) (k0_off27 v249) S1x1536x2048.size (k0_off27_inb v249 k0_hw3)).WholeWords (EltTy.packing .i8) := fun v249 k0_hw3 => k0_hw3.2.2.2.1 (k0_off27_inb v249 k0_hw3)
theorem k0_off30_inb : ∀ (v249 : BitVec 32) (k0_hw3 : k0_chk3 v249), ∀ a, (k0_off30 v249) a + S1x8x3072.size a ≤ S8x8x3072.size a := fun v249 k0_hw3 => k0_hw3.2.2.2.2.1
theorem k0_off30_wordsbf16 : ∀ (v249 : BitVec 32) (k0_hw3 : k0_chk3 v249), (Rect.unit (s := S8x8x3072) (k0_off30 v249) S1x8x3072.size (k0_off30_inb v249 k0_hw3)).WholeWords (EltTy.packing .bf16) := fun v249 k0_hw3 => k0_hw3.2.2.2.2.2.1 (k0_off30_inb v249 k0_hw3)
theorem k0_off33_inb : ∀ (v249 : BitVec 32) (k0_hw3 : k0_chk3 v249), ∀ a, (k0_off33 v249) a + S1x512x3072.size a ≤ S8x512x3072.size a := fun v249 k0_hw3 => k0_hw3.2.2.2.2.2.2.1
theorem k0_off33_wordsi8 : ∀ (v249 : BitVec 32) (k0_hw3 : k0_chk3 v249), (Rect.unit (s := S8x512x3072) (k0_off33 v249) S1x512x3072.size (k0_off33_inb v249 k0_hw3)).WholeWords (EltTy.packing .i8) := fun v249 k0_hw3 => k0_hw3.2.2.2.2.2.2.2 (k0_off33_inb v249 k0_hw3)

@[reducible] def k0_t3_loop (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Scf.Loop 32 :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let c1_i32_93 : BitVec 32 := 1#32
  ⟨c0_i32_91, v244, c1_i32_93⟩
def k0_off34 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 1 → Nat :=
  let c0_i32_91 : BitVec 32 := 0#32
  let c1_i32_93 : BitVec 32 := 1#32
  let arg16 : BitVec 32 := Scf.iv c0_i32_91 c1_i32_93 k0_t3
  let v248 : Index := Scalar.indexCast arg16
  ![v248.toNat]
def k0_off35 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_91 : BitVec 32 := 0#32
  let c1_i32_93 : BitVec 32 := 1#32
  let arg16 : BitVec 32 := Scf.iv c0_i32_91 c1_i32_93 k0_t3
  let c0_i32_99 : BitVec 32 := 0#32
  ![arg16.toNat, 0]
def k0_off36 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_91 : BitVec 32 := 0#32
  let c1_i32_93 : BitVec 32 := 1#32
  let arg16 : BitVec 32 := Scf.iv c0_i32_91 c1_i32_93 k0_t3
  let c0_i32_100 : BitVec 32 := 0#32
  let c0_i32_101 : BitVec 32 := 0#32
  ![arg16.toNat, 0, 0]
def k0_off37 (v249 : BitVec 32) : Fin 3 → Nat :=
  let c0_i32_102 : BitVec 32 := 0#32
  let c0_i32_103 : BitVec 32 := 0#32
  ![v249.toNat, 0, 0]

def k0_off38 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_91 : BitVec 32 := 0#32
  let c1_i32_93 : BitVec 32 := 1#32
  let arg16 : BitVec 32 := Scf.iv c0_i32_91 c1_i32_93 k0_t3
  let c1_i32_104 : BitVec 32 := 1#32
  ![arg16.toNat, 1]
def k0_off39 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_91 : BitVec 32 := 0#32
  let c1_i32_93 : BitVec 32 := 1#32
  let arg16 : BitVec 32 := Scf.iv c0_i32_91 c1_i32_93 k0_t3
  let c0_i32_105 : BitVec 32 := 0#32
  let c0_i32_106 : BitVec 32 := 0#32
  ![arg16.toNat, 0, 0]
def k0_off40 (v249 : BitVec 32) : Fin 3 → Nat :=
  let c0_i32_107 : BitVec 32 := 0#32
  let c0_i32_108 : BitVec 32 := 0#32
  ![v249.toNat, 0, 0]
def k0_off41 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_91 : BitVec 32 := 0#32
  let c1_i32_93 : BitVec 32 := 1#32
  let arg16 : BitVec 32 := Scf.iv c0_i32_91 c1_i32_93 k0_t3
  let c2_i32_109 : BitVec 32 := 2#32
  ![arg16.toNat, 2]
def k0_off42 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_91 : BitVec 32 := 0#32
  let c1_i32_93 : BitVec 32 := 1#32
  let arg16 : BitVec 32 := Scf.iv c0_i32_91 c1_i32_93 k0_t3
  let c0_i32_110 : BitVec 32 := 0#32
  let c0_i32_111 : BitVec 32 := 0#32
  ![arg16.toNat, 0, 0]
def k0_off43 (v249 : BitVec 32) : Fin 3 → Nat :=
  let c0_i32_112 : BitVec 32 := 0#32
  let c0_i32_113 : BitVec 32 := 0#32
  ![v249.toNat, 0, 0]
def k0_off44 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_91 : BitVec 32 := 0#32
  let c1_i32_93 : BitVec 32 := 1#32
  let arg16 : BitVec 32 := Scf.iv c0_i32_91 c1_i32_93 k0_t3
  let c3_i32_114 : BitVec 32 := 3#32
  ![arg16.toNat, 3]
def k0_off45 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_91 : BitVec 32 := 0#32
  let c1_i32_93 : BitVec 32 := 1#32
  let arg16 : BitVec 32 := Scf.iv c0_i32_91 c1_i32_93 k0_t3
  let c0_i32_115 : BitVec 32 := 0#32
  let c0_i32_116 : BitVec 32 := 0#32
  ![arg16.toNat, 0, 0]
def k0_off46 (v249 : BitVec 32) : Fin 3 → Nat :=
  let c0_i32_117 : BitVec 32 := 0#32
  let c0_i32_118 : BitVec 32 := 0#32
  ![v249.toNat, 0, 0]

def k0_chk4 (v249 : BitVec 32) : Prop :=
  (∀ a, (k0_off37 v249) a + S1x24x2048.size a ≤ S8x24x2048.size a) ∧
  (∀ (hinb : ∀ a, (k0_off37 v249) a + S1x24x2048.size a ≤ S8x24x2048.size a), (Rect.unit (s := S8x24x2048) (k0_off37 v249) S1x24x2048.size hinb).WholeWords (EltTy.packing .bf16)) ∧
  (∀ a, (k0_off40 v249) a + S1x1536x2048.size a ≤ S8x1536x2048.size a) ∧
  (∀ (hinb : ∀ a, (k0_off40 v249) a + S1x1536x2048.size a ≤ S8x1536x2048.size a), (Rect.unit (s := S8x1536x2048) (k0_off40 v249) S1x1536x2048.size hinb).WholeWords (EltTy.packing .i8)) ∧
  (∀ a, (k0_off43 v249) a + S1x8x3072.size a ≤ S8x8x3072.size a) ∧
  (∀ (hinb : ∀ a, (k0_off43 v249) a + S1x8x3072.size a ≤ S8x8x3072.size a), (Rect.unit (s := S8x8x3072) (k0_off43 v249) S1x8x3072.size hinb).WholeWords (EltTy.packing .bf16)) ∧
  (∀ a, (k0_off46 v249) a + S1x512x3072.size a ≤ S8x512x3072.size a) ∧
  (∀ (hinb : ∀ a, (k0_off46 v249) a + S1x512x3072.size a ≤ S8x512x3072.size a), (Rect.unit (s := S8x512x3072) (k0_off46 v249) S1x512x3072.size hinb).WholeWords (EltTy.packing .i8))
theorem k0_off37_inb : ∀ (v249 : BitVec 32) (k0_hw4 : k0_chk4 v249), ∀ a, (k0_off37 v249) a + S1x24x2048.size a ≤ S8x24x2048.size a := fun v249 k0_hw4 => k0_hw4.1
theorem k0_off37_wordsbf16 : ∀ (v249 : BitVec 32) (k0_hw4 : k0_chk4 v249), (Rect.unit (s := S8x24x2048) (k0_off37 v249) S1x24x2048.size (k0_off37_inb v249 k0_hw4)).WholeWords (EltTy.packing .bf16) := fun v249 k0_hw4 => k0_hw4.2.1 (k0_off37_inb v249 k0_hw4)
theorem k0_off40_inb : ∀ (v249 : BitVec 32) (k0_hw4 : k0_chk4 v249), ∀ a, (k0_off40 v249) a + S1x1536x2048.size a ≤ S8x1536x2048.size a := fun v249 k0_hw4 => k0_hw4.2.2.1
theorem k0_off40_wordsi8 : ∀ (v249 : BitVec 32) (k0_hw4 : k0_chk4 v249), (Rect.unit (s := S8x1536x2048) (k0_off40 v249) S1x1536x2048.size (k0_off40_inb v249 k0_hw4)).WholeWords (EltTy.packing .i8) := fun v249 k0_hw4 => k0_hw4.2.2.2.1 (k0_off40_inb v249 k0_hw4)
theorem k0_off43_inb : ∀ (v249 : BitVec 32) (k0_hw4 : k0_chk4 v249), ∀ a, (k0_off43 v249) a + S1x8x3072.size a ≤ S8x8x3072.size a := fun v249 k0_hw4 => k0_hw4.2.2.2.2.1
theorem k0_off43_wordsbf16 : ∀ (v249 : BitVec 32) (k0_hw4 : k0_chk4 v249), (Rect.unit (s := S8x8x3072) (k0_off43 v249) S1x8x3072.size (k0_off43_inb v249 k0_hw4)).WholeWords (EltTy.packing .bf16) := fun v249 k0_hw4 => k0_hw4.2.2.2.2.2.1 (k0_off43_inb v249 k0_hw4)
theorem k0_off46_inb : ∀ (v249 : BitVec 32) (k0_hw4 : k0_chk4 v249), ∀ a, (k0_off46 v249) a + S1x512x3072.size a ≤ S8x512x3072.size a := fun v249 k0_hw4 => k0_hw4.2.2.2.2.2.2.1
theorem k0_off46_wordsi8 : ∀ (v249 : BitVec 32) (k0_hw4 : k0_chk4 v249), (Rect.unit (s := S8x512x3072) (k0_off46 v249) S1x512x3072.size (k0_off46_inb v249 k0_hw4)).WholeWords (EltTy.packing .i8) := fun v249 k0_hw4 => k0_hw4.2.2.2.2.2.2.2 (k0_off46_inb v249 k0_hw4)

def k0_off47 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 1 → Nat :=
  let c0_i32_91 : BitVec 32 := 0#32
  let c1_i32_93 : BitVec 32 := 1#32
  let arg16 : BitVec 32 := Scf.iv c0_i32_91 c1_i32_93 k0_t3
  let v274 : Index := Scalar.indexCast arg16
  ![v274.toNat]
def k0_off48 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_91 : BitVec 32 := 0#32
  let c1_i32_93 : BitVec 32 := 1#32
  let arg16 : BitVec 32 := Scf.iv c0_i32_91 c1_i32_93 k0_t3
  let c0_i32_127 : BitVec 32 := 0#32
  let c0_i32_128 : BitVec 32 := 0#32
  ![arg16.toNat, 0, 0]
@[reducible] def k0_t4_loop (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Scf.Loop 32 :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let v241 : BitVec 32 := Scalar.addi c0_i32_91 v240
  let c1_i32_94 : BitVec 32 := 1#32
  ⟨v244, v241, c1_i32_94⟩
def k0_off49 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 1 → Nat :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let c1_i32_94 : BitVec 32 := 1#32
  let arg16 : BitVec 32 := Scf.iv v244 c1_i32_94 k0_t4
  let v248 : Index := Scalar.indexCast arg16
  ![v248.toNat]
def k0_off50 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let c1_i32_94 : BitVec 32 := 1#32
  let arg16 : BitVec 32 := Scf.iv v244 c1_i32_94 k0_t4
  let c0_i32_99 : BitVec 32 := 0#32
  ![arg16.toNat, 0]
def k0_off51 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let c1_i32_94 : BitVec 32 := 1#32
  let arg16 : BitVec 32 := Scf.iv v244 c1_i32_94 k0_t4
  let c0_i32_100 : BitVec 32 := 0#32
  let c0_i32_101 : BitVec 32 := 0#32
  ![arg16.toNat, 0, 0]
def k0_off52 (v249 : BitVec 32) : Fin 3 → Nat :=
  let c0_i32_102 : BitVec 32 := 0#32
  let c0_i32_103 : BitVec 32 := 0#32
  ![v249.toNat, 0, 0]

def k0_off53 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let c1_i32_94 : BitVec 32 := 1#32
  let arg16 : BitVec 32 := Scf.iv v244 c1_i32_94 k0_t4
  let c1_i32_104 : BitVec 32 := 1#32
  ![arg16.toNat, 1]
def k0_off54 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let c1_i32_94 : BitVec 32 := 1#32
  let arg16 : BitVec 32 := Scf.iv v244 c1_i32_94 k0_t4
  let c0_i32_105 : BitVec 32 := 0#32
  let c0_i32_106 : BitVec 32 := 0#32
  ![arg16.toNat, 0, 0]
def k0_off55 (v249 : BitVec 32) : Fin 3 → Nat :=
  let c0_i32_107 : BitVec 32 := 0#32
  let c0_i32_108 : BitVec 32 := 0#32
  ![v249.toNat, 0, 0]
def k0_off56 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let c1_i32_94 : BitVec 32 := 1#32
  let arg16 : BitVec 32 := Scf.iv v244 c1_i32_94 k0_t4
  let c2_i32_109 : BitVec 32 := 2#32
  ![arg16.toNat, 2]
def k0_off57 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let c1_i32_94 : BitVec 32 := 1#32
  let arg16 : BitVec 32 := Scf.iv v244 c1_i32_94 k0_t4
  let c0_i32_110 : BitVec 32 := 0#32
  let c0_i32_111 : BitVec 32 := 0#32
  ![arg16.toNat, 0, 0]
def k0_off58 (v249 : BitVec 32) : Fin 3 → Nat :=
  let c0_i32_112 : BitVec 32 := 0#32
  let c0_i32_113 : BitVec 32 := 0#32
  ![v249.toNat, 0, 0]
def k0_off59 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 2 → Nat :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let c1_i32_94 : BitVec 32 := 1#32
  let arg16 : BitVec 32 := Scf.iv v244 c1_i32_94 k0_t4
  let c3_i32_114 : BitVec 32 := 3#32
  ![arg16.toNat, 3]
def k0_off60 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let c1_i32_94 : BitVec 32 := 1#32
  let arg16 : BitVec 32 := Scf.iv v244 c1_i32_94 k0_t4
  let c0_i32_115 : BitVec 32 := 0#32
  let c0_i32_116 : BitVec 32 := 0#32
  ![arg16.toNat, 0, 0]
def k0_off61 (v249 : BitVec 32) : Fin 3 → Nat :=
  let c0_i32_117 : BitVec 32 := 0#32
  let c0_i32_118 : BitVec 32 := 0#32
  ![v249.toNat, 0, 0]

def k0_chk5 (v249 : BitVec 32) : Prop :=
  (∀ a, (k0_off52 v249) a + S1x24x2048.size a ≤ S8x24x2048.size a) ∧
  (∀ (hinb : ∀ a, (k0_off52 v249) a + S1x24x2048.size a ≤ S8x24x2048.size a), (Rect.unit (s := S8x24x2048) (k0_off52 v249) S1x24x2048.size hinb).WholeWords (EltTy.packing .bf16)) ∧
  (∀ a, (k0_off55 v249) a + S1x1536x2048.size a ≤ S8x1536x2048.size a) ∧
  (∀ (hinb : ∀ a, (k0_off55 v249) a + S1x1536x2048.size a ≤ S8x1536x2048.size a), (Rect.unit (s := S8x1536x2048) (k0_off55 v249) S1x1536x2048.size hinb).WholeWords (EltTy.packing .i8)) ∧
  (∀ a, (k0_off58 v249) a + S1x8x3072.size a ≤ S8x8x3072.size a) ∧
  (∀ (hinb : ∀ a, (k0_off58 v249) a + S1x8x3072.size a ≤ S8x8x3072.size a), (Rect.unit (s := S8x8x3072) (k0_off58 v249) S1x8x3072.size hinb).WholeWords (EltTy.packing .bf16)) ∧
  (∀ a, (k0_off61 v249) a + S1x512x3072.size a ≤ S8x512x3072.size a) ∧
  (∀ (hinb : ∀ a, (k0_off61 v249) a + S1x512x3072.size a ≤ S8x512x3072.size a), (Rect.unit (s := S8x512x3072) (k0_off61 v249) S1x512x3072.size hinb).WholeWords (EltTy.packing .i8))
theorem k0_off52_inb : ∀ (v249 : BitVec 32) (k0_hw5 : k0_chk5 v249), ∀ a, (k0_off52 v249) a + S1x24x2048.size a ≤ S8x24x2048.size a := fun v249 k0_hw5 => k0_hw5.1
theorem k0_off52_wordsbf16 : ∀ (v249 : BitVec 32) (k0_hw5 : k0_chk5 v249), (Rect.unit (s := S8x24x2048) (k0_off52 v249) S1x24x2048.size (k0_off52_inb v249 k0_hw5)).WholeWords (EltTy.packing .bf16) := fun v249 k0_hw5 => k0_hw5.2.1 (k0_off52_inb v249 k0_hw5)
theorem k0_off55_inb : ∀ (v249 : BitVec 32) (k0_hw5 : k0_chk5 v249), ∀ a, (k0_off55 v249) a + S1x1536x2048.size a ≤ S8x1536x2048.size a := fun v249 k0_hw5 => k0_hw5.2.2.1
theorem k0_off55_wordsi8 : ∀ (v249 : BitVec 32) (k0_hw5 : k0_chk5 v249), (Rect.unit (s := S8x1536x2048) (k0_off55 v249) S1x1536x2048.size (k0_off55_inb v249 k0_hw5)).WholeWords (EltTy.packing .i8) := fun v249 k0_hw5 => k0_hw5.2.2.2.1 (k0_off55_inb v249 k0_hw5)
theorem k0_off58_inb : ∀ (v249 : BitVec 32) (k0_hw5 : k0_chk5 v249), ∀ a, (k0_off58 v249) a + S1x8x3072.size a ≤ S8x8x3072.size a := fun v249 k0_hw5 => k0_hw5.2.2.2.2.1
theorem k0_off58_wordsbf16 : ∀ (v249 : BitVec 32) (k0_hw5 : k0_chk5 v249), (Rect.unit (s := S8x8x3072) (k0_off58 v249) S1x8x3072.size (k0_off58_inb v249 k0_hw5)).WholeWords (EltTy.packing .bf16) := fun v249 k0_hw5 => k0_hw5.2.2.2.2.2.1 (k0_off58_inb v249 k0_hw5)
theorem k0_off61_inb : ∀ (v249 : BitVec 32) (k0_hw5 : k0_chk5 v249), ∀ a, (k0_off61 v249) a + S1x512x3072.size a ≤ S8x512x3072.size a := fun v249 k0_hw5 => k0_hw5.2.2.2.2.2.2.1
theorem k0_off61_wordsi8 : ∀ (v249 : BitVec 32) (k0_hw5 : k0_chk5 v249), (Rect.unit (s := S8x512x3072) (k0_off61 v249) S1x512x3072.size (k0_off61_inb v249 k0_hw5)).WholeWords (EltTy.packing .i8) := fun v249 k0_hw5 => k0_hw5.2.2.2.2.2.2.2 (k0_off61_inb v249 k0_hw5)

def k0_off62 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 1 → Nat :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let c1_i32_94 : BitVec 32 := 1#32
  let arg16 : BitVec 32 := Scf.iv v244 c1_i32_94 k0_t4
  let v274 : Index := Scalar.indexCast arg16
  ![v274.toNat]
def k0_off63 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 3 → Nat :=
  let c0_i32_91 : BitVec 32 := 0#32
  let c0_i32_67 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_0 : BitVec 32 := 1#32
  let v4 : BitVec 32 := Scalar.shli c1_i32_0 v3
  let v5 : BitVec 32 := Scalar.ori v2 v4
  let c1_i32_1 : BitVec 32 := 1#32
  let v7 : BitVec 32 := Scalar.shli c1_i32_1 v6
  let v8 : BitVec 32 := Scalar.ori v5 v7
  let c1_i32_2 : BitVec 32 := 1#32
  let v10 : BitVec 32 := Scalar.shli c1_i32_2 v9
  let v11 : BitVec 32 := Scalar.ori v8 v10
  let c1_i32_3 : BitVec 32 := 1#32
  let v13 : BitVec 32 := Scalar.shli c1_i32_3 v12
  let v14 : BitVec 32 := Scalar.ori v11 v13
  let c1_i32_4 : BitVec 32 := 1#32
  let v16 : BitVec 32 := Scalar.shli c1_i32_4 v15
  let v17 : BitVec 32 := Scalar.ori v14 v16
  let c1_i32_5 : BitVec 32 := 1#32
  let v19 : BitVec 32 := Scalar.shli c1_i32_5 v18
  let v20 : BitVec 32 := Scalar.ori v17 v19
  let c1_i32_6 : BitVec 32 := 1#32
  let v22 : BitVec 32 := Scalar.shli c1_i32_6 v21
  let v23 : BitVec 32 := Scalar.ori v20 v22
  let c1_i32_7 : BitVec 32 := 1#32
  let v25 : BitVec 32 := Scalar.shli c1_i32_7 v24
  let v26 : BitVec 32 := Scalar.ori v23 v25
  let c1_i32_8 : BitVec 32 := 1#32
  let v28 : BitVec 32 := Scalar.shli c1_i32_8 v27
  let v29 : BitVec 32 := Scalar.ori v26 v28
  let c1_i32_9 : BitVec 32 := 1#32
  let v31 : BitVec 32 := Scalar.shli c1_i32_9 v30
  let v32 : BitVec 32 := Scalar.ori v29 v31
  let c1_i32_10 : BitVec 32 := 1#32
  let v34 : BitVec 32 := Scalar.shli c1_i32_10 v33
  let v35 : BitVec 32 := Scalar.ori v32 v34
  let c1_i32_11 : BitVec 32 := 1#32
  let v37 : BitVec 32 := Scalar.shli c1_i32_11 v36
  let v38 : BitVec 32 := Scalar.ori v35 v37
  let c1_i32_12 : BitVec 32 := 1#32
  let v40 : BitVec 32 := Scalar.shli c1_i32_12 v39
  let v41 : BitVec 32 := Scalar.ori v38 v40
  let c1_i32_13 : BitVec 32 := 1#32
  let v43 : BitVec 32 := Scalar.shli c1_i32_13 v42
  let v44 : BitVec 32 := Scalar.ori v41 v43
  let c1_i32_14 : BitVec 32 := 1#32
  let v46 : BitVec 32 := Scalar.shli c1_i32_14 v45
  let v47 : BitVec 32 := Scalar.ori v44 v46
  let c1_i32_15 : BitVec 32 := 1#32
  let v49 : BitVec 32 := Scalar.shli c1_i32_15 v48
  let v50 : BitVec 32 := Scalar.ori v47 v49
  let c1_i32_16 : BitVec 32 := 1#32
  let v52 : BitVec 32 := Scalar.shli c1_i32_16 v51
  let v53 : BitVec 32 := Scalar.ori v50 v52
  let c1_i32_17 : BitVec 32 := 1#32
  let v55 : BitVec 32 := Scalar.shli c1_i32_17 v54
  let v56 : BitVec 32 := Scalar.ori v53 v55
  let c1_i32_18 : BitVec 32 := 1#32
  let v58 : BitVec 32 := Scalar.shli c1_i32_18 v57
  let v59 : BitVec 32 := Scalar.ori v56 v58
  let c1_i32_19 : BitVec 32 := 1#32
  let v61 : BitVec 32 := Scalar.shli c1_i32_19 v60
  let v62 : BitVec 32 := Scalar.ori v59 v61
  let c1_i32_20 : BitVec 32 := 1#32
  let v64 : BitVec 32 := Scalar.shli c1_i32_20 v63
  let v65 : BitVec 32 := Scalar.ori v62 v64
  let c1_i32_21 : BitVec 32 := 1#32
  let v67 : BitVec 32 := Scalar.shli c1_i32_21 v66
  let v68 : BitVec 32 := Scalar.ori v65 v67
  let c1_i32_22 : BitVec 32 := 1#32
  let v70 : BitVec 32 := Scalar.shli c1_i32_22 v69
  let v71 : BitVec 32 := Scalar.ori v68 v70
  let c1_i32_23 : BitVec 32 := 1#32
  let v73 : BitVec 32 := Scalar.shli c1_i32_23 v72
  let v74 : BitVec 32 := Scalar.ori v71 v73
  let c1_i32_24 : BitVec 32 := 1#32
  let v76 : BitVec 32 := Scalar.shli c1_i32_24 v75
  let v77 : BitVec 32 := Scalar.ori v74 v76
  let c1_i32_25 : BitVec 32 := 1#32
  let v79 : BitVec 32 := Scalar.shli c1_i32_25 v78
  let v80 : BitVec 32 := Scalar.ori v77 v79
  let c1_i32_26 : BitVec 32 := 1#32
  let v82 : BitVec 32 := Scalar.shli c1_i32_26 v81
  let v83 : BitVec 32 := Scalar.ori v80 v82
  let c1_i32_27 : BitVec 32 := 1#32
  let v85 : BitVec 32 := Scalar.shli c1_i32_27 v84
  let v86 : BitVec 32 := Scalar.ori v83 v85
  let c1_i32_28 : BitVec 32 := 1#32
  let v88 : BitVec 32 := Scalar.shli c1_i32_28 v87
  let v89 : BitVec 32 := Scalar.ori v86 v88
  let c1_i32_29 : BitVec 32 := 1#32
  let v91 : BitVec 32 := Scalar.shli c1_i32_29 v90
  let v92 : BitVec 32 := Scalar.ori v89 v91
  let c1_i32_30 : BitVec 32 := 1#32
  let v94 : BitVec 32 := Scalar.shli c1_i32_30 v93
  let v95 : BitVec 32 := Scalar.ori v92 v94
  let c1_i32_31 : BitVec 32 := 1#32
  let v97 : BitVec 32 := Scalar.shli c1_i32_31 v96
  let v98 : BitVec 32 := Scalar.ori v95 v97
  let c1_i32_32 : BitVec 32 := 1#32
  let v100 : BitVec 32 := Scalar.shli c1_i32_32 v99
  let v101 : BitVec 32 := Scalar.ori v98 v100
  let c1_i32_33 : BitVec 32 := 1#32
  let v103 : BitVec 32 := Scalar.shli c1_i32_33 v102
  let v104 : BitVec 32 := Scalar.ori v101 v103
  let c1_i32_34 : BitVec 32 := 1#32
  let v106 : BitVec 32 := Scalar.shli c1_i32_34 v105
  let v107 : BitVec 32 := Scalar.ori v104 v106
  let c1_i32_35 : BitVec 32 := 1#32
  let v109 : BitVec 32 := Scalar.shli c1_i32_35 v108
  let v110 : BitVec 32 := Scalar.ori v107 v109
  let c1_i32_36 : BitVec 32 := 1#32
  let v112 : BitVec 32 := Scalar.shli c1_i32_36 v111
  let v113 : BitVec 32 := Scalar.ori v110 v112
  let c1_i32_37 : BitVec 32 := 1#32
  let v115 : BitVec 32 := Scalar.shli c1_i32_37 v114
  let v116 : BitVec 32 := Scalar.ori v113 v115
  let c1_i32_38 : BitVec 32 := 1#32
  let v118 : BitVec 32 := Scalar.shli c1_i32_38 v117
  let v119 : BitVec 32 := Scalar.ori v116 v118
  let c1_i32_39 : BitVec 32 := 1#32
  let v121 : BitVec 32 := Scalar.shli c1_i32_39 v120
  let v122 : BitVec 32 := Scalar.ori v119 v121
  let c1_i32_40 : BitVec 32 := 1#32
  let v124 : BitVec 32 := Scalar.shli c1_i32_40 v123
  let v125 : BitVec 32 := Scalar.ori v122 v124
  let c1_i32_41 : BitVec 32 := 1#32
  let v127 : BitVec 32 := Scalar.shli c1_i32_41 v126
  let v128 : BitVec 32 := Scalar.ori v125 v127
  let c1_i32_42 : BitVec 32 := 1#32
  let v130 : BitVec 32 := Scalar.shli c1_i32_42 v129
  let v131 : BitVec 32 := Scalar.ori v128 v130
  let c1_i32_43 : BitVec 32 := 1#32
  let v133 : BitVec 32 := Scalar.shli c1_i32_43 v132
  let v134 : BitVec 32 := Scalar.ori v131 v133
  let c1_i32_44 : BitVec 32 := 1#32
  let v136 : BitVec 32 := Scalar.shli c1_i32_44 v135
  let v137 : BitVec 32 := Scalar.ori v134 v136
  let c1_i32_45 : BitVec 32 := 1#32
  let v139 : BitVec 32 := Scalar.shli c1_i32_45 v138
  let v140 : BitVec 32 := Scalar.ori v137 v139
  let c1_i32_46 : BitVec 32 := 1#32
  let v142 : BitVec 32 := Scalar.shli c1_i32_46 v141
  let v143 : BitVec 32 := Scalar.ori v140 v142
  let c1_i32_47 : BitVec 32 := 1#32
  let v145 : BitVec 32 := Scalar.shli c1_i32_47 v144
  let v146 : BitVec 32 := Scalar.ori v143 v145
  let c1_i32_48 : BitVec 32 := 1#32
  let v148 : BitVec 32 := Scalar.shli c1_i32_48 v147
  let v149 : BitVec 32 := Scalar.ori v146 v148
  let c1_i32_49 : BitVec 32 := 1#32
  let v151 : BitVec 32 := Scalar.shli c1_i32_49 v150
  let v152 : BitVec 32 := Scalar.ori v149 v151
  let c1_i32_50 : BitVec 32 := 1#32
  let v154 : BitVec 32 := Scalar.shli c1_i32_50 v153
  let v155 : BitVec 32 := Scalar.ori v152 v154
  let c1_i32_51 : BitVec 32 := 1#32
  let v157 : BitVec 32 := Scalar.shli c1_i32_51 v156
  let v158 : BitVec 32 := Scalar.ori v155 v157
  let c1_i32_52 : BitVec 32 := 1#32
  let v160 : BitVec 32 := Scalar.shli c1_i32_52 v159
  let v161 : BitVec 32 := Scalar.ori v158 v160
  let c1_i32_53 : BitVec 32 := 1#32
  let v163 : BitVec 32 := Scalar.shli c1_i32_53 v162
  let v164 : BitVec 32 := Scalar.ori v161 v163
  let c1_i32_54 : BitVec 32 := 1#32
  let v166 : BitVec 32 := Scalar.shli c1_i32_54 v165
  let v167 : BitVec 32 := Scalar.ori v164 v166
  let c1_i32_55 : BitVec 32 := 1#32
  let v169 : BitVec 32 := Scalar.shli c1_i32_55 v168
  let v170 : BitVec 32 := Scalar.ori v167 v169
  let c1_i32_56 : BitVec 32 := 1#32
  let v172 : BitVec 32 := Scalar.shli c1_i32_56 v171
  let v173 : BitVec 32 := Scalar.ori v170 v172
  let c1_i32_57 : BitVec 32 := 1#32
  let v175 : BitVec 32 := Scalar.shli c1_i32_57 v174
  let v176 : BitVec 32 := Scalar.ori v173 v175
  let c1_i32_58 : BitVec 32 := 1#32
  let v178 : BitVec 32 := Scalar.shli c1_i32_58 v177
  let v179 : BitVec 32 := Scalar.ori v176 v178
  let c1_i32_59 : BitVec 32 := 1#32
  let v181 : BitVec 32 := Scalar.shli c1_i32_59 v180
  let v182 : BitVec 32 := Scalar.ori v179 v181
  let c1_i32_60 : BitVec 32 := 1#32
  let v184 : BitVec 32 := Scalar.shli c1_i32_60 v183
  let v185 : BitVec 32 := Scalar.ori v182 v184
  let c1_i32_61 : BitVec 32 := 1#32
  let v187 : BitVec 32 := Scalar.shli c1_i32_61 v186
  let v188 : BitVec 32 := Scalar.ori v185 v187
  let c1_i32_62 : BitVec 32 := 1#32
  let v190 : BitVec 32 := Scalar.shli c1_i32_62 v189
  let v191 : BitVec 32 := Scalar.ori v188 v190
  let c0_i32_65 : BitVec 32 := 0#32
  let v193 : BitVec 32 := Scalar.shrsi v191 c0_i32_65
  let c1_i32_66 : BitVec 32 := 1#32
  let v194 : BitVec 32 := Scalar.andi v193 c1_i32_66
  let v195 : BitVec 32 := Scalar.addi c0_i32_67 v194
  let c1_i32_69 : BitVec 32 := 1#32
  let v198 : BitVec 32 := Scalar.shrsi v191 c1_i32_69
  let c1_i32_70 : BitVec 32 := 1#32
  let v199 : BitVec 32 := Scalar.andi v198 c1_i32_70
  let v200 : BitVec 32 := Scalar.addi v195 v199
  let c2_i32_71 : BitVec 32 := 2#32
  let v203 : BitVec 32 := Scalar.shrsi v191 c2_i32_71
  let c1_i32_72 : BitVec 32 := 1#32
  let v204 : BitVec 32 := Scalar.andi v203 c1_i32_72
  let v205 : BitVec 32 := Scalar.addi v200 v204
  let c3_i32_73 : BitVec 32 := 3#32
  let v208 : BitVec 32 := Scalar.shrsi v191 c3_i32_73
  let c1_i32_74 : BitVec 32 := 1#32
  let v209 : BitVec 32 := Scalar.andi v208 c1_i32_74
  let v210 : BitVec 32 := Scalar.addi v205 v209
  let c4_i32_75 : BitVec 32 := 4#32
  let v213 : BitVec 32 := Scalar.shrsi v191 c4_i32_75
  let c1_i32_76 : BitVec 32 := 1#32
  let v214 : BitVec 32 := Scalar.andi v213 c1_i32_76
  let v215 : BitVec 32 := Scalar.addi v210 v214
  let c5_i32_77 : BitVec 32 := 5#32
  let v218 : BitVec 32 := Scalar.shrsi v191 c5_i32_77
  let c1_i32_78 : BitVec 32 := 1#32
  let v219 : BitVec 32 := Scalar.andi v218 c1_i32_78
  let v220 : BitVec 32 := Scalar.addi v215 v219
  let c6_i32_79 : BitVec 32 := 6#32
  let v223 : BitVec 32 := Scalar.shrsi v191 c6_i32_79
  let c1_i32_80 : BitVec 32 := 1#32
  let v224 : BitVec 32 := Scalar.andi v223 c1_i32_80
  let v225 : BitVec 32 := Scalar.addi v220 v224
  let c7_i32_81 : BitVec 32 := 7#32
  let v228 : BitVec 32 := Scalar.shrsi v191 c7_i32_81
  let c1_i32_82 : BitVec 32 := 1#32
  let v229 : BitVec 32 := Scalar.andi v228 c1_i32_82
  let v230 : BitVec 32 := Scalar.addi v225 v229
  let v240 : BitVec 32 := Scalar.subi v230 c0_i32_91
  let c1_i32_92 : BitVec 32 := 1#32
  let v242 : BitVec 32 := Scalar.divsi v240 c1_i32_92
  let v243 : BitVec 32 := Scalar.muli v242 c1_i32_92
  let v244 : BitVec 32 := Scalar.addi c0_i32_91 v243
  let c1_i32_94 : BitVec 32 := 1#32
  let arg16 : BitVec 32 := Scf.iv v244 c1_i32_94 k0_t4
  let c0_i32_127 : BitVec 32 := 0#32
  let c0_i32_128 : BitVec 32 := 0#32
  ![arg16.toNat, 0, 0]

def k0_chk1_0 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Prop :=
  (∀ a, (k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a) ∧
  (∀ a, (k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a) ∧
  (∀ a, (k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a) ∧
  (∀ a, (k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a) ∧
  (∀ a, (k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a) ∧
  (∀ a, (k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a) ∧
  (∀ a, (k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a) ∧
  ((k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).OK) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1.size a ≤ S8.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x1.size a ≤ S8x4.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x24x2048.size a ≤ S8x24x2048.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x24x2048.size a ≤ S8x24x2048.size a), (Rect.unit (s := S8x24x2048) (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) S1x24x2048.size hinb).WholeWords (EltTy.packing .bf16)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x1.size a ≤ S8x4.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x1536x2048.size a ≤ S8x1536x2048.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x1536x2048.size a ≤ S8x1536x2048.size a), (Rect.unit (s := S8x1536x2048) (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) S1x1536x2048.size hinb).WholeWords (EltTy.packing .i8)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x1.size a ≤ S8x4.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x8x3072.size a ≤ S8x8x3072.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x8x3072.size a ≤ S8x8x3072.size a), (Rect.unit (s := S8x8x3072) (k0_off16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) S1x8x3072.size hinb).WholeWords (EltTy.packing .bf16)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off18 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x1.size a ≤ S8x4.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off19 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x512x3072.size a ≤ S8x512x3072.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off19 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x512x3072.size a ≤ S8x512x3072.size a), (Rect.unit (s := S8x512x3072) (k0_off19 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) S1x512x3072.size hinb).WholeWords (EltTy.packing .i8)) ∧
  ((k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).OK) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off21 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1.size a ≤ S8.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off22 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x1.size a ≤ S8x4.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off23 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x24x2048.size a ≤ S8x24x2048.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off23 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x24x2048.size a ≤ S8x24x2048.size a), (Rect.unit (s := S8x24x2048) (k0_off23 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) S1x24x2048.size hinb).WholeWords (EltTy.packing .bf16)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off25 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x1.size a ≤ S8x4.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off26 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x1536x2048.size a ≤ S8x1536x2048.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off26 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x1536x2048.size a ≤ S8x1536x2048.size a), (Rect.unit (s := S8x1536x2048) (k0_off26 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) S1x1536x2048.size hinb).WholeWords (EltTy.packing .i8)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off28 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x1.size a ≤ S8x4.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off29 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x8x3072.size a ≤ S8x8x3072.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off29 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x8x3072.size a ≤ S8x8x3072.size a), (Rect.unit (s := S8x8x3072) (k0_off29 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) S1x8x3072.size hinb).WholeWords (EltTy.packing .bf16))
def k0_chk1_1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Prop :=
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off31 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x1.size a ≤ S8x4.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off32 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x512x3072.size a ≤ S8x512x3072.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off32 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x512x3072.size a ≤ S8x512x3072.size a), (Rect.unit (s := S8x512x3072) (k0_off32 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) S1x512x3072.size hinb).WholeWords (EltTy.packing .i8)) ∧
  ((k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).OK) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off34 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1.size a ≤ S8.size a) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x1.size a ≤ S8x4.size a) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off36 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x24x2048.size a ≤ S8x24x2048.size a) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off36 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x24x2048.size a ≤ S8x24x2048.size a), (Rect.unit (s := S8x24x2048) (k0_off36 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) S1x24x2048.size hinb).WholeWords (EltTy.packing .bf16)) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x1.size a ≤ S8x4.size a) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x1536x2048.size a ≤ S8x1536x2048.size a) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x1536x2048.size a ≤ S8x1536x2048.size a), (Rect.unit (s := S8x1536x2048) (k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) S1x1536x2048.size hinb).WholeWords (EltTy.packing .i8)) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x1.size a ≤ S8x4.size a) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x8x3072.size a ≤ S8x8x3072.size a) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x8x3072.size a ≤ S8x8x3072.size a), (Rect.unit (s := S8x8x3072) (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) S1x8x3072.size hinb).WholeWords (EltTy.packing .bf16)) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x1.size a ≤ S8x4.size a) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x512x3072.size a ≤ S8x512x3072.size a) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x512x3072.size a ≤ S8x512x3072.size a), (Rect.unit (s := S8x512x3072) (k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) S1x512x3072.size hinb).WholeWords (EltTy.packing .i8)) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off47 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1.size a ≤ S8.size a) ∧
  (∀ k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off48 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x24x2048.size a ≤ S8x24x2048.size a) ∧
  ((k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).OK) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off49 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1.size a ≤ S8.size a) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off50 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x1.size a ≤ S8x4.size a) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off51 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x24x2048.size a ≤ S8x24x2048.size a) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off51 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x24x2048.size a ≤ S8x24x2048.size a), (Rect.unit (s := S8x24x2048) (k0_off51 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) S1x24x2048.size hinb).WholeWords (EltTy.packing .bf16)) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off53 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x1.size a ≤ S8x4.size a) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off54 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x1536x2048.size a ≤ S8x1536x2048.size a) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off54 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x1536x2048.size a ≤ S8x1536x2048.size a), (Rect.unit (s := S8x1536x2048) (k0_off54 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) S1x1536x2048.size hinb).WholeWords (EltTy.packing .i8)) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off56 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x1.size a ≤ S8x4.size a) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off57 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x8x3072.size a ≤ S8x8x3072.size a) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off57 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x8x3072.size a ≤ S8x8x3072.size a), (Rect.unit (s := S8x8x3072) (k0_off57 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) S1x8x3072.size hinb).WholeWords (EltTy.packing .bf16)) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off59 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x1.size a ≤ S8x4.size a) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off60 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x512x3072.size a ≤ S8x512x3072.size a)
def k0_chk1_2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Prop :=
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ (hinb : ∀ a, (k0_off60 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x512x3072.size a ≤ S8x512x3072.size a), (Rect.unit (s := S8x512x3072) (k0_off60 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) S1x512x3072.size hinb).WholeWords (EltTy.packing .i8)) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off62 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1.size a ≤ S8.size a) ∧
  (∀ k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, ∀ a, (k0_off63 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x24x2048.size a ≤ S8x24x2048.size a)
def k0_chk1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) : Prop :=
  k0_chk1_0 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 ∧
  k0_chk1_1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 ∧
  k0_chk1_2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189
theorem k0_off1_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189), ∀ a, (k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 => k0_hw1.1.1
theorem k0_off2_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189), ∀ a, (k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 => k0_hw1.1.2.1
theorem k0_off3_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189), ∀ a, (k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 => k0_hw1.1.2.2.1
theorem k0_off4_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189), ∀ a, (k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 => k0_hw1.1.2.2.2.1
theorem k0_off5_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189), ∀ a, (k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 => k0_hw1.1.2.2.2.2.1
theorem k0_off6_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189), ∀ a, (k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 => k0_hw1.1.2.2.2.2.2.1
theorem k0_off7_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189), ∀ a, (k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 => k0_hw1.1.2.2.2.2.2.2.1
theorem k0_t1_ok : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189), (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).OK := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 => k0_hw1.1.2.2.2.2.2.2.2.1
theorem k0_off8_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.1 k0_t1
theorem k0_off9_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.2.1 k0_t1
theorem k0_off10_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x24x2048.size a ≤ S8x24x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.2.2.1 k0_t1
theorem k0_off10_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x24x2048) (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) S1x24x2048.size (k0_off10_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.2.2.2.1 k0_t1 (k0_off10_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1)
theorem k0_off12_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.2.2.2.2.1 k0_t1
theorem k0_off13_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x1536x2048.size a ≤ S8x1536x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.2.2.2.2.2.1 k0_t1
theorem k0_off13_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x1536x2048) (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) S1x1536x2048.size (k0_off13_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.2.2.2.2.2.2.1 k0_t1 (k0_off13_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1)
theorem k0_off15_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.2.2.2.2.2.2.2.1 k0_t1
theorem k0_off16_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x8x3072.size a ≤ S8x8x3072.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.2.2.2.2.2.2.2.2.1 k0_t1
theorem k0_off16_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x8x3072) (k0_off16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) S1x8x3072.size (k0_off16_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.2.2.2.2.2.2.2.2.2.1 k0_t1 (k0_off16_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1)
theorem k0_off18_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off18 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.2.2.2.2.2.2.2.2.2.2.1 k0_t1
theorem k0_off19_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off19 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) a + S1x512x3072.size a ≤ S8x512x3072.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.2.2.2.2.2.2.2.2.2.2.2.1 k0_t1
theorem k0_off19_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x512x3072) (k0_off19 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t1) S1x512x3072.size (k0_off19_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1 => k0_hw1.1.2.2.2.2.2.2.2.2.2.2.2.2.2.2.2.2.2.2.2.2.1 k0_t1 (k0_off19_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t1)
theorem k0_t2_ok : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189), (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).OK := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 => k0_hw1.1.2.2.2.2.2.2.2.2.2.2.2.2.2.2.2.2.2.2.2.2.2.1
theorem k0_off21_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off21 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.1.2.2.2.2.2.2.2.2.2.2.2.2.2.2.2.2.2.2.2.2.2.2.1 k0_t2
theorem k0_off22_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off22 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.1.2.2.2.2.2.2.2.2.2.2.2.2.2.2.2.2.2.2.2.2.2.2.2.1 k0_t2
theorem k0_off23_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off23 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x24x2048.size a ≤ S8x24x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.1.2.2.2.2.2.2.2.2.2.2.2.2.2.2.2.2.2.2.2.2.2.2.2.2.1 k0_t2
theorem k0_off23_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x24x2048) (k0_off23 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) S1x24x2048.size (k0_off23_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.1.2.2.2.2.2.2.2.2.2.2.2.2.2.2.2.2.2.2.2.2.2.2.2.2.2.1 k0_t2 (k0_off23_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2)
theorem k0_off25_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off25 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.1.2.2.2.2.2.2.2.2.2.2.2.2.2.2.2.2.2.2.2.2.2.2.2.2.2.2.1 k0_t2
theorem k0_off26_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off26 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x1536x2048.size a ≤ S8x1536x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.1.2.2.2.2.2.2.2.2.2.2.2.2.2.2.2.2.2.2.2.2.2.2.2.2.2.2.2.1 k0_t2
theorem k0_off26_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x1536x2048) (k0_off26 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) S1x1536x2048.size (k0_off26_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.1.2.2.2.2.2.2.2.2.2.2.2.2.2.2.2.2.2.2.2.2.2.2.2.2.2.2.2.2.1 k0_t2 (k0_off26_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2)
theorem k0_off28_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off28 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.1.2.2.2.2.2.2.2.2.2.2.2.2.2.2.2.2.2.2.2.2.2.2.2.2.2.2.2.2.2.1 k0_t2
theorem k0_off29_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off29 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x8x3072.size a ≤ S8x8x3072.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.1.2.2.2.2.2.2.2.2.2.2.2.2.2.2.2.2.2.2.2.2.2.2.2.2.2.2.2.2.2.2.1 k0_t2
theorem k0_off29_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x8x3072) (k0_off29 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) S1x8x3072.size (k0_off29_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.1.2.2.2.2.2.2.2.2.2.2.2.2.2.2.2.2.2.2.2.2.2.2.2.2.2.2.2.2.2.2.2 k0_t2 (k0_off29_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2)
theorem k0_off31_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off31 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.2.1.1 k0_t2
theorem k0_off32_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off32 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) a + S1x512x3072.size a ≤ S8x512x3072.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.2.1.2.1 k0_t2
theorem k0_off32_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x512x3072) (k0_off32 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t2) S1x512x3072.size (k0_off32_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2 => k0_hw1.2.1.2.2.1 k0_t2 (k0_off32_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t2)
theorem k0_t3_ok : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189), (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).OK := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 => k0_hw1.2.1.2.2.2.1
theorem k0_off34_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off34 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.1 k0_t3
theorem k0_off35_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.1 k0_t3
theorem k0_off36_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off36 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x24x2048.size a ≤ S8x24x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.1 k0_t3
theorem k0_off36_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x24x2048) (k0_off36 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) S1x24x2048.size (k0_off36_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.2.1 k0_t3 (k0_off36_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3)
theorem k0_off38_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.2.2.1 k0_t3
theorem k0_off39_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x1536x2048.size a ≤ S8x1536x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.2.2.2.1 k0_t3
theorem k0_off39_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x1536x2048) (k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) S1x1536x2048.size (k0_off39_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.2.2.2.2.1 k0_t3 (k0_off39_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3)
theorem k0_off41_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.2.2.2.2.2.1 k0_t3
theorem k0_off42_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x8x3072.size a ≤ S8x8x3072.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.2.2.2.2.2.2.1 k0_t3
theorem k0_off42_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x8x3072) (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) S1x8x3072.size (k0_off42_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.2.2.2.2.2.2.2.1 k0_t3 (k0_off42_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3)
theorem k0_off44_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.2.2.2.2.2.2.2.2.1 k0_t3
theorem k0_off45_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x512x3072.size a ≤ S8x512x3072.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.2.2.2.2.2.2.2.2.2.1 k0_t3
theorem k0_off45_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x512x3072) (k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) S1x512x3072.size (k0_off45_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.2.2.2.2.2.2.2.2.2.2.1 k0_t3 (k0_off45_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3)
theorem k0_off47_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off47 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.2.2.2.2.2.2.2.2.2.2.2.1 k0_t3
theorem k0_off48_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3 : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off48 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t3) a + S1x24x2048.size a ≤ S8x24x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t3 => k0_hw1.2.1.2.2.2.2.2.2.2.2.2.2.2.2.2.2.2.2.2.2.1 k0_t3
theorem k0_t4_ok : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189), (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).OK := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 => k0_hw1.2.1.2.2.2.2.2.2.2.2.2.2.2.2.2.2.2.2.2.2.2.1
theorem k0_off49_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off49 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.1.2.2.2.2.2.2.2.2.2.2.2.2.2.2.2.2.2.2.2.2.1 k0_t4
theorem k0_off50_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off50 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.1.2.2.2.2.2.2.2.2.2.2.2.2.2.2.2.2.2.2.2.2.2.1 k0_t4
theorem k0_off51_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off51 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x24x2048.size a ≤ S8x24x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.1.2.2.2.2.2.2.2.2.2.2.2.2.2.2.2.2.2.2.2.2.2.2.1 k0_t4
theorem k0_off51_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x24x2048) (k0_off51 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) S1x24x2048.size (k0_off51_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.1.2.2.2.2.2.2.2.2.2.2.2.2.2.2.2.2.2.2.2.2.2.2.2.1 k0_t4 (k0_off51_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4)
theorem k0_off53_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off53 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.1.2.2.2.2.2.2.2.2.2.2.2.2.2.2.2.2.2.2.2.2.2.2.2.2.1 k0_t4
theorem k0_off54_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off54 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x1536x2048.size a ≤ S8x1536x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.1.2.2.2.2.2.2.2.2.2.2.2.2.2.2.2.2.2.2.2.2.2.2.2.2.2.1 k0_t4
theorem k0_off54_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x1536x2048) (k0_off54 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) S1x1536x2048.size (k0_off54_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.1.2.2.2.2.2.2.2.2.2.2.2.2.2.2.2.2.2.2.2.2.2.2.2.2.2.2.1 k0_t4 (k0_off54_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4)
theorem k0_off56_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off56 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.1.2.2.2.2.2.2.2.2.2.2.2.2.2.2.2.2.2.2.2.2.2.2.2.2.2.2.2.1 k0_t4
theorem k0_off57_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off57 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x8x3072.size a ≤ S8x8x3072.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.1.2.2.2.2.2.2.2.2.2.2.2.2.2.2.2.2.2.2.2.2.2.2.2.2.2.2.2.2.1 k0_t4
theorem k0_off57_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x8x3072) (k0_off57 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) S1x8x3072.size (k0_off57_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.1.2.2.2.2.2.2.2.2.2.2.2.2.2.2.2.2.2.2.2.2.2.2.2.2.2.2.2.2.2.1 k0_t4 (k0_off57_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4)
theorem k0_off59_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off59 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x1.size a ≤ S8x4.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.1.2.2.2.2.2.2.2.2.2.2.2.2.2.2.2.2.2.2.2.2.2.2.2.2.2.2.2.2.2.2.1 k0_t4
theorem k0_off60_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off60 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x512x3072.size a ≤ S8x512x3072.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.1.2.2.2.2.2.2.2.2.2.2.2.2.2.2.2.2.2.2.2.2.2.2.2.2.2.2.2.2.2.2.2 k0_t4
theorem k0_off60_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), (Rect.unit (s := S8x512x3072) (k0_off60 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) S1x512x3072.size (k0_off60_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.2.1 k0_t4 (k0_off60_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4)
theorem k0_off62_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off62 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1.size a ≤ S8.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.2.2.1 k0_t4
theorem k0_off63_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (v144 : BitVec 32) (v147 : BitVec 32) (v150 : BitVec 32) (v153 : BitVec 32) (v156 : BitVec 32) (v159 : BitVec 32) (v162 : BitVec 32) (v165 : BitVec 32) (v168 : BitVec 32) (v171 : BitVec 32) (v174 : BitVec 32) (v177 : BitVec 32) (v180 : BitVec 32) (v183 : BitVec 32) (v186 : BitVec 32) (v189 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t4 : Fin (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips), ∀ a, (k0_off63 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_t4) a + S1x24x2048.size a ≤ S8x24x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k0_hw1 k0_t4 => k0_hw1.2.2.2.2 k0_t4

abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S32x1x3072 : Shape := ⟨3, ![32, 1, 3072]⟩
abbrev S32x1x2 : Shape := ⟨3, ![32, 1, 2]⟩
abbrev S8x1536x2048 : Shape := ⟨3, ![8, 1536, 2048]⟩
abbrev S8x24x2048 : Shape := ⟨3, ![8, 24, 2048]⟩
abbrev S8x512x3072 : Shape := ⟨3, ![8, 512, 3072]⟩
abbrev S8x8x3072 : Shape := ⟨3, ![8, 8, 3072]⟩
abbrev S32x3072 : Shape := ⟨2, ![32, 3072]⟩
abbrev S64 : Shape := ⟨1, ![64]⟩
abbrev S32x2x3072 : Shape := ⟨3, ![32, 2, 3072]⟩
abbrev S64x3072 : Shape := ⟨2, ![64, 3072]⟩
abbrev S_ : Shape := ⟨0, ![]⟩
abbrev S8x24x64x2048 : Shape := ⟨4, ![8, 24, 64, 2048]⟩
abbrev S8x24x1x2048 : Shape := ⟨4, ![8, 24, 1, 2048]⟩
abbrev S64x1536 : Shape := ⟨2, ![64, 1536]⟩
abbrev S64x8x2048 : Shape := ⟨3, ![64, 8, 2048]⟩
abbrev S8 : Shape := ⟨1, ![8]⟩
abbrev S64x1 : Shape := ⟨2, ![64, 1]⟩
abbrev S1x8 : Shape := ⟨2, ![1, 8]⟩
abbrev S64x8 : Shape := ⟨2, ![64, 8]⟩
abbrev S64x8x1 : Shape := ⟨3, ![64, 8, 1]⟩
abbrev S64x2048 : Shape := ⟨2, ![64, 2048]⟩
abbrev S64x1024 : Shape := ⟨2, ![64, 1024]⟩
abbrev S8x8x64x3072 : Shape := ⟨4, ![8, 8, 64, 3072]⟩
abbrev S8x8x1x3072 : Shape := ⟨4, ![8, 8, 1, 3072]⟩
abbrev S64x512 : Shape := ⟨2, ![64, 512]⟩
abbrev S64x8x3072 : Shape := ⟨3, ![64, 8, 3072]⟩

abbrev nBuf : Space → Nat
  | .hbm => 164
  | .vmem => 0
  | .smem => 0
  | _ => 0

abbrev hbmTy0_0 (i : Nat) : BufTy := match i % 128 with
  | 0 => ⟨S32x1x3072, .bf16⟩
  | 1 => ⟨S32x1x2, .i32⟩
  | 2 => ⟨S32x1x2, .f32⟩
  | 3 => ⟨S8x1536x2048, .i8⟩
  | 4 => ⟨S8x24x2048, .bf16⟩
  | 5 => ⟨S8x512x3072, .i8⟩
  | 6 => ⟨S8x8x3072, .bf16⟩
  | 7 => ⟨S32x3072, .bf16⟩
  | 8 => ⟨S64, .i32⟩
  | 9 => ⟨S64, .f32⟩
  | 10 => ⟨S32x2x3072, .bf16⟩
  | 11 => ⟨S64x3072, .bf16⟩
  | 12 => ⟨S8x1536x2048, .i32⟩
  | 13 => ⟨S_, .i32⟩
  | 14 => ⟨S8x1536x2048, .i32⟩
  | 15 => ⟨S8x1536x2048, .i32⟩
  | 16 => ⟨S_, .i32⟩
  | 17 => ⟨S8x1536x2048, .i32⟩
  | 18 => ⟨S8x1536x2048, .i1⟩
  | 19 => ⟨S_, .i32⟩
  | 20 => ⟨S8x1536x2048, .i32⟩
  | 21 => ⟨S8x1536x2048, .i32⟩
  | 22 => ⟨S8x1536x2048, .i32⟩
  | 23 => ⟨S8x1536x2048, .bf16⟩
  | 24 => ⟨S8x24x64x2048, .bf16⟩
  | 25 => ⟨S8x24x1x2048, .bf16⟩
  | 26 => ⟨S8x24x64x2048, .bf16⟩
  | 27 => ⟨S8x24x64x2048, .bf16⟩
  | 28 => ⟨S8x1536x2048, .bf16⟩
  | 29 => ⟨S_, .i32⟩
  | 30 => ⟨S8x1536x2048, .i32⟩
  | 31 => ⟨S8x1536x2048, .i32⟩
  | 32 => ⟨S_, .i32⟩
  | 33 => ⟨S8x1536x2048, .i32⟩
  | 34 => ⟨S8x1536x2048, .i1⟩
  | 35 => ⟨S_, .i32⟩
  | 36 => ⟨S8x1536x2048, .i32⟩
  | 37 => ⟨S8x1536x2048, .i32⟩
  | 38 => ⟨S8x1536x2048, .i32⟩
  | 39 => ⟨S8x1536x2048, .bf16⟩
  | 40 => ⟨S8x24x64x2048, .bf16⟩
  | 41 => ⟨S8x24x1x2048, .bf16⟩
  | 42 => ⟨S8x24x64x2048, .bf16⟩
  | 43 => ⟨S8x24x64x2048, .bf16⟩
  | 44 => ⟨S8x1536x2048, .bf16⟩
  | 45 => ⟨S64x1536, .bf16⟩
  | 46 => ⟨S64x8x2048, .f32⟩
  | 47 => ⟨S8, .i32⟩
  | 48 => ⟨S64x1, .i32⟩
  | 49 => ⟨S1x8, .i32⟩
  | 50 => ⟨S64x8, .i32⟩
  | 51 => ⟨S64x8, .i32⟩
  | 52 => ⟨S64x8, .i1⟩
  | 53 => ⟨S64x8x1, .i1⟩
  | 54 => ⟨S_, .f32⟩
  | 55 => ⟨S_, .f32⟩
  | 56 => ⟨S64x8x2048, .i1⟩
  | 57 => ⟨S64x8x2048, .f32⟩
  | 58 => ⟨S64x8x2048, .f32⟩
  | 59 => ⟨S_, .f32⟩
  | 60 => ⟨S64x2048, .f32⟩
  | 61 => ⟨S64x1536, .bf16⟩
  | 62 => ⟨S64x8x2048, .f32⟩
  | 63 => ⟨S8, .i32⟩
  | 64 => ⟨S64x1, .i32⟩
  | 65 => ⟨S1x8, .i32⟩
  | 66 => ⟨S64x8, .i32⟩
  | 67 => ⟨S64x8, .i32⟩
  | 68 => ⟨S64x8, .i1⟩
  | 69 => ⟨S64x8x1, .i1⟩
  | 70 => ⟨S_, .f32⟩
  | 71 => ⟨S_, .f32⟩
  | 72 => ⟨S64x8x2048, .i1⟩
  | 73 => ⟨S64x8x2048, .f32⟩
  | 74 => ⟨S64x8x2048, .f32⟩
  | 75 => ⟨S_, .f32⟩
  | 76 => ⟨S64x2048, .f32⟩
  | 77 => ⟨S64x2048, .f32⟩
  | 78 => ⟨S64x1024, .f32⟩
  | 79 => ⟨S64x1024, .f32⟩
  | 80 => ⟨S64x1024, .f32⟩
  | 81 => ⟨S64x1024, .f32⟩
  | 82 => ⟨S_, .f32⟩
  | 83 => ⟨S64x1024, .f32⟩
  | 84 => ⟨S64x1024, .f32⟩
  | 85 => ⟨S_, .f32⟩
  | 86 => ⟨S64x1024, .f32⟩
  | 87 => ⟨S64x1024, .f32⟩
  | 88 => ⟨S64x1024, .f32⟩
  | 89 => ⟨S64x1024, .f32⟩
  | 90 => ⟨S64x1024, .bf16⟩
  | 91 => ⟨S8x512x3072, .i32⟩
  | 92 => ⟨S_, .i32⟩
  | 93 => ⟨S8x512x3072, .i32⟩
  | 94 => ⟨S8x512x3072, .i32⟩
  | 95 => ⟨S_, .i32⟩
  | 96 => ⟨S8x512x3072, .i32⟩
  | 97 => ⟨S8x512x3072, .i1⟩
  | 98 => ⟨S_, .i32⟩
  | 99 => ⟨S8x512x3072, .i32⟩
  | 100 => ⟨S8x512x3072, .i32⟩
  | 101 => ⟨S8x512x3072, .i32⟩
  | 102 => ⟨S8x512x3072, .bf16⟩
  | 103 => ⟨S8x8x64x3072, .bf16⟩
  | 104 => ⟨S8x8x1x3072, .bf16⟩
  | 105 => ⟨S8x8x64x3072, .bf16⟩
  | 106 => ⟨S8x8x64x3072, .bf16⟩
  | 107 => ⟨S8x512x3072, .bf16⟩
  | 108 => ⟨S_, .i32⟩
  | 109 => ⟨S8x512x3072, .i32⟩
  | 110 => ⟨S8x512x3072, .i32⟩
  | 111 => ⟨S_, .i32⟩
  | 112 => ⟨S8x512x3072, .i32⟩
  | 113 => ⟨S8x512x3072, .i1⟩
  | 114 => ⟨S_, .i32⟩
  | 115 => ⟨S8x512x3072, .i32⟩
  | 116 => ⟨S8x512x3072, .i32⟩
  | 117 => ⟨S8x512x3072, .i32⟩
  | 118 => ⟨S8x512x3072, .bf16⟩
  | 119 => ⟨S8x8x64x3072, .bf16⟩
  | 120 => ⟨S8x8x1x3072, .bf16⟩
  | 121 => ⟨S8x8x64x3072, .bf16⟩
  | 122 => ⟨S8x8x64x3072, .bf16⟩
  | 123 => ⟨S8x512x3072, .bf16⟩
  | 124 => ⟨S64x512, .bf16⟩
  | 125 => ⟨S64x8x3072, .f32⟩
  | 126 => ⟨S8, .i32⟩
  | 127 => ⟨S64x1, .i32⟩
  | _ => ⟨S32x1x3072, .bf16⟩

abbrev hbmTy0_1 (i : Nat) : BufTy := match i % 128 with
  | 0 => ⟨S1x8, .i32⟩
  | 1 => ⟨S64x8, .i32⟩
  | 2 => ⟨S64x8, .i32⟩
  | 3 => ⟨S64x8, .i1⟩
  | 4 => ⟨S64x8x1, .i1⟩
  | 5 => ⟨S_, .f32⟩
  | 6 => ⟨S_, .f32⟩
  | 7 => ⟨S64x8x3072, .i1⟩
  | 8 => ⟨S64x8x3072, .f32⟩
  | 9 => ⟨S64x8x3072, .f32⟩
  | 10 => ⟨S_, .f32⟩
  | 11 => ⟨S64x3072, .f32⟩
  | 12 => ⟨S64x512, .bf16⟩
  | 13 => ⟨S64x8x3072, .f32⟩
  | 14 => ⟨S8, .i32⟩
  | 15 => ⟨S64x1, .i32⟩
  | 16 => ⟨S1x8, .i32⟩
  | 17 => ⟨S64x8, .i32⟩
  | 18 => ⟨S64x8, .i32⟩
  | 19 => ⟨S64x8, .i1⟩
  | 20 => ⟨S64x8x1, .i1⟩
  | 21 => ⟨S_, .f32⟩
  | 22 => ⟨S_, .f32⟩
  | 23 => ⟨S64x8x3072, .i1⟩
  | 24 => ⟨S64x8x3072, .f32⟩
  | 25 => ⟨S64x8x3072, .f32⟩
  | 26 => ⟨S_, .f32⟩
  | 27 => ⟨S64x3072, .f32⟩
  | 28 => ⟨S64x3072, .f32⟩
  | 29 => ⟨S64x1, .f32⟩
  | 30 => ⟨S64x3072, .f32⟩
  | 31 => ⟨S64x3072, .f32⟩
  | 32 => ⟨S32x2x3072, .f32⟩
  | 33 => ⟨S_, .f32⟩
  | 34 => ⟨S32x3072, .f32⟩
  | 35 => ⟨S32x3072, .bf16⟩
  | _ => ⟨S32x1x3072, .bf16⟩

abbrev hbmTy (i : Nat) : BufTy := match i / 128 with
  | 0 => hbmTy0_0 i
  | 1 => hbmTy0_1 i
  | _ => ⟨S32x1x3072, .bf16⟩

abbrev bufTy : (tb : Table) → Fin (tcTables nBuf tb) → BufTy
  | .hbm, ⟨i, _⟩ => hbmTy i
  | _, _ => ⟨S32x1x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call4_v0 : Ref sig .tc := ⟨.hbm, 80, rfl⟩
abbrev main_call4_v1 : Ref sig .tc := ⟨.hbm, 81, rfl⟩
abbrev main_call4_cst : Ref sig .tc := ⟨.hbm, 82, rfl⟩
abbrev main_call4_v2 : Ref sig .tc := ⟨.hbm, 83, rfl⟩
abbrev main_call4_v3 : Ref sig .tc := ⟨.hbm, 84, rfl⟩
abbrev main_call4_cst_0 : Ref sig .tc := ⟨.hbm, 85, rfl⟩
abbrev main_call4_v4 : Ref sig .tc := ⟨.hbm, 86, rfl⟩
abbrev main_call4_v5 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_8 : Ref sig .tc := ⟨.hbm, 92, rfl⟩
abbrev main_v61 : Ref sig .tc := ⟨.hbm, 93, rfl⟩
abbrev main_v62 : Ref sig .tc := ⟨.hbm, 94, rfl⟩
abbrev main_c_9 : Ref sig .tc := ⟨.hbm, 95, rfl⟩
abbrev main_v63 : Ref sig .tc := ⟨.hbm, 96, rfl⟩
abbrev main_v64 : Ref sig .tc := ⟨.hbm, 97, rfl⟩
abbrev main_c_10 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_11 : Ref sig .tc := ⟨.hbm, 108, rfl⟩
abbrev main_v74 : Ref sig .tc := ⟨.hbm, 109, rfl⟩
abbrev main_v75 : Ref sig .tc := ⟨.hbm, 110, rfl⟩
abbrev main_c_12 : Ref sig .tc := ⟨.hbm, 111, rfl⟩
abbrev main_v76 : Ref sig .tc := ⟨.hbm, 112, rfl⟩
abbrev main_v77 : Ref sig .tc := ⟨.hbm, 113, rfl⟩
abbrev main_c_13 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_14 : Ref sig .tc := ⟨.hbm, 133, rfl⟩
abbrev main_call7_v0 : Ref sig .tc := ⟨.hbm, 134, rfl⟩
abbrev main_call7_v1 : Ref sig .tc := ⟨.hbm, 135, rfl⟩
abbrev main_call7_v2 : Ref sig .tc := ⟨.hbm, 136, rfl⟩
abbrev main_v96 : Ref sig .tc := ⟨.hbm, 137, rfl⟩
abbrev main_cst_15 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_16 : Ref sig .tc := ⟨.hbm, 149, rfl⟩
abbrev main_call8_v0 : Ref sig .tc := ⟨.hbm, 150, rfl⟩
abbrev main_call8_v1 : Ref sig .tc := ⟨.hbm, 151, rfl⟩
abbrev main_call8_v2 : Ref sig .tc := ⟨.hbm, 152, rfl⟩
abbrev main_v107 : Ref sig .tc := ⟨.hbm, 153, rfl⟩
abbrev main_cst_17 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_18 : Ref sig .tc := ⟨.hbm, 161, rfl⟩
abbrev main_v114 : Ref sig .tc := ⟨.hbm, 162, rfl⟩
abbrev main_v115 : Ref sig .tc := ⟨.hbm, 163, rfl⟩

abbrev nD : Nat := 1
abbrev τ : Topo := Topo.v7x

variable {F : FTy → Type} [FloatOps F]
-- ==== Proof.Hand.Kernel.Words.lean ====
module

public import proofs.«01_k».proof.Proof.Gen.Kernel.Skeleton
public import Idealize.ShloMosaic.Lib.LoopRemainder
public import Idealize.ShloMosaic.Lib.PairWhole

/-! The words the kernel computes from the expert ids: the mask of the experts some row asks for, the number of such
experts before a given one, the trip counts of the four loops, and the side condition the kernel assumes of them. -/

@[expose] public section

set_option maxRecDepth 16384

namespace Cert.Kernel.Hand

open Cert.Kernel Idealize.ShloMosaic

/-- The mask after one more id. -/
def maskStep (m v : BitVec 32) : BitVec 32 := Scalar.ori m (Scalar.shli 1#32 v)

/-- The mask of a list of ids, bit `e` set when some id is `e`. -/
def maskOf (l : List (BitVec 32)) : BitVec 32 := l.foldl maskStep 0#32

/-- Bit `e` of the mask, as a word. -/
def bit (m : BitVec 32) (e : ℕ) : BitVec 32 := Scalar.andi (Scalar.shrsi m (BitVec.ofNat 32 e)) 1#32

/-- How many of the experts before `e` the mask names. -/
def act (m : BitVec 32) : ℕ → BitVec 32
  | 0 => 0#32
  | e + 1 => Scalar.addi (act m e) (bit m e)

theorem bit_le (m : BitVec 32) (e : ℕ) : (bit m e).toNat ≤ 1 := by
  have h : bit m e = (Scalar.shrsi m (BitVec.ofNat 32 e)) &&& 1#32 := rfl
  rw [h, BitVec.toNat_and]; exact Nat.and_le_right

theorem act_toNat (m : BitVec 32) : ∀ e, e ≤ 8 → (act m e).toNat ≤ e ∧ ∀ e', e' < e → (act m (e' + 1)).toNat = (act m e').toNat + (bit m e').toNat
  | 0, _ => ⟨le_rfl, fun _ h => absurd h (Nat.not_lt_zero _)⟩
  | e + 1, he => by
    obtain ⟨h1, h2⟩ := act_toNat m e (by omega)
    have hb := bit_le m e
    have hs : (act m (e + 1)).toNat = (act m e).toNat + (bit m e).toNat := by
      show (act m e + bit m e).toNat = _
      rw [BitVec.toNat_add, Nat.mod_eq_of_lt (by omega)]
    refine ⟨by omega, fun e' h => ?_⟩
    rcases Nat.lt_or_ge e' e with h' | h'
    · exact h2 e' h'
    · obtain rfl : e' = e := by omega
      exact hs

theorem act_le (m : BitVec 32) (e : ℕ) (he : e ≤ 8) : (act m e).toNat ≤ e := (act_toNat m e he).1

theorem act_succ (m : BitVec 32) (e : ℕ) (he : e < 8) : (act m (e + 1)).toNat = (act m e).toNat + (bit m e).toNat :=
  (act_toNat m 8 le_rfl).2 e he

variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

theorem off1_eq : k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 1).toNat] := rfl
theorem off2_eq : k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 2).toNat] := rfl
theorem off3_eq : k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 3).toNat] := rfl
theorem off4_eq : k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 4).toNat] := rfl
theorem off5_eq : k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 5).toNat] := rfl
theorem off6_eq : k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 6).toNat] := rfl
theorem off7_eq : k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 7).toNat] := rfl

/-- The loop over `x` experts, before the unrolling by one is divided out. -/
def loopOf (x : BitVec 32) : Scf.Loop 32 :=
  ⟨0#32, Scalar.addi 0#32 (Scalar.muli (Scalar.divsi (Scalar.subi x 0#32) 1#32) 1#32), 1#32⟩

/-- What remains of it after whole trips: nothing. -/
def restOf (x : BitVec 32) : Scf.Loop 32 :=
  ⟨Scalar.addi 0#32 (Scalar.muli (Scalar.divsi (Scalar.subi x 0#32) 1#32) 1#32), Scalar.addi 0#32 (Scalar.subi x 0#32), 1#32⟩

theorem t1_loop_eq : k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = loopOf (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8) := rfl
theorem t2_loop_eq : k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = restOf (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8) := rfl
theorem t3_loop_eq : k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = loopOf (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8) := rfl
theorem t4_loop_eq : k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = restOf (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8) := rfl

theorem loopOf_ub (x : BitVec 32) : (loopOf x).ub = x := by
  show Scalar.addi 0#32 (Scalar.muli (Scalar.divsi (Scalar.subi x 0#32) 1#32) 1#32) = x
  rw [Scalar.muli_divsi_one]
  show (0#32 + (x - 0#32)) = x
  simp

theorem loopOf_trips (x : BitVec 32) (hx : x.toNat ≤ 8) : (loopOf x).trips = x.toNat := by
  show Scf.trips 0#32 (loopOf x).ub 1#32 = _
  rw [loopOf_ub]
  have h : x.toInt = x.toNat := BitVec.toInt_eq_toNat_of_lt (by omega)
  have h1 : (1#32 : BitVec 32).toInt = 1 := by decide
  have h0 : (0#32 : BitVec 32).toInt = 0 := by decide
  rw [Scf.trips, h, h1, h0, Int.ediv_one]
  omega

theorem loopOf_ok (x : BitVec 32) (hx : x.toNat ≤ 8) : (loopOf x).OK := by
  have ht := loopOf_trips x hx
  have h1 : (1#32 : BitVec 32).toInt = 1 := by decide
  have h0 : (0#32 : BitVec 32).toInt = 0 := by decide
  refine ⟨by show 0 < (1#32 : BitVec 32).toInt; decide, ?_⟩
  show (0#32 : BitVec 32).toInt + ((loopOf x).trips : Int) * (1#32 : BitVec 32).toInt < 2 ^ 31
  rw [ht, h0, h1]; omega

theorem restOf_trips (x : BitVec 32) : (restOf x).trips = 0 := Scf.rem_trips _ _

theorem restOf_ok (x : BitVec 32) : (restOf x).OK := Scf.rem_ok _ _

theorem act8_le (m : BitVec 32) : (act m 8).toNat ≤ 8 := act_le m 8 le_rfl

theorem t1_trips : (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips = (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8).toNat :=
  (congrArg Scf.Loop.trips t1_loop_eq).trans (loopOf_trips _ (act8_le _))
theorem t3_trips : (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips = (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8).toNat :=
  (congrArg Scf.Loop.trips t3_loop_eq).trans (loopOf_trips _ (act8_le _))
theorem t2_trips : (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips = 0 :=
  (congrArg Scf.Loop.trips t2_loop_eq).trans (restOf_trips _)
theorem t4_trips : (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips = 0 :=
  (congrArg Scf.Loop.trips t4_loop_eq).trans (restOf_trips _)

theorem t1_lt (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k.val < 8 :=
  lt_of_lt_of_le k.isLt (t1_trips.trans_le (act8_le _))
theorem t3_lt (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k.val < 8 :=
  lt_of_lt_of_le k.isLt (t3_trips.trans_le (act8_le _))

theorem iv_toNat (k : ℕ) (hk : k < 8) : (Scf.iv 0#32 1#32 k).toNat = k := by
  have h : Scf.iv 0#32 1#32 k = BitVec.ofNat 32 k := by simp [Scf.iv]
  rw [h, BitVec.toNat_ofNat, Nat.mod_eq_of_lt (by omega)]

theorem ivIdx_toNat (k : ℕ) (hk : k < 8) : (Scalar.indexCast (Scf.iv 0#32 1#32 k) : BitVec 32).toNat = k := iv_toNat k hk

theorem off8_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val] := by
  show ![_] = _; rw [ivIdx_toNat _ (t1_lt k)]
theorem off9_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0] := by
  show ![_, 0] = _; rw [iv_toNat _ (t1_lt k)]
theorem off10_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := by
  show ![_, 0, 0] = _; rw [iv_toNat _ (t1_lt k)]
theorem off12_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 1] := by
  show ![_, 1] = _; rw [iv_toNat _ (t1_lt k)]
theorem off13_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off10_eq k
theorem off15_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 2] := by
  show ![_, 2] = _; rw [iv_toNat _ (t1_lt k)]
theorem off16_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off10_eq k
theorem off18_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off18 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 3] := by
  show ![_, 3] = _; rw [iv_toNat _ (t1_lt k)]
theorem off19_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off19 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off10_eq k

theorem off34_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off34 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val] := by
  show ![_] = _; rw [ivIdx_toNat _ (t3_lt k)]
theorem off35_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0] := by
  show ![_, 0] = _; rw [iv_toNat _ (t3_lt k)]
theorem off36_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off36 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := by
  show ![_, 0, 0] = _; rw [iv_toNat _ (t3_lt k)]
theorem off38_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 1] := by
  show ![_, 1] = _; rw [iv_toNat _ (t3_lt k)]
theorem off39_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off36_eq k
theorem off41_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 2] := by
  show ![_, 2] = _; rw [iv_toNat _ (t3_lt k)]
theorem off42_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off36_eq k
theorem off44_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 3] := by
  show ![_, 3] = _; rw [iv_toNat _ (t3_lt k)]
theorem off45_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off36_eq k
theorem off47_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off47 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val] := off34_eq k
theorem off48_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off48 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off36_eq k

/-- A word-sized place below eight is in an array of eight words. -/
theorem inb1 {off : Fin 1 → ℕ} {j : ℕ} (h : off = ![j]) (hj : j < 8) : ∀ a, off a + S1.size a ≤ S8.size a := by
  subst h; intro a; fin_cases a; show j + 1 ≤ 8; omega
theorem inbSem {off : Fin 2 → ℕ} {j i : ℕ} (h : off = ![j, i]) (hj : j < 8) (hi : i < 4) : ∀ a, off a + S1x1.size a ≤ S8x4.size a := by
  subst h; intro a; fin_cases a
  · show j + 1 ≤ 8; omega
  · show i + 1 ≤ 4; omega
theorem inbWgu {off : Fin 3 → ℕ} {j : ℕ} (h : off = ![j, 0, 0]) (hj : j < 8) : ∀ a, off a + S1x1536x2048.size a ≤ S8x1536x2048.size a := by
  subst h; intro a; fin_cases a
  · show j + 1 ≤ 8; omega
  · exact le_rfl
  · exact le_rfl
theorem inbSgu {off : Fin 3 → ℕ} {j : ℕ} (h : off = ![j, 0, 0]) (hj : j < 8) : ∀ a, off a + S1x24x2048.size a ≤ S8x24x2048.size a := by
  subst h; intro a; fin_cases a
  · show j + 1 ≤ 8; omega
  · exact le_rfl
  · exact le_rfl
theorem inbWd {off : Fin 3 → ℕ} {j : ℕ} (h : off = ![j, 0, 0]) (hj : j < 8) : ∀ a, off a + S1x512x3072.size a ≤ S8x512x3072.size a := by
  subst h; intro a; fin_cases a
  · show j + 1 ≤ 8; omega
  · exact le_rfl
  · exact le_rfl
theorem inbSd {off : Fin 3 → ℕ} {j : ℕ} (h : off = ![j, 0, 0]) (hj : j < 8) : ∀ a, off a + S1x8x3072.size a ≤ S8x8x3072.size a := by
  subst h; intro a; fin_cases a
  · show j + 1 ≤ 8; omega
  · exact le_rfl
  · exact le_rfl

/-- A slot of a three-axis array is whole words: it takes every row. -/
theorem wordsWgu {off : Fin 3 → ℕ} {j : ℕ} (h : off = ![j, 0, 0]) (p : ℕ) (hinb : ∀ a, off a + S1x1536x2048.size a ≤ S8x1536x2048.size a) :
    (Rect.unit (s := S8x1536x2048) off S1x1536x2048.size hinb).WholeWords p := by
  subst h; exact .inr ⟨by decide, rfl, rfl, rfl⟩
theorem wordsSgu {off : Fin 3 → ℕ} {j : ℕ} (h : off = ![j, 0, 0]) (p : ℕ) (hinb : ∀ a, off a + S1x24x2048.size a ≤ S8x24x2048.size a) :
    (Rect.unit (s := S8x24x2048) off S1x24x2048.size hinb).WholeWords p := by
  subst h; exact .inr ⟨by decide, rfl, rfl, rfl⟩
theorem wordsWd {off : Fin 3 → ℕ} {j : ℕ} (h : off = ![j, 0, 0]) (p : ℕ) (hinb : ∀ a, off a + S1x512x3072.size a ≤ S8x512x3072.size a) :
    (Rect.unit (s := S8x512x3072) off S1x512x3072.size hinb).WholeWords p := by
  subst h; exact .inr ⟨by decide, rfl, rfl, rfl⟩
theorem wordsSd {off : Fin 3 → ℕ} {j : ℕ} (h : off = ![j, 0, 0]) (p : ℕ) (hinb : ∀ a, off a + S1x8x3072.size a ≤ S8x8x3072.size a) :
    (Rect.unit (s := S8x8x3072) off S1x8x3072.size hinb).WholeWords p := by
  subst h; exact .inr ⟨by decide, rfl, rfl, rfl⟩

/-- Nothing is asked of the trips of a loop that runs none. -/
theorem no_trip {n : ℕ} (h : n = 0) (k : Fin n) : False := by
  subst h; exact k.elim0

theorem chk1_0 : k0_chk1_0 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 :=
  ⟨inb1 off1_eq (lt_of_le_of_lt (act_le _ 1 (by omega)) (by omega)),
   inb1 off2_eq (lt_of_le_of_lt (act_le _ 2 (by omega)) (by omega)),
   inb1 off3_eq (lt_of_le_of_lt (act_le _ 3 (by omega)) (by omega)),
   inb1 off4_eq (lt_of_le_of_lt (act_le _ 4 (by omega)) (by omega)),
   inb1 off5_eq (lt_of_le_of_lt (act_le _ 5 (by omega)) (by omega)),
   inb1 off6_eq (lt_of_le_of_lt (act_le _ 6 (by omega)) (by omega)),
   inb1 off7_eq (lt_of_le_of_lt (act_le _ 7 (by omega)) (by omega)),
   t1_loop_eq ▸ loopOf_ok _ (act8_le _),
   fun k => inb1 (off8_eq k) (t1_lt k),
   fun k => inbSem (off9_eq k) (t1_lt k) (by omega),
   fun k => inbSgu (off10_eq k) (t1_lt k),
   fun k => wordsSgu (off10_eq k) _,
   fun k => inbSem (off12_eq k) (t1_lt k) (by omega),
   fun k => inbWgu (off13_eq k) (t1_lt k),
   fun k => wordsWgu (off13_eq k) _,
   fun k => inbSem (off15_eq k) (t1_lt k) (by omega),
   fun k => inbSd (off16_eq k) (t1_lt k),
   fun k => wordsSd (off16_eq k) _,
   fun k => inbSem (off18_eq k) (t1_lt k) (by omega),
   fun k => inbWd (off19_eq k) (t1_lt k),
   fun k => wordsWd (off19_eq k) _,
   t2_loop_eq ▸ restOf_ok _,
   fun k => (no_trip t2_trips k).elim,
   fun k => (no_trip t2_trips k).elim,
   fun k => (no_trip t2_trips k).elim,
   fun k => (no_trip t2_trips k).elim,
   fun k => (no_trip t2_trips k).elim,
   fun k => (no_trip t2_trips k).elim,
   fun k => (no_trip t2_trips k).elim,
   fun k => (no_trip t2_trips k).elim,
   fun k => (no_trip t2_trips k).elim,
   fun k => (no_trip t2_trips k).elim⟩

theorem chk1_1 : k0_chk1_1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 :=
  ⟨fun k => (no_trip t2_trips k).elim,
   fun k => (no_trip t2_trips k).elim,
   fun k => (no_trip t2_trips k).elim,
   t3_loop_eq ▸ loopOf_ok _ (act8_le _),
   fun k => inb1 (off34_eq k) (t3_lt k),
   fun k => inbSem (off35_eq k) (t3_lt k) (by omega),
   fun k => inbSgu (off36_eq k) (t3_lt k),
   fun k => wordsSgu (off36_eq k) _,
   fun k => inbSem (off38_eq k) (t3_lt k) (by omega),
   fun k => inbWgu (off39_eq k) (t3_lt k),
   fun k => wordsWgu (off39_eq k) _,
   fun k => inbSem (off41_eq k) (t3_lt k) (by omega),
   fun k => inbSd (off42_eq k) (t3_lt k),
   fun k => wordsSd (off42_eq k) _,
   fun k => inbSem (off44_eq k) (t3_lt k) (by omega),
   fun k => inbWd (off45_eq k) (t3_lt k),
   fun k => wordsWd (off45_eq k) _,
   fun k => inb1 (off47_eq k) (t3_lt k),
   fun k => inbSgu (off48_eq k) (t3_lt k),
   t4_loop_eq ▸ restOf_ok _,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim⟩

theorem chk1_2 : k0_chk1_2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 :=
  ⟨fun k => (no_trip t4_trips k).elim, fun k => (no_trip t4_trips k).elim, fun k => (no_trip t4_trips k).elim⟩

/-- What the kernel assumes of the words it computes from the ids holds of every sixty-four words. -/
theorem chk1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 := ⟨chk1_0, chk1_1, chk1_2⟩

end Cert.Kernel.Hand

end
-- ==== Proof.Hand.Kernel.Slots.lean ====
module

public import proofs.«01_k».proof.Proof.Hand.Kernel.Words
public import proofs.«01_k».proof.Proof.Gen.Kernel.Launch
public import proofs.«01_k».proof.Proof.Gen.Kernel.Points
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Transfers

/-! The slots the kernel copies experts into, the cells it waits on and the rows it copies from, under names that do not
mention the words they are computed from, and the equations by which the program's own spellings are these. -/

@[expose] public section

set_option maxRecDepth 16384

noncomputable section

namespace Cert.Kernel.Hand

open Cert.Kernel Cert.Kernel.Gen
open Idealize.ShloMosaic Idealize.ShloMosaic.TcCoe Idealize.ShloMosaic.Tactic

abbrev bWgu : Memref sig .tc .vmem S8x1536x2048 .i8 := Memref.whole cc0_scratch0
abbrev bSgu : Memref sig .tc .vmem S8x24x2048 .bf16 := Memref.whole cc0_scratch1
abbrev bWd : Memref sig .tc .vmem S8x512x3072 .i8 := Memref.whole cc0_scratch2
abbrev bSd : Memref sig .tc .vmem S8x8x3072 .bf16 := Memref.whole cc0_scratch3
abbrev bAcc : Memref sig .tc .vmem S32x3072 .f32 := Memref.whole cc0_scratch4
abbrev bAct : Memref sig .tc .smem S8 .i32 := Memref.whole cc0_scratch5
abbrev hWgu : Memref sig .tc .hbm S8x1536x2048 .i8 := Memref.whole main_arg3
abbrev hSgu : Memref sig .tc .hbm S8x24x2048 .bf16 := Memref.whole main_arg4
abbrev hWd : Memref sig .tc .hbm S8x512x3072 .i8 := Memref.whole main_arg5
abbrev hSd : Memref sig .tc .hbm S8x8x3072 .bf16 := Memref.whole main_arg6

/-- Slot `j` of each of the four buffers. -/
def sWgu (j : Fin 8) : Memref sig .tc .vmem S1536x2048 .i8 :=
  (bWgu.slice (Rect.unit (s := S8x1536x2048) ![j.val, 0, 0] S1x1536x2048.size (inbWgu rfl j.isLt)) (fun _ => rfl)).squeeze S1536x2048 squeezes_S1x1536x2048_S1536x2048
def sSgu (j : Fin 8) : Memref sig .tc .vmem S24x2048 .bf16 :=
  (bSgu.slice (Rect.unit (s := S8x24x2048) ![j.val, 0, 0] S1x24x2048.size (inbSgu rfl j.isLt)) (fun _ => rfl)).squeeze S24x2048 squeezes_S1x24x2048_S24x2048
def sWd (j : Fin 8) : Memref sig .tc .vmem S512x3072 .i8 :=
  (bWd.slice (Rect.unit (s := S8x512x3072) ![j.val, 0, 0] S1x512x3072.size (inbWd rfl j.isLt)) (fun _ => rfl)).squeeze S512x3072 squeezes_S1x512x3072_S512x3072
def sSd (j : Fin 8) : Memref sig .tc .vmem S8x3072 .bf16 :=
  (bSd.slice (Rect.unit (s := S8x8x3072) ![j.val, 0, 0] S1x8x3072.size (inbSd rfl j.isLt)) (fun _ => rfl)).squeeze S8x3072 squeezes_S1x8x3072_S8x3072

/-- Expert `e`'s rows in each of the four arguments. -/
def rWgu (j : Fin 8) : Memref sig .tc .hbm S1536x2048 .i8 :=
  (hWgu.slice (Rect.unit (s := S8x1536x2048) ![j.val, 0, 0] S1x1536x2048.size (inbWgu rfl j.isLt)) (fun _ => rfl)).squeeze S1536x2048 squeezes_S1x1536x2048_S1536x2048
def rSgu (j : Fin 8) : Memref sig .tc .hbm S24x2048 .bf16 :=
  (hSgu.slice (Rect.unit (s := S8x24x2048) ![j.val, 0, 0] S1x24x2048.size (inbSgu rfl j.isLt)) (fun _ => rfl)).squeeze S24x2048 squeezes_S1x24x2048_S24x2048
def rWd (j : Fin 8) : Memref sig .tc .hbm S512x3072 .i8 :=
  (hWd.slice (Rect.unit (s := S8x512x3072) ![j.val, 0, 0] S1x512x3072.size (inbWd rfl j.isLt)) (fun _ => rfl)).squeeze S512x3072 squeezes_S1x512x3072_S512x3072
def rSd (j : Fin 8) : Memref sig .tc .hbm S8x3072 .bf16 :=
  (hSd.slice (Rect.unit (s := S8x8x3072) ![j.val, 0, 0] S1x8x3072.size (inbSd rfl j.isLt)) (fun _ => rfl)).squeeze S8x3072 squeezes_S1x8x3072_S8x3072

/-- Cell `i` of slot `j`. -/
def cell (j : Fin 8) (i : Fin 4) : DmaSems sig S_ :=
  (cc0_scratch6.slice (Rect.unit (s := S8x4) ![j.val, i.val] S1x1.size (inbSem rfl j.isLt i.isLt))).squeeze S_ squeezes_S1x1_S_

theorem cell_congr {off : Fin 2 → ℕ} {j : Fin 8} {i : Fin 4} (e : off = ![j.val, i.val]) (hh) :
    (cc0_scratch6.slice (Rect.unit (s := S8x4) off S1x1.size hh)).squeeze S_ squeezes_S1x1_S_ = cell j i :=
  congrArg (fun A : DmaSems sig S1x1 => A.squeeze S_ squeezes_S1x1_S_) (SemArray.slice_unit_congr _ e _ _)
theorem sWgu_congr {off : Fin 3 → ℕ} {j : Fin 8} (e : off = ![j.val, 0, 0]) (hh hs) :
    (bWgu.slice (Rect.unit (s := S8x1536x2048) off S1x1536x2048.size hh) hs).squeeze S1536x2048 squeezes_S1x1536x2048_S1536x2048 = sWgu j :=
  congrArg (fun M : Memref sig .tc .vmem S1x1536x2048 .i8 => M.squeeze S1536x2048 squeezes_S1x1536x2048_S1536x2048) (Memref.slice_unit_congr _ e _ _ _ _)
theorem sSgu_congr {off : Fin 3 → ℕ} {j : Fin 8} (e : off = ![j.val, 0, 0]) (hh hs) :
    (bSgu.slice (Rect.unit (s := S8x24x2048) off S1x24x2048.size hh) hs).squeeze S24x2048 squeezes_S1x24x2048_S24x2048 = sSgu j :=
  congrArg (fun M : Memref sig .tc .vmem S1x24x2048 .bf16 => M.squeeze S24x2048 squeezes_S1x24x2048_S24x2048) (Memref.slice_unit_congr _ e _ _ _ _)
theorem sWd_congr {off : Fin 3 → ℕ} {j : Fin 8} (e : off = ![j.val, 0, 0]) (hh hs) :
    (bWd.slice (Rect.unit (s := S8x512x3072) off S1x512x3072.size hh) hs).squeeze S512x3072 squeezes_S1x512x3072_S512x3072 = sWd j :=
  congrArg (fun M : Memref sig .tc .vmem S1x512x3072 .i8 => M.squeeze S512x3072 squeezes_S1x512x3072_S512x3072) (Memref.slice_unit_congr _ e _ _ _ _)
theorem sSd_congr {off : Fin 3 → ℕ} {j : Fin 8} (e : off = ![j.val, 0, 0]) (hh hs) :
    (bSd.slice (Rect.unit (s := S8x8x3072) off S1x8x3072.size hh) hs).squeeze S8x3072 squeezes_S1x8x3072_S8x3072 = sSd j :=
  congrArg (fun M : Memref sig .tc .vmem S1x8x3072 .bf16 => M.squeeze S8x3072 squeezes_S1x8x3072_S8x3072) (Memref.slice_unit_congr _ e _ _ _ _)
theorem rWgu_congr {off : Fin 3 → ℕ} {j : Fin 8} (e : off = ![j.val, 0, 0]) (hh hs) :
    (hWgu.slice (Rect.unit (s := S8x1536x2048) off S1x1536x2048.size hh) hs).squeeze S1536x2048 squeezes_S1x1536x2048_S1536x2048 = rWgu j :=
  congrArg (fun M : Memref sig .tc .hbm S1x1536x2048 .i8 => M.squeeze S1536x2048 squeezes_S1x1536x2048_S1536x2048) (Memref.slice_unit_congr _ e _ _ _ _)
theorem rSgu_congr {off : Fin 3 → ℕ} {j : Fin 8} (e : off = ![j.val, 0, 0]) (hh hs) :
    (hSgu.slice (Rect.unit (s := S8x24x2048) off S1x24x2048.size hh) hs).squeeze S24x2048 squeezes_S1x24x2048_S24x2048 = rSgu j :=
  congrArg (fun M : Memref sig .tc .hbm S1x24x2048 .bf16 => M.squeeze S24x2048 squeezes_S1x24x2048_S24x2048) (Memref.slice_unit_congr _ e _ _ _ _)
theorem rWd_congr {off : Fin 3 → ℕ} {j : Fin 8} (e : off = ![j.val, 0, 0]) (hh hs) :
    (hWd.slice (Rect.unit (s := S8x512x3072) off S1x512x3072.size hh) hs).squeeze S512x3072 squeezes_S1x512x3072_S512x3072 = rWd j :=
  congrArg (fun M : Memref sig .tc .hbm S1x512x3072 .i8 => M.squeeze S512x3072 squeezes_S1x512x3072_S512x3072) (Memref.slice_unit_congr _ e _ _ _ _)
theorem rSd_congr {off : Fin 3 → ℕ} {j : Fin 8} (e : off = ![j.val, 0, 0]) (hh hs) :
    (hSd.slice (Rect.unit (s := S8x8x3072) off S1x8x3072.size hh) hs).squeeze S8x3072 squeezes_S1x8x3072_S8x3072 = rSd j :=
  congrArg (fun M : Memref sig .tc .hbm S1x8x3072 .bf16 => M.squeeze S8x3072 squeezes_S1x8x3072_S8x3072) (Memref.slice_unit_congr _ e _ _ _ _)

variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

/-- The slot of a trip of the copying loop, and of the computing loop. -/
def slot1 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 8 := ⟨k.val, t1_lt k⟩
def slot3 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 8 := ⟨k.val, t3_lt k⟩

/-- The expert a word names. -/
def expert (w : BitVec 32) : Fin 8 := ⟨w.toNat % 8, Nat.mod_lt _ (by omega)⟩
theorem expert_off {w : BitVec 32} (h : w.toNat < 8) : (![w.toNat, 0, 0] : Fin 3 → ℕ) = ![(expert w).val, 0, 0] := by
  show _ = ![w.toNat % 8, 0, 0]; rw [Nat.mod_eq_of_lt h]

@[sl_canon] theorem cell9 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot1 k) 0 := cell_congr (off9_eq k) hh
@[sl_canon] theorem cell12 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot1 k) 1 := cell_congr (off12_eq k) hh
@[sl_canon] theorem cell15 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot1 k) 2 := cell_congr (off15_eq k) hh
@[sl_canon] theorem cell18 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off18 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot1 k) 3 := cell_congr (off18_eq k) hh
@[sl_canon] theorem slot10 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bSgu.slice (Rect.unit (s := S8x24x2048) (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x24x2048.size hh) hs).squeeze S24x2048 squeezes_S1x24x2048_S24x2048 = sSgu (slot1 k) := sSgu_congr (off10_eq k) hh hs
@[sl_canon] theorem slot13 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bWgu.slice (Rect.unit (s := S8x1536x2048) (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1536x2048.size hh) hs).squeeze S1536x2048 squeezes_S1x1536x2048_S1536x2048 = sWgu (slot1 k) := sWgu_congr (off13_eq k) hh hs
@[sl_canon] theorem slot16 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bSd.slice (Rect.unit (s := S8x8x3072) (k0_off16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x8x3072.size hh) hs).squeeze S8x3072 squeezes_S1x8x3072_S8x3072 = sSd (slot1 k) := sSd_congr (off16_eq k) hh hs
@[sl_canon] theorem slot19 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bWd.slice (Rect.unit (s := S8x512x3072) (k0_off19 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x512x3072.size hh) hs).squeeze S512x3072 squeezes_S1x512x3072_S512x3072 = sWd (slot1 k) := sWd_congr (off19_eq k) hh hs

@[sl_canon] theorem row11 (w : BitVec 32) (hw : w.toNat < 8) (hh hs) :
    (hSgu.slice (Rect.unit (s := S8x24x2048) (k0_off11 w) S1x24x2048.size hh) hs).squeeze S24x2048 squeezes_S1x24x2048_S24x2048 = rSgu (expert w) := rSgu_congr (expert_off hw) hh hs
@[sl_canon] theorem row14 (w : BitVec 32) (hw : w.toNat < 8) (hh hs) :
    (hWgu.slice (Rect.unit (s := S8x1536x2048) (k0_off14 w) S1x1536x2048.size hh) hs).squeeze S1536x2048 squeezes_S1x1536x2048_S1536x2048 = rWgu (expert w) := rWgu_congr (expert_off hw) hh hs
@[sl_canon] theorem row17 (w : BitVec 32) (hw : w.toNat < 8) (hh hs) :
    (hSd.slice (Rect.unit (s := S8x8x3072) (k0_off17 w) S1x8x3072.size hh) hs).squeeze S8x3072 squeezes_S1x8x3072_S8x3072 = rSd (expert w) := rSd_congr (expert_off hw) hh hs
@[sl_canon] theorem row20 (w : BitVec 32) (hw : w.toNat < 8) (hh hs) :
    (hWd.slice (Rect.unit (s := S8x512x3072) (k0_off20 w) S1x512x3072.size hh) hs).squeeze S512x3072 squeezes_S1x512x3072_S512x3072 = rWd (expert w) := rWd_congr (expert_off hw) hh hs

@[sl_canon] theorem cell35 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot3 k) 0 := cell_congr (off35_eq k) hh
@[sl_canon] theorem cell38 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot3 k) 1 := cell_congr (off38_eq k) hh
@[sl_canon] theorem cell41 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot3 k) 2 := cell_congr (off41_eq k) hh
@[sl_canon] theorem cell44 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot3 k) 3 := cell_congr (off44_eq k) hh
@[sl_canon] theorem slot36 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bSgu.slice (Rect.unit (s := S8x24x2048) (k0_off36 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x24x2048.size hh) hs).squeeze S24x2048 squeezes_S1x24x2048_S24x2048 = sSgu (slot3 k) := sSgu_congr (off36_eq k) hh hs
@[sl_canon] theorem slot48 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bSgu.slice (Rect.unit (s := S8x24x2048) (k0_off48 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x24x2048.size hh) hs).squeeze S24x2048 squeezes_S1x24x2048_S24x2048 = sSgu (slot3 k) := sSgu_congr (off48_eq k) hh hs
@[sl_canon] theorem slot39 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bWgu.slice (Rect.unit (s := S8x1536x2048) (k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1536x2048.size hh) hs).squeeze S1536x2048 squeezes_S1x1536x2048_S1536x2048 = sWgu (slot3 k) := sWgu_congr (off39_eq k) hh hs
@[sl_canon] theorem slot42 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bSd.slice (Rect.unit (s := S8x8x3072) (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x8x3072.size hh) hs).squeeze S8x3072 squeezes_S1x8x3072_S8x3072 = sSd (slot3 k) := sSd_congr (off42_eq k) hh hs
@[sl_canon] theorem slot45 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bWd.slice (Rect.unit (s := S8x512x3072) (k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x512x3072.size hh) hs).squeeze S512x3072 squeezes_S1x512x3072_S512x3072 = sWd (slot3 k) := sWd_congr (off45_eq k) hh hs

/-- Expert words below eight name rows inside the four arguments, in whole words. -/
theorem chk2_of {w : BitVec 32} (h : w.toNat < 8) : k0_chk2 w :=
  ⟨inbSgu rfl h, wordsSgu rfl _, inbWgu rfl h, wordsWgu rfl _, inbSd rfl h, wordsSd rfl _, inbWd rfl h, wordsWd rfl _⟩
theorem chk4_of {w : BitVec 32} (h : w.toNat < 8) : k0_chk4 w :=
  ⟨inbSgu rfl h, wordsSgu rfl _, inbWgu rfl h, wordsWgu rfl _, inbSd rfl h, wordsSd rfl _, inbWd rfl h, wordsWd rfl _⟩

section Words
variable {F : FTy → Type} [FloatOps F]
/-- Word `j` of the list of experts to run. -/
def word (c : Dev nD) (f : Buf (Elt F) (bAct.view.loc (c : Thread nD τ))) (j : Fin 8) : BitVec 32 :=
  bAct.view.read (Elt F) f (fun a => ⟨j.val, lt_of_lt_of_eq j.isLt (by fin_cases a; rfl)⟩)
theorem readAct (c : Dev nD) (f : Buf (Elt F) (bAct.view.loc (c : Thread nD τ))) {off : Fin 1 → ℕ} {j : Fin 8} (e : off = ![j.val]) (hh) (hn) :
    (bAct.view.readAt (Elt F) (Rect.unit (s := S8) off S1.size hh).toLoadRect f (Shape.Idx.first hn) : BitVec 32) = word c f j := by
  subst e
  refine congrArg (bAct.view.read (Elt F) f) (funext fun a => Fin.ext ?_)
  fin_cases a
  rfl
end Words

end Cert.Kernel.Hand

end
-- ==== Proof.Hand.Kernel.Res.lean ====
module

public import proofs.«01_k».proof.Proof.Hand.Kernel.Slots
public import Idealize.ShloMosaic.Lib.Pipeline.TableIdle

/-! What the kernel holds of one slot: free (the slot at some contents, its cell at zero, a read token of the argument) or
in flight (the copy of one expert's rows into it). -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev Bf {sp : Space} {s : Shape} {φ : EltTy} (c : Dev nD) (M : Memref sig .tc sp s φ) := Buf (Elt F) (M.view.loc (c : Thread nD τ))
abbrev own {sp : Space} {s : Shape} {φ : EltTy} (c : Dev nD) (M : Memref sig .tc sp s φ) (q : PosShare TreeShare) (f : Bf (F := F) c M) : sProp 𝕄 :=
  M.view.loc (c : Thread nD τ) ↦[M.view.set]{q} f

abbrev EC : UEmb Counters 𝕄 := countersEmb (U := Pipeline.UD sig nD τ)

/-- Elements held at contents that read `X` are held at the canonical contents of `X`. -/
theorem own_rep (c : Dev nD) {sp : Space} {s : Shape} {φ : EltTy} (M : Memref sig .tc sp s φ) (q : PosShare TreeShare) (f : Bf (F := F) c M)
    {X : s.Idx → Elt F φ} (h : M.view.read (Elt F) f = X) : own c M q f ⊢ own c M q (M.view.rep X) := by
  iintro H
  ihave H' := (owns_intro (c : Thread nD τ) M q f) $$ H
  rw [h]
  ihave H'' := (Entails.of_eq (owns_eq_rep (c : Thread nD τ) M q X)) $$ H'
  iexact H''

/-- A slot's part of one buffer, free: the slot at some contents, its cell at zero, and the token of the argument. -/
def freeOne (c : Dev nD) {s s' : Shape} {φ : EltTy} (z : DmaSems sig S_) (dst : Memref sig .tc .vmem s φ) (arr : Memref sig .tc .hbm s' φ)
    (q : PosShare TreeShare) (fs : Bf (F := F) c arr) : sProp 𝕄 :=
  iprop((∃ g, own c dst fullShare g) ∗ semVal ((c : Thread nD τ), SemLoc.dma z.sem) 0 ∗ (arr.view.loc (c : Thread nD τ) ↦{q} fs))

/-- The same in flight: the copy of `src` into the slot, and the token's rest. -/
def flyOne (c : Dev nD) {s : Shape} {φ : EltTy} (z : DmaSems sig S_) (dst : Memref sig .tc .vmem s φ) (src : Memref sig .tc .hbm s φ)
    (q : PosShare TreeShare) (fs : Bf (F := F) c src) : sProp 𝕄 :=
  iprop(Transfers.Flight EC (c : Thread nD τ) (.dma z.sem) () dst.view.dmaCredit
      iprop(own c dst fullShare (dst.view.rep (src.view.read (Elt F) fs)) ∗ own c src q fs)
    ∗ (src.view.loc (c : Thread nD τ) ↦[Finset.univ \ src.view.set]{q} fs))

abbrev tok (j : Fin 8) : PosShare TreeShare := Transfers.shareTok fullShare 8 j

/-- Slot `j` free. -/
def Free (c : Dev nD) (fW : Bf (F := F) c hWgu) (fS : Bf (F := F) c hSgu) (fD : Bf (F := F) c hWd) (fT : Bf (F := F) c hSd) (j : Fin 8) : sProp 𝕄 :=
  iprop(freeOne c (cell j 0) (sSgu j) hSgu (tok j) fS ∗ freeOne c (cell j 1) (sWgu j) hWgu (tok j) fW
    ∗ freeOne c (cell j 2) (sSd j) hSd (tok j) fT ∗ freeOne c (cell j 3) (sWd j) hWd (tok j) fD)

/-- Slot `j` with expert `e`'s rows on their way. -/
def Fly (c : Dev nD) (fW : Bf (F := F) c hWgu) (fS : Bf (F := F) c hSgu) (fD : Bf (F := F) c hWd) (fT : Bf (F := F) c hSd) (j e : Fin 8) : sProp 𝕄 :=
  iprop(flyOne c (cell j 0) (sSgu j) (rSgu e) (tok j) fS ∗ flyOne c (cell j 1) (sWgu j) (rWgu e) (tok j) fW
    ∗ flyOne c (cell j 2) (sSd j) (rSd e) (tok j) fT ∗ flyOne c (cell j 3) (sWd j) (rWd e) (tok j) fD)

/-- The token of an argument is the rows lent and the rest. -/
theorem lendWgu (c : Dev nD) (e : Fin 8) (q : PosShare TreeShare) (fs : Bf (F := F) c hWgu) :
    ((hWgu.view.loc (c : Thread nD τ) ↦{q} fs) : sProp 𝕄) ⊣⊢ iprop(own c (rWgu e) q fs ∗ ((rWgu e).view.loc (c : Thread nD τ) ↦[Finset.univ \ (rWgu e).view.set]{q} fs)) :=
  pointsTo_split_subset (Finset.subset_univ (rWgu e).view.set)
theorem lendSgu (c : Dev nD) (e : Fin 8) (q : PosShare TreeShare) (fs : Bf (F := F) c hSgu) :
    ((hSgu.view.loc (c : Thread nD τ) ↦{q} fs) : sProp 𝕄) ⊣⊢ iprop(own c (rSgu e) q fs ∗ ((rSgu e).view.loc (c : Thread nD τ) ↦[Finset.univ \ (rSgu e).view.set]{q} fs)) :=
  pointsTo_split_subset (Finset.subset_univ (rSgu e).view.set)
theorem lendWd (c : Dev nD) (e : Fin 8) (q : PosShare TreeShare) (fs : Bf (F := F) c hWd) :
    ((hWd.view.loc (c : Thread nD τ) ↦{q} fs) : sProp 𝕄) ⊣⊢ iprop(own c (rWd e) q fs ∗ ((rWd e).view.loc (c : Thread nD τ) ↦[Finset.univ \ (rWd e).view.set]{q} fs)) :=
  pointsTo_split_subset (Finset.subset_univ (rWd e).view.set)
theorem lendSd (c : Dev nD) (e : Fin 8) (q : PosShare TreeShare) (fs : Bf (F := F) c hSd) :
    ((hSd.view.loc (c : Thread nD τ) ↦{q} fs) : sProp 𝕄) ⊣⊢ iprop(own c (rSd e) q fs ∗ ((rSd e).view.loc (c : Thread nD τ) ↦[Finset.univ \ (rSd e).view.set]{q} fs)) :=
  pointsTo_split_subset (Finset.subset_univ (rSd e).view.set)

/-- A copy under way, as the run leaves it, is `flyOne`. -/
theorem fly_intro (c : Dev nD) {s : Shape} {φ : EltTy} (z : DmaSems sig S_) (dst : Memref sig .tc .vmem s φ) (src : Memref sig .tc .hbm s φ)
    (q : PosShare TreeShare) (fs : Bf (F := F) c src) (N : ℕ) (g : Bf (F := F) c dst) (X : s.Idx → Elt F φ)
    (hN : dst.view.dmaCredit = N) (hX : X = src.view.read (Elt F) fs) :
    iprop(Transfers.Flight EC (c : Thread nD τ) (.dma z.sem) () N
        iprop((dst.view.loc (c : Thread nD τ) ↦[dst.view.set]{fullShare} dst.view.writes (Elt F) g [⟨Rect.whole s, X⟩]) ∗ (src.view.loc (c : Thread nD τ) ↦[src.view.set]{q} fs))
      ∗ (src.view.loc (c : Thread nD τ) ↦[Finset.univ \ src.view.set]{q} fs)) ⊢ flyOne c z dst src q fs := by
  subst hN
  unfold flyOne
  iintro ⟨HF, HR⟩
  isplitl [HF]; swap; · iexact HR
  iapply (Transfers.Flight_mono EC _ (sep_mono (own_rep c dst fullShare _ ?_) .rfl)) $$ HF
  have e := View.write_univ_eq_writes_whole dst.view (Val := Elt F) g [] X
  rw [View.writes_nil] at e
  rw [← e, hX]
  exact View.read_write_univ _ _

end Cert.Kernel.Hand

end
-- ==== Proof.Hand.Kernel.Trip1.lean ====
module

public import proofs.«01_k».proof.Proof.Hand.Kernel.Res
public import Idealize.ShloMosaic.Lib.Pipeline.TableIdle

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

theorem trip1 (c : Dev nD)
    (arg0 : Memref sig .tc .smem S64 .i32) (harg0 : arg0.IsWhole) (arg1 : Memref sig .tc .vmem S32x2 .i32) (harg1 : arg1.IsWhole)
    (arg2 : Memref sig .tc .vmem S32x2 .f32) (harg2 : arg2.IsWhole) (arg3 : Memref sig .tc .vmem S32x3072 .bf16) (harg3 : arg3.IsWhole)
    (arg8 : Memref sig .tc .vmem S32x3072 .bf16) (harg8 : arg8.IsWhole)
    (h4 : hWgu.IsWhole) (h5 : hSgu.IsWhole) (h6 : hWd.IsWhole) (h7 : hSd.IsWhole)
    (h9 : bWgu.IsWhole) (h10 : bSgu.IsWhole) (h11 : bWd.IsWhole) (h12 : bSd.IsWhole) (h13 : bAcc.IsWhole) (h14 : bAct.IsWhole)
    (hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (z z' z'' : BitVec 32) (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips)
    (f14 : Bf (F := F) c bAct) (fW : Bf (F := F) c hWgu) (fS : Bf (F := F) c hSgu) (fD : Bf (F := F) c hWd) (fT : Bf (F := F) c hSd)
    (w : BitVec 32) (hww : word c f14 (slot1 k) = w) (hcanonw : w.toNat < 8) (W : Waits sig Unit) (K : PUnit → sProp 𝕄) :
      iprop(own c bAct fullShare f14 ∗ Free c fW fS fD fT (slot1 k) ∗ owes (c : Thread nD τ) 0 W
        ∗ (iprop(own c bAct fullShare f14 ∗ Fly c fW fS fD fT (slot1 k) (expert w) ∗ owes (c : Thread nD τ) 0 W) -∗ K ⟨⟩))
      ⊢ wp frame (wpE (defs₀ (F := F)) Variants.none (c : Thread nD τ) none) Set.univ
          (k0_t1_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z z' z'' k ()) K := by
  unfold k0_t1_body Free Fly freeOne
  iintro ⟨H14, ⟨⟨⟨%g0, HS0⟩, HC0, HA0⟩, ⟨⟨%g1, HS1⟩, HC1, HA1⟩, ⟨⟨%g2, HS2⟩, HC2, HA2⟩, ⟨⟨%g3, HS3⟩, HC3, HA3⟩⟩, HO, Hk⟩
  ihave H0 := (lendSgu c (expert w) _ _).1 $$ HA0
  icases H0 with ⟨HR0, HT0⟩
  ihave H1 := (lendWgu c (expert w) _ _).1 $$ HA1
  icases H1 with ⟨HR1, HT1⟩
  ihave H2 := (lendSd c (expert w) _ _).1 $$ HA2
  icases H2 with ⟨HR2, HT2⟩
  ihave H3 := (lendWd c (expert w) _ _).1 $$ HA3
  icases H3 with ⟨HR3, HT3⟩
  sl_exec
  have hv : trip1.sl.r c hw1 k f14 = w := (readAct c f14 (j := slot1 k) (off8_eq k) _ _).trans hww
  rw [hv]
  sl_exec (disch := first | exact chk2_of hcanonw | assumption)
  sl_step
  iapply Hk
  isplitl [H14]; · iexact H14
  isplitr [HO]; swap; · iexact HO
  isplitl [HC0 HT0]
  · iapply (fly_intro c (cell (slot1 k) 0) (sSgu (slot1 k)) (rSgu (expert w)) (tok (slot1 k)) fS _ g0 _ rfl rfl)
    isplitl [HC0]; · iexact HC0
    iexact HT0
  isplitl [HC1 HT1]
  · iapply (fly_intro c (cell (slot1 k) 1) (sWgu (slot1 k)) (rWgu (expert w)) (tok (slot1 k)) fW _ g1 _ rfl rfl)
    isplitl [HC1]; · iexact HC1
    iexact HT1
  isplitl [HC2 HT2]
  · iapply (fly_intro c (cell (slot1 k) 2) (sSd (slot1 k)) (rSd (expert w)) (tok (slot1 k)) fT _ g2 _ rfl rfl)
    isplitl [HC2]; · iexact HC2
    iexact HT2
  · iapply (fly_intro c (cell (slot1 k) 3) (sWd (slot1 k)) (rWd (expert w)) (tok (slot1 k)) fD _ g3 _ rfl rfl)
    isplitl [HC3]; · iexact HC3
    iexact HT3

end Cert.Kernel.Hand

end
-- ==== Proof.Hand.Kernel.Trip3.lean ====
module

public import proofs.«01_k».proof.Proof.Hand.Kernel.Res
public import Idealize.ShloMosaic.Lib.Pipeline.TableIdle

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

def trip3 (c : Dev nD)
    (arg0 : Memref sig .tc .smem S64 .i32) (harg0 : arg0.IsWhole) (arg1 : Memref sig .tc .vmem S32x2 .i32) (harg1 : arg1.IsWhole)
    (arg2 : Memref sig .tc .vmem S32x2 .f32) (harg2 : arg2.IsWhole) (arg3 : Memref sig .tc .vmem S32x3072 .bf16) (harg3 : arg3.IsWhole)
    (arg8 : Memref sig .tc .vmem S32x3072 .bf16) (harg8 : arg8.IsWhole)
    (h4 : hWgu.IsWhole) (h5 : hSgu.IsWhole) (h6 : hWd.IsWhole) (h7 : hSd.IsWhole)
    (h9 : bWgu.IsWhole) (h10 : bSgu.IsWhole) (h11 : bWd.IsWhole) (h12 : bSd.IsWhole) (h13 : bAcc.IsWhole) (h14 : bAct.IsWhole)
    (hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (z : BitVec 32) (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips)
    (f1 : Bf (F := F) c arg1) (f2 : Bf (F := F) c arg2) (f3 : Bf (F := F) c arg3) (f13 : Bf (F := F) c bAcc) (f14 : Bf (F := F) c bAct)
    (gw : Bf (F := F) c (sWgu (slot3 k))) (gs : Bf (F := F) c (sSgu (slot3 k))) (gv : Bf (F := F) c (sWd (slot3 k))) (gt : Bf (F := F) c (sSd (slot3 k)))
    (hword : (word c f14 (slot3 k)).toNat < 8) (e : Fin 8) (q : PosShare TreeShare)
    (r0 : Bf (F := F) c (rSgu e)) (r1 : Bf (F := F) c (rWgu e)) (r2 : Bf (F := F) c (rSd e)) (r3 : Bf (F := F) c (rWd e)) :
    { L : Bf (F := F) c bAcc //
      ∀ (W : Waits sig Unit) (K : PUnit → sProp 𝕄),
      iprop(own c arg1 fullShare f1 ∗ own c arg2 fullShare f2 ∗ own c arg3 fullShare f3
        ∗ own c bAcc fullShare f13 ∗ own c bAct fullShare f14
        ∗ Transfers.Flight EC (c : Thread nD τ) (.dma (cell (slot3 k) 0).sem) () (sSgu (slot3 k)).view.dmaCredit iprop(own c (sSgu (slot3 k)) fullShare gs ∗ own c (rSgu e) q r0)
        ∗ Transfers.Flight EC (c : Thread nD τ) (.dma (cell (slot3 k) 1).sem) () (sWgu (slot3 k)).view.dmaCredit iprop(own c (sWgu (slot3 k)) fullShare gw ∗ own c (rWgu e) q r1)
        ∗ Transfers.Flight EC (c : Thread nD τ) (.dma (cell (slot3 k) 2).sem) () (sSd (slot3 k)).view.dmaCredit iprop(own c (sSd (slot3 k)) fullShare gt ∗ own c (rSd e) q r2)
        ∗ Transfers.Flight EC (c : Thread nD τ) (.dma (cell (slot3 k) 3).sem) () (sWd (slot3 k)).view.dmaCredit iprop(own c (sWd (slot3 k)) fullShare gv ∗ own c (rWd e) q r3)
        ∗ owes (c : Thread nD τ) 0 W
        ∗ (iprop(own c arg1 fullShare f1 ∗ own c arg2 fullShare f2 ∗ own c arg3 fullShare f3 ∗ own c bAcc fullShare L ∗ own c bAct fullShare f14
            ∗ (own c (sSgu (slot3 k)) fullShare gs ∗ semVal ((c : Thread nD τ), SemLoc.dma (cell (slot3 k) 0).sem) 0 ∗ own c (rSgu e) q r0)
            ∗ (own c (sWgu (slot3 k)) fullShare gw ∗ semVal ((c : Thread nD τ), SemLoc.dma (cell (slot3 k) 1).sem) 0 ∗ own c (rWgu e) q r1)
            ∗ (own c (sSd (slot3 k)) fullShare gt ∗ semVal ((c : Thread nD τ), SemLoc.dma (cell (slot3 k) 2).sem) 0 ∗ own c (rSd e) q r2)
            ∗ (own c (sWd (slot3 k)) fullShare gv ∗ semVal ((c : Thread nD τ), SemLoc.dma (cell (slot3 k) 3).sem) 0 ∗ own c (rWd e) q r3)
            ∗ ∃ W', owes (c : Thread nD τ) 0 W') -∗ K ⟨⟩))
      ⊢ wp frame (wpE (defs₀ (F := F)) Variants.none (c : Thread nD τ) none) Set.univ
          (k0_t3_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z k ()) K } := by
  refine ⟨?_, fun W K => ?run⟩
  case run =>
    unfold k0_t3_body
    iintro ⟨H1, H2, H3, H13, H14, HF0, HF1, HF2, HF3, HO, Hk⟩
    sl_exec_parts (disch := exact chk4_of (lt_of_eq_of_lt (congrArg BitVec.toNat (readAct c f14 (j := slot3 k) (off34_eq k) _ _)) hword))
    sl_step
    iapply Hk
    isplitl [H1]; · iexact H1
    isplitl [H2]; · iexact H2
    isplitl [H3]; · iexact H3
    isplitl [H13]; · iexact H13
    isplitl [H14]; · iexact H14
    isplitl [HF0_dst HF0 HF0_src]
    · isplitl [HF0_dst]; · iexact HF0_dst
      isplitl [HF0]; · iexact HF0
      iexact HF0_src
    isplitl [HF1_dst HF1 HF1_src]
    · isplitl [HF1_dst]; · iexact HF1_dst
      isplitl [HF1]; · iexact HF1
      iexact HF1_src
    isplitl [HF2_dst HF2 HF2_src]
    · isplitl [HF2_dst]; · iexact HF2_dst
      isplitl [HF2]; · iexact HF2
      iexact HF2_src
    isplitl [HF3_dst HF3 HF3_src]
    · isplitl [HF3_dst]; · iexact HF3_dst
      isplitl [HF3]; · iexact HF3
      iexact HF3_src
    iexists _; iexact HO

end Cert.Kernel.Hand

end
-- ==== Proof.Hand.Kernel.Loops.lean ====
module

public import proofs.«01_k».proof.Proof.Hand.Kernel.Trip1
public import proofs.«01_k».proof.Proof.Hand.Kernel.Trip3

/-! The two loops: the first sends every active expert's rows to its slot, the second waits for each slot in turn and adds
the expert's product to the accumulator.  Slot `j` holds expert `ex j`. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

variable (c : Dev nD)
    (arg0 : Memref sig .tc .smem S64 .i32) (harg0 : arg0.IsWhole) (arg1 : Memref sig .tc .vmem S32x2 .i32) (harg1 : arg1.IsWhole)
    (arg2 : Memref sig .tc .vmem S32x2 .f32) (harg2 : arg2.IsWhole) (arg3 : Memref sig .tc .vmem S32x3072 .bf16) (harg3 : arg3.IsWhole)
    (arg8 : Memref sig .tc .vmem S32x3072 .bf16) (harg8 : arg8.IsWhole)
    (h4 : hWgu.IsWhole) (h5 : hSgu.IsWhole) (h6 : hWd.IsWhole) (h7 : hSd.IsWhole)
    (h9 : bWgu.IsWhole) (h10 : bSgu.IsWhole) (h11 : bWd.IsWhole) (h12 : bSd.IsWhole) (h13 : bAcc.IsWhole) (h14 : bAct.IsWhole)
    (hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189)

/-- The accumulator a trip leaves depends on the table of active experts at the trip's own entry alone. -/
theorem trip3_word (z : BitVec 32) (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips)
    (f1 : Bf (F := F) c arg1) (f2 : Bf (F := F) c arg2) (f3 : Bf (F := F) c arg3) (f13 : Bf (F := F) c bAcc) (f14 f14' : Bf (F := F) c bAct)
    (gw : Bf (F := F) c (sWgu (slot3 k))) (gs : Bf (F := F) c (sSgu (slot3 k))) (gv : Bf (F := F) c (sWd (slot3 k))) (gt : Bf (F := F) c (sSd (slot3 k)))
    (h : (word c f14 (slot3 k)).toNat < 8) (h' : (word c f14' (slot3 k)).toNat < 8) (e : Fin 8) (q : PosShare TreeShare)
    (r0 : Bf (F := F) c (rSgu e)) (r1 : Bf (F := F) c (rWgu e)) (r2 : Bf (F := F) c (rSd e)) (r3 : Bf (F := F) c (rWd e))
    (hh : word c f14 (slot3 k) = word c f14' (slot3 k))
    (e' : Fin 8) (q' : PosShare TreeShare) (r0' : Bf (F := F) c (rSgu e')) (r1' : Bf (F := F) c (rWgu e')) (r2' : Bf (F := F) c (rSd e')) (r3' : Bf (F := F) c (rWd e')) (z' : BitVec 32) :
    (trip3 c arg0 harg0 arg1 harg1 arg2 harg2 arg3 harg3 arg8 harg8 h4 h5 h6 h7 h9 h10 h11 h12 h13 h14 hw1 z k f1 f2 f3 f13 f14 gw gs gv gt h e q r0 r1 r2 r3).1
      = (trip3 c arg0 harg0 arg1 harg1 arg2 harg2 arg3 harg3 arg8 harg8 h4 h5 h6 h7 h9 h10 h11 h12 h13 h14 hw1 z' k f1 f2 f3 f13 f14' gw gs gv gt h' e' q' r0' r1' r2' r3').1 := by
  have e1 : trip3.sl.r_1 c hw1 k f14 = trip3.sl.r_1 c hw1 k f14' :=
    (readAct c f14 (j := slot3 k) (off34_eq k) _ _).trans (hh.trans (readAct c f14' (j := slot3 k) (off34_eq k) _ _).symm)
  delta trip3
  dsimp only
  unfold trip3.sl.H13_11 trip3.sl.H13_10 trip3.sl.H13_9 trip3.sl.H13_8 trip3.sl.H13_7 trip3.sl.H13_6 trip3.sl.H13_5 trip3.sl.H13_4 trip3.sl.H13_3 trip3.sl.H13_2 trip3.sl.H13_1
  unfold trip3.sl.r_331 trip3.sl.r_315 trip3.sl.r_314 trip3.sl.r_300 trip3.sl.r_298 trip3.sl.r_297
  rw [e1]

/-- The table that names one expert everywhere. -/
def one14 (e : Fin 8) : Bf (F := F) c bAct := bAct.view.rep (Val := Elt F) (fun _ => (BitVec.ofNat 32 e.val : BitVec 32))
theorem one14_word (e j : Fin 8) : word c (one14 (F := F) c e) j = BitVec.ofNat 32 e.val := by
  unfold word one14; rw [View.read_rep]
theorem ofNat_lt (e : Fin 8) : (BitVec.ofNat 32 e.val).toNat < 8 := by
  rw [BitVec.toNat_ofNat, Nat.mod_eq_of_lt (by have := e.isLt; omega)]; exact e.isLt
theorem expert_ofNat (e : Fin 8) : expert (BitVec.ofNat 32 e.val) = e :=
  Fin.ext (by show (BitVec.ofNat 32 e.val).toNat % 8 = e.val; rw [BitVec.toNat_ofNat]; have := e.isLt; omega)

/-- What trip `k` makes of the accumulator `f13` when slot `k` holds expert `e`. -/
def L3 (f1 : Bf (F := F) c arg1) (f2 : Bf (F := F) c arg2) (f3 : Bf (F := F) c arg3)
    (fW : Bf (F := F) c hWgu) (fS : Bf (F := F) c hSgu) (fD : Bf (F := F) c hWd) (fT : Bf (F := F) c hSd)
    (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (f13 : Bf (F := F) c bAcc) (e : Fin 8) : Bf (F := F) c bAcc :=
  (trip3 c arg0 harg0 arg1 harg1 arg2 harg2 arg3 harg3 arg8 harg8 h4 h5 h6 h7 h9 h10 h11 h12 h13 h14 hw1 0#32 k f1 f2 f3 f13 (one14 c e)
    ((sWgu (slot3 k)).view.rep ((rWgu e).view.read (Elt F) fW)) ((sSgu (slot3 k)).view.rep ((rSgu e).view.read (Elt F) fS))
    ((sWd (slot3 k)).view.rep ((rWd e).view.read (Elt F) fD)) ((sSd (slot3 k)).view.rep ((rSd e).view.read (Elt F) fT))
    (by rw [one14_word]; exact ofNat_lt e) e fullShare fS fW fT fD).1

variable (f1 : Bf (F := F) c arg1) (f2 : Bf (F := F) c arg2) (f3 : Bf (F := F) c arg3)
    (fW : Bf (F := F) c hWgu) (fS : Bf (F := F) c hSgu) (fD : Bf (F := F) c hWd) (fT : Bf (F := F) c hSd)

theorem trip3_free (z : BitVec 32) (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (f13 : Bf (F := F) c bAcc) (f14 : Bf (F := F) c bAct) (e : Fin 8)
    (hex : word c f14 (slot3 k) = BitVec.ofNat 32 e.val) (W : Waits sig Unit) (K : PUnit → sProp 𝕄) :
      iprop(own c arg1 fullShare f1 ∗ own c arg2 fullShare f2 ∗ own c arg3 fullShare f3
        ∗ own c bAcc fullShare f13 ∗ own c bAct fullShare f14 ∗ Fly c fW fS fD fT (slot3 k) e ∗ owes (c : Thread nD τ) 0 W
        ∗ (iprop(own c arg1 fullShare f1 ∗ own c arg2 fullShare f2 ∗ own c arg3 fullShare f3
            ∗ own c bAcc fullShare (L3 c arg0 harg0 arg1 harg1 arg2 harg2 arg3 harg3 arg8 harg8 h4 h5 h6 h7 h9 h10 h11 h12 h13 h14 hw1 f1 f2 f3 fW fS fD fT k f13 e)
            ∗ own c bAct fullShare f14 ∗ Free c fW fS fD fT (slot3 k) ∗ ∃ W', owes (c : Thread nD τ) 0 W') -∗ K ⟨⟩))
      ⊢ wp frame (wpE (defs₀ (F := F)) Variants.none (c : Thread nD τ) none) Set.univ
          (k0_t3_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z k ()) K := by
  have hL := trip3_word c arg0 harg0 arg1 harg1 arg2 harg2 arg3 harg3 arg8 harg8 h4 h5 h6 h7 h9 h10 h11 h12 h13 h14 hw1 z k f1 f2 f3 f13 f14 (one14 c e)
    ((sWgu (slot3 k)).view.rep ((rWgu e).view.read (Elt F) fW)) ((sSgu (slot3 k)).view.rep ((rSgu e).view.read (Elt F) fS))
    ((sWd (slot3 k)).view.rep ((rWd e).view.read (Elt F) fD)) ((sSd (slot3 k)).view.rep ((rSd e).view.read (Elt F) fT))
    (by rw [hex]; exact ofNat_lt e) (by rw [one14_word]; exact ofNat_lt e) e (tok (slot3 k)) fS fW fT fD (by rw [hex, one14_word]) e fullShare fS fW fT fD 0#32
  unfold L3
  rw [← hL]
  unfold Fly flyOne
  iintro ⟨H1, H2, H3, H13, H14, ⟨⟨F0, R0⟩, ⟨F1, R1⟩, ⟨F2, R2⟩, ⟨F3, R3⟩⟩, HO, Hk⟩
  iapply ((trip3 c arg0 harg0 arg1 harg1 arg2 harg2 arg3 harg3 arg8 harg8 h4 h5 h6 h7 h9 h10 h11 h12 h13 h14 hw1 z k f1 f2 f3 f13 f14
    ((sWgu (slot3 k)).view.rep ((rWgu e).view.read (Elt F) fW)) ((sSgu (slot3 k)).view.rep ((rSgu e).view.read (Elt F) fS))
    ((sWd (slot3 k)).view.rep ((rWd e).view.read (Elt F) fD)) ((sSd (slot3 k)).view.rep ((rSd e).view.read (Elt F) fT))
    (by rw [hex]; exact ofNat_lt e) e (tok (slot3 k)) fS fW fT fD).2 W K)
  isplitl [H1]; · iexact H1
  isplitl [H2]; · iexact H2
  isplitl [H3]; · iexact H3
  isplitl [H13]; · iexact H13
  isplitl [H14]; · iexact H14
  isplitl [F0]; · iexact F0
  isplitl [F1]; · iexact F1
  isplitl [F2]; · iexact F2
  isplitl [F3]; · iexact F3
  isplitl [HO]; · iexact HO
  iintro ⟨H1, H2, H3, H13, H14, ⟨G0, C0, S0⟩, ⟨G1, C1, S1⟩, ⟨G2, C2, S2⟩, ⟨G3, C3, S3⟩, HO⟩
  iapply Hk
  isplitl [H1]; · iexact H1
  isplitl [H2]; · iexact H2
  isplitl [H3]; · iexact H3
  isplitl [H13]; · iexact H13
  isplitl [H14]; · iexact H14
  isplitr [HO]; swap; · iexact HO
  unfold Free freeOne
  isplitl [G0 C0 S0 R0]
  · isplitl [G0]; · iexists _; iexact G0
    isplitl [C0]; · iexact C0
    iapply (lendSgu c e (tok (slot3 k)) fS).2
    isplitl [S0] <;> iassumption
  isplitl [G1 C1 S1 R1]
  · isplitl [G1]; · iexists _; iexact G1
    isplitl [C1]; · iexact C1
    iapply (lendWgu c e (tok (slot3 k)) fW).2
    isplitl [S1] <;> iassumption
  isplitl [G2 C2 S2 R2]
  · isplitl [G2]; · iexists _; iexact G2
    isplitl [C2]; · iexact C2
    iapply (lendSd c e (tok (slot3 k)) fT).2
    isplitl [S2] <;> iassumption
  · isplitl [G3]; · iexists _; iexact G3
    isplitl [C3]; · iexact C3
    iapply (lendWd c e (tok (slot3 k)) fD).2
    isplitl [S3] <;> iassumption

/-- One element out of eight, and what puts it back changed. -/
theorem swap_one (j : Fin 8) (P Q : Fin 8 → sProp 𝕄) (h : ∀ i, i ≠ j → P i = Q i) :
    bigSep Finset.univ P ⊢ iprop(P j ∗ (Q j -∗ bigSep Finset.univ Q)) := by
  have eP : bigSep Finset.univ P = iprop(P j ∗ bigSep (Finset.univ.erase j) P) := BI.bigSep_univ_split j
  have eQ : bigSep Finset.univ Q = iprop(Q j ∗ bigSep (Finset.univ.erase j) Q) := BI.bigSep_univ_split j
  have eR : bigSep (Finset.univ.erase j) P = bigSep (Finset.univ.erase j) Q := BI.bigSep_congr (fun i hi => h i (Finset.ne_of_mem_erase hi))
  rw [eP, eQ, eR]
  iintro ⟨H, HR⟩
  isplitl [H]; · iexact H
  iintro HQ
  isplitl [HQ] <;> iassumption

/-- The slots in the copying loop before trip `k`. -/
def slots1 (ex : Fin 8 → Fin 8) (k : ℕ) (j : Fin 8) : sProp 𝕄 :=
  if j.val < k then Fly c fW fS fD fT j (ex j) else Free c fW fS fD fT j
/-- The slots in the computing loop before trip `k` of `n`. -/
def slots3 (ex : Fin 8 → Fin 8) (n k : ℕ) (j : Fin 8) : sProp 𝕄 :=
  if k ≤ j.val ∧ j.val < n then Fly c fW fS fD fT j (ex j) else Free c fW fS fD fT j

theorem slots_mid (ex : Fin 8 → Fin 8) (n : ℕ) : slots1 (F := F) c fW fS fD fT ex n = slots3 c fW fS fD fT ex n 0 := by
  funext j; unfold slots1 slots3; simp only [Nat.zero_le, true_and]
theorem slots_start (ex : Fin 8 → Fin 8) : slots1 (F := F) c fW fS fD fT ex 0 = Free c fW fS fD fT := by
  funext j; unfold slots1; exact if_neg (by omega)
theorem slots_end (ex : Fin 8 → Fin 8) (n : ℕ) : slots3 (F := F) c fW fS fD fT ex n n = Free c fW fS fD fT := by
  funext j; unfold slots3; exact if_neg (by omega)

/-- The accumulator before trip `k`, from `a`. -/
def accAt (ex : Fin 8 → Fin 8) (a : Bf (F := F) c bAcc) : ℕ → Bf (F := F) c bAcc
  | 0 => a
  | k + 1 => if h : k < (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips then
      L3 c arg0 harg0 arg1 harg1 arg2 harg2 arg3 harg3 arg8 harg8 h4 h5 h6 h7 h9 h10 h11 h12 h13 h14 hw1 f1 f2 f3 fW fS fD fT ⟨k, h⟩ (accAt ex a k) (ex (slot3 ⟨k, h⟩))
    else accAt ex a k

/-- The copying loop. -/
theorem loop1 (z z' z'' : BitVec 32) (f14 : Bf (F := F) c bAct) (ex : Fin 8 → Fin 8)
    (hex : ∀ k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, word c f14 (slot1 k) = BitVec.ofNat 32 (ex (slot1 k)).val) (W : Waits sig Unit)
    {β : Type} (kk : PUnit → Prog (TpuEff nD τ sig (Elt F) Λ₀ .tc) β) (Q : β → sProp 𝕄) :
    iprop(own c bAct fullShare f14 ∗ bigSep Finset.univ (slots1 c fW fS fD fT ex 0) ∗ owes (c : Thread nD τ) 0 W
      ∗ (iprop(own c bAct fullShare f14 ∗ bigSep Finset.univ (slots1 c fW fS fD fT ex (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) ∗ owes (c : Thread nD τ) 0 W)
          -∗ wp frame (wpE (defs₀ (F := F)) Variants.none (c : Thread nD τ) none) Set.univ (kk ⟨⟩) Q))
      ⊢ wp frame (wpE (defs₀ (F := F)) Variants.none (c : Thread nD τ) none) Set.univ
          (Scf.Loop.for (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1) ⟨⟩ (k0_t1_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z z' z'') >>= kk) Q := by
  iintro ⟨H14, HS, HO, Hk⟩
  iapply (Scf.wp_for_bind frame (wpE (defs₀ (F := F)) Variants.none (c : Thread nD τ) none) Set.univ (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).lb (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).ub (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).st (k0_t1_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1) (⟨⟩ : PUnit)
    (k0_t1_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z z' z'')
    (fun k _ => iprop(own c bAct fullShare f14 ∗ bigSep Finset.univ (slots1 c fW fS fD fT ex k) ∗ owes (c : Thread nD τ) 0 W)) ?_) $$ [H14 HS HO]
  · rintro k ⟨⟩
    have e0 : slots1 (F := F) c fW fS fD fT ex k.val (slot1 k) = Free c fW fS fD fT (slot1 k) := by
      unfold slots1; exact if_neg (by show ¬ k.val < k.val; omega)
    have e1 : slots1 (F := F) c fW fS fD fT ex (k.val + 1) (slot1 k) = Fly c fW fS fD fT (slot1 k) (ex (slot1 k)) := by
      unfold slots1; exact if_pos (by show k.val < k.val + 1; omega)
    have hsw := swap_one (F := F) (slot1 k) (slots1 c fW fS fD fT ex k.val) (slots1 c fW fS fD fT ex (k.val + 1)) (by
      intro i hi
      have : i.val ≠ k.val := fun h => hi (Fin.ext h)
      unfold slots1
      by_cases h : i.val < k.val
      · rw [if_pos h, if_pos (by omega)]
      · rw [if_neg h, if_neg (by omega)])
    rw [e0, e1] at hsw
    have ht := trip1 c arg0 harg0 arg1 harg1 arg2 harg2 arg3 harg3 arg8 harg8 h4 h5 h6 h7 h9 h10 h11 h12 h13 h14 hw1 z z' z'' k f14 fW fS fD fT _ (hex k) (ofNat_lt _) W
      (fun _ => iprop(own c bAct fullShare f14 ∗ bigSep Finset.univ (slots1 c fW fS fD fT ex (k.val + 1)) ∗ owes (c : Thread nD τ) 0 W))
    rw [expert_ofNat] at ht
    iintro ⟨H14, HS, HO⟩
    ihave HS' := hsw $$ HS
    icases HS' with ⟨HF, HB⟩
    iapply ht
    isplitl [H14]; · iexact H14
    isplitl [HF]; · iexact HF
    isplitl [HO]; · iexact HO
    iintro ⟨H14, HF, HO⟩
    isplitl [H14]; · iexact H14
    isplitr [HO]; swap; · iexact HO
    iapply HB $$ HF
  · isplitl [H14]; · iexact H14
    isplitl [HS] <;> iassumption
  iintro %_ H
  iapply Hk $$ H

/-- The computing loop. -/
theorem loop3 (z : BitVec 32) (f14 : Bf (F := F) c bAct) (ex : Fin 8 → Fin 8) (a : Bf (F := F) c bAcc)
    (hex : ∀ k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, word c f14 (slot3 k) = BitVec.ofNat 32 (ex (slot3 k)).val) (W : Waits sig Unit)
    {β : Type} (kk : PUnit → Prog (TpuEff nD τ sig (Elt F) Λ₀ .tc) β) (Q : β → sProp 𝕄) :
    iprop(own c arg1 fullShare f1 ∗ own c arg2 fullShare f2 ∗ own c arg3 fullShare f3 ∗ own c bAcc fullShare a
      ∗ own c bAct fullShare f14 ∗ bigSep Finset.univ (slots3 c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips 0) ∗ owes (c : Thread nD τ) 0 W
      ∗ (iprop(own c arg1 fullShare f1 ∗ own c arg2 fullShare f2 ∗ own c arg3 fullShare f3
            ∗ own c bAcc fullShare (accAt c arg0 harg0 arg1 harg1 arg2 harg2 arg3 harg3 arg8 harg8 h4 h5 h6 h7 h9 h10 h11 h12 h13 h14 hw1 f1 f2 f3 fW fS fD fT ex a (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips)
            ∗ own c bAct fullShare f14 ∗ bigSep Finset.univ (slots3 c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) ∗ ∃ W', owes (c : Thread nD τ) 0 W')
          -∗ wp frame (wpE (defs₀ (F := F)) Variants.none (c : Thread nD τ) none) Set.univ (kk ⟨⟩) Q))
      ⊢ wp frame (wpE (defs₀ (F := F)) Variants.none (c : Thread nD τ) none) Set.univ
          (Scf.Loop.for (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1) ⟨⟩ (k0_t3_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z) >>= kk) Q := by
  iintro ⟨H1, H2, H3, H13, H14, HS, HO, Hk⟩
  iapply (Scf.wp_for_bind frame (wpE (defs₀ (F := F)) Variants.none (c : Thread nD τ) none) Set.univ (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).lb (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).ub (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).st (k0_t3_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1) (⟨⟩ : PUnit)
    (k0_t3_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z)
    (fun k _ => iprop(own c arg1 fullShare f1 ∗ own c arg2 fullShare f2 ∗ own c arg3 fullShare f3
            ∗ own c bAcc fullShare (accAt c arg0 harg0 arg1 harg1 arg2 harg2 arg3 harg3 arg8 harg8 h4 h5 h6 h7 h9 h10 h11 h12 h13 h14 hw1 f1 f2 f3 fW fS fD fT ex a k)
            ∗ own c bAct fullShare f14 ∗ bigSep Finset.univ (slots3 c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips k) ∗ ∃ W', owes (c : Thread nD τ) 0 W')) ?_) $$ [H1 H2 H3 H13 H14 HS HO]
  · rintro k ⟨⟩
    have hk : k.val < (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips := k.isLt
    have e0 : slots3 (F := F) c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips k.val (slot3 k) = Fly c fW fS fD fT (slot3 k) (ex (slot3 k)) := by
      unfold slots3; exact if_pos ⟨le_refl _, hk⟩
    have e1 : slots3 (F := F) c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips (k.val + 1) (slot3 k) = Free c fW fS fD fT (slot3 k) := by
      unfold slots3; exact if_neg (fun h => by have h' : k.val + 1 ≤ k.val := h.1; omega)
    have hsw := swap_one (F := F) (slot3 k) (slots3 c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips k.val) (slots3 c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips (k.val + 1)) (by
      intro i hi
      have : i.val ≠ k.val := fun h => hi (Fin.ext h)
      unfold slots3
      by_cases h : k.val ≤ i.val ∧ i.val < (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips
      · rw [if_pos h, if_pos (by omega)]
      · rw [if_neg h, if_neg (by omega)])
    rw [e0, e1] at hsw
    have ea : accAt c arg0 harg0 arg1 harg1 arg2 harg2 arg3 harg3 arg8 harg8 h4 h5 h6 h7 h9 h10 h11 h12 h13 h14 hw1 f1 f2 f3 fW fS fD fT ex a (k.val + 1)
        = L3 c arg0 harg0 arg1 harg1 arg2 harg2 arg3 harg3 arg8 harg8 h4 h5 h6 h7 h9 h10 h11 h12 h13 h14 hw1 f1 f2 f3 fW fS fD fT k
            (accAt c arg0 harg0 arg1 harg1 arg2 harg2 arg3 harg3 arg8 harg8 h4 h5 h6 h7 h9 h10 h11 h12 h13 h14 hw1 f1 f2 f3 fW fS fD fT ex a k.val) (ex (slot3 k)) := by
      rw [accAt, dif_pos hk]
    rw [ea]
    iintro ⟨H1, H2, H3, H13, H14, HS, ⟨%W, HO⟩⟩
    ihave HS' := hsw $$ HS
    icases HS' with ⟨HF, HB⟩
    iapply (trip3_free c arg0 harg0 arg1 harg1 arg2 harg2 arg3 harg3 arg8 harg8 h4 h5 h6 h7 h9 h10 h11 h12 h13 h14 hw1 f1 f2 f3 fW fS fD fT z k _ f14 (ex (slot3 k)) (hex k) W)
    isplitl [H1]; · iexact H1
    isplitl [H2]; · iexact H2
    isplitl [H3]; · iexact H3
    isplitl [H13]; · iexact H13
    isplitl [H14]; · iexact H14
    isplitl [HF]; · iexact HF
    isplitl [HO]; · iexact HO
    iintro ⟨H1, H2, H3, H13, H14, HF, HO⟩
    isplitl [H1]; · iexact H1
    isplitl [H2]; · iexact H2
    isplitl [H3]; · iexact H3
    isplitl [H13]; · iexact H13
    isplitl [H14]; · iexact H14
    isplitr [HO]; swap; · iexact HO
    iapply HB $$ HF
  · isplitl [H1]; · iexact H1
    isplitl [H2]; · iexact H2
    isplitl [H3]; · iexact H3
    isplitl [H13]; · iexact H13
    isplitl [H14]; · iexact H14
    isplitl [HS]; · iexact HS
    iexists _; iexact HO
  iintro %_ H
  iapply Hk $$ H

/-- A loop of no trips is skipped. -/
theorem loop0 (l : Scf.Loop 32) (hok : l.OK) (h0 : l.trips = 0) (body : Fin l.trips → PUnit → Prog (TpuEff nD τ sig (Elt F) Λ₀ .tc) PUnit)
    {β : Type} (kk : PUnit → Prog (TpuEff nD τ sig (Elt F) Λ₀ .tc) β) (Q : β → sProp 𝕄) :
    wp frame (wpE (defs₀ (F := F)) Variants.none (c : Thread nD τ) none) Set.univ (kk ⟨⟩) Q
      ⊢ wp frame (wpE (defs₀ (F := F)) Variants.none (c : Thread nD τ) none) Set.univ (Scf.Loop.for l hok ⟨⟩ body >>= kk) Q := by
  iintro Hk
  iapply (Scf.wp_for_bind frame (wpE (defs₀ (F := F)) Variants.none (c : Thread nD τ) none) Set.univ l.lb l.ub l.st hok (⟨⟩ : PUnit) body
    (fun _ _ => iprop(emp)) (fun k _ => (no_trip h0 k).elim)) $$ []
  · iempintro
  iintro %_ -
  iexact Hk

end Cert.Kernel.Hand

end
-- ==== Proof.Hand.Kernel.Body.lean ====
module

public import proofs.«01_k».proof.Proof.Hand.Kernel.Loops
public import Idealize.ShloMosaic.Lib.CellWrites
public import Idealize.ShloMosaic.Lib.VecWindow

/-! One run of the whole kernel. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)
    (arg0 : Memref sig .tc .smem S64 .i32) (harg0 : arg0.IsWhole) (arg1 : Memref sig .tc .vmem S32x2 .i32) (harg1 : arg1.IsWhole)
    (arg2 : Memref sig .tc .vmem S32x2 .f32) (harg2 : arg2.IsWhole) (arg3 : Memref sig .tc .vmem S32x3072 .bf16) (harg3 : arg3.IsWhole)
    (arg8 : Memref sig .tc .vmem S32x3072 .bf16) (harg8 : arg8.IsWhole)
    (h4 : hWgu.IsWhole) (h5 : hSgu.IsWhole) (h6 : hWd.IsWhole) (h7 : hSd.IsWhole)
    (h9 : bWgu.IsWhole) (h10 : bSgu.IsWhole) (h11 : bWd.IsWhole) (h12 : bSd.IsWhole) (h13 : bAcc.IsWhole) (h14 : bAct.IsWhole)

variable (f0 : Bf (F := F) c arg0) (f1 : Bf (F := F) c arg1) (f2 : Bf (F := F) c arg2) (f3 : Bf (F := F) c arg3)
    (fW : Bf (F := F) c hWgu) (fS : Bf (F := F) c hSgu) (fD : Bf (F := F) c hWd) (fT : Bf (F := F) c hSd)

theorem ite_ite_of {p : Prop} [Decidable p] {a a' : BitVec 32} {b b' : Fin 8} (h : p → a = BitVec.ofNat 32 b.val) (h' : ¬p → a' = BitVec.ofNat 32 b'.val) :
    (if p then a else a') = BitVec.ofNat 32 (if p then b else b').val := by
  by_cases hp : p
  · rw [if_pos hp, if_pos hp]; exact h hp
  · rw [if_neg hp, if_neg hp]; exact h' hp

/-- The expert of slot `j`: the last one whose place in the list is `j`. -/
def exOf (m : BitVec 32) (j : Fin 8) : Fin 8 :=
  if j.val = (act m 7).toNat then 7 else if j.val = (act m 6).toNat then 6 else if j.val = (act m 5).toNat then 5
  else if j.val = (act m 4).toNat then 4 else if j.val = (act m 3).toNat then 3 else if j.val = (act m 2).toNat then 2
  else if j.val = (act m 1).toNat then 1 else 0

/-- The same of the sixty-four ids. -/
def exV (v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32) : Fin 8 → Fin 8 := exOf (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189])

section Stores
variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

/-- The list the eight stores leave, at every place in use. -/
theorem word_stores (g : Bf (F := F) c bAct) (i0 i1 i2 i3 i4 i5 i6 i7) (j : Fin 8) (hj : j.val < (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8).toNat) :
    word c (bAct.view.writes (Elt F) g
      ((⟨Rect.unit (s := S8) (k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i7, fun _ => (7#32 : BitVec 32)⟩ : View.Piece (Elt F) S8 .i32) :: ⟨Rect.unit (s := S8) (k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i6, fun _ => (6#32 : BitVec 32)⟩
        :: ⟨Rect.unit (s := S8) (k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i5, fun _ => (5#32 : BitVec 32)⟩ :: ⟨Rect.unit (s := S8) (k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i4, fun _ => (4#32 : BitVec 32)⟩
        :: ⟨Rect.unit (s := S8) (k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i3, fun _ => (3#32 : BitVec 32)⟩ :: ⟨Rect.unit (s := S8) (k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i2, fun _ => (2#32 : BitVec 32)⟩
        :: ⟨Rect.unit (s := S8) (k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i1, fun _ => (1#32 : BitVec 32)⟩ :: [⟨Rect.unit (s := S8) ![0] S1.size i0, fun _ => (0#32 : BitVec 32)⟩])) j
      = BitVec.ofNat 32 (exV v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 j).val := by
  have b := fun e he => act_succ (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) e he
  have b0 := b 0 (by omega); have b1 := b 1 (by omega); have b2 := b 2 (by omega); have b3 := b 3 (by omega)
  have b4 := b 4 (by omega); have b5 := b 5 (by omega); have b6 := b 6 (by omega); have b7 := b 7 (by omega)
  have z0 : (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 0).toNat = 0 := rfl
  have l := fun e => bit_le (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) e
  have l0 := l 0; have l1 := l 1; have l2 := l 2; have l3 := l 3; have l4 := l 4; have l5 := l 5; have l6 := l 6; have l7 := l 7
  generalize hA : act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) = A at *
  generalize hB : bit (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) = B at *
  unfold word exV exOf
  rw [hA]
  refine (View.read_writes_cons_cell (Val := Elt F) (e := .i32) bAct.view g i7 (7#32 : BitVec 32) _ _).trans ?_
  rw [off7_eq, hA]
  refine ite_ite_of (fun _ => rfl) fun n7 => ?_
  refine (View.read_writes_cons_cell (Val := Elt F) (e := .i32) bAct.view g i6 (6#32 : BitVec 32) _ _).trans ?_
  rw [off6_eq, hA]
  refine ite_ite_of (fun _ => rfl) fun n6 => ?_
  refine (View.read_writes_cons_cell (Val := Elt F) (e := .i32) bAct.view g i5 (5#32 : BitVec 32) _ _).trans ?_
  rw [off5_eq, hA]
  refine ite_ite_of (fun _ => rfl) fun n5 => ?_
  refine (View.read_writes_cons_cell (Val := Elt F) (e := .i32) bAct.view g i4 (4#32 : BitVec 32) _ _).trans ?_
  rw [off4_eq, hA]
  refine ite_ite_of (fun _ => rfl) fun n4 => ?_
  refine (View.read_writes_cons_cell (Val := Elt F) (e := .i32) bAct.view g i3 (3#32 : BitVec 32) _ _).trans ?_
  rw [off3_eq, hA]
  refine ite_ite_of (fun _ => rfl) fun n3 => ?_
  refine (View.read_writes_cons_cell (Val := Elt F) (e := .i32) bAct.view g i2 (2#32 : BitVec 32) _ _).trans ?_
  rw [off2_eq, hA]
  refine ite_ite_of (fun _ => rfl) fun n2 => ?_
  refine (View.read_writes_cons_cell (Val := Elt F) (e := .i32) bAct.view g i1 (1#32 : BitVec 32) _ _).trans ?_
  rw [off1_eq, hA]
  refine ite_ite_of (fun _ => rfl) fun n1 => ?_
  refine (View.read_writes_cons_cell (Val := Elt F) (e := .i32) bAct.view g i0 (0#32 : BitVec 32) _ _).trans ?_
  refine (if_pos ?_).trans rfl
  show j.val = 0
  have n7 : ¬ j.val = (A 7).toNat := n7
  have n6 : ¬ j.val = (A 6).toNat := n6
  have n5 : ¬ j.val = (A 5).toNat := n5
  have n4 : ¬ j.val = (A 4).toNat := n4
  have n3 : ¬ j.val = (A 3).toNat := n3
  have n2 : ¬ j.val = (A 2).toNat := n2
  have n1 : ¬ j.val = (A 1).toNat := n1
  clear b i0 i1 i2 i3 i4 i5 i6 i7
  simp only [Nat.reduceAdd] at b0 b1 b2 b3 b4 b5 b6 b7
  omega
end Stores

/-- Between the loops every slot in use is on its way. -/
theorem slots_turn {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32} (ex : Fin 8 → Fin 8) :
    (bigSep Finset.univ (slots1 (F := F) c fW fS fD fT ex (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : sProp 𝕄) ⊢ bigSep Finset.univ (slots3 c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips 0) := by
  rw [slots_mid, t1_trips]
/-- The accumulator at zero. -/
def acc0 : Bf (F := F) c bAcc := bAcc.view.rep (Val := Elt F) (k0_pay860 (F := F))

/-- The kernel on whole buffers: what it leaves in the result's buffer, and its run. -/
def body : { R : S32x3072.Idx → Elt F .bf16 //
    ∀ (g8 : Bf (F := F) c arg8) (g13 : Bf (F := F) c bAcc) (g14 : Bf (F := F) c bAct) (W : Waits sig Unit) (K : PUnit → sProp 𝕄),
    iprop(own c arg0 fullShare f0 ∗ own c arg1 fullShare f1 ∗ own c arg2 fullShare f2 ∗ own c arg3 fullShare f3 ∗ own c arg8 fullShare g8
      ∗ own c bAcc fullShare g13 ∗ own c bAct fullShare g14 ∗ bigSep Finset.univ (Free c fW fS fD fT) ∗ owes (c : Thread nD τ) 0 W
      ∗ (iprop(own c arg0 fullShare f0 ∗ own c arg1 fullShare f1 ∗ own c arg2 fullShare f2 ∗ own c arg3 fullShare f3 ∗ own c arg8 fullShare (arg8.view.rep R)
          ∗ (∃ g, own c bAcc fullShare g) ∗ (∃ g, own c bAct fullShare g) ∗ bigSep Finset.univ (Free c fW fS fD fT) ∗ ∃ W', owes (c : Thread nD τ) 0 W') -∗ K ⟨⟩))
      ⊢ wp frame (wpE (defs₀ (F := F)) Variants.none (c : Thread nD τ) none) Set.univ
          (cc0_moe_int4 arg0 harg0 arg1 harg1 arg2 harg2 arg3 harg3 hWgu h4 hSgu h5 hWd h6 hSd h7 arg8 harg8 bWgu h9 bSgu h10 bWd h11 bSd h12 bAcc h13 bAct h14 cc0_scratch6) K } := by
  refine ⟨?_, fun g8 g13 g14 W K => ?run⟩
  case run =>
    rw [cc0_moe_int4_eq_skeleton]
    unfold cc0_moe_int4_skel
    iintro ⟨H0, H1, H2, H3, H8, H13, H14, HS, HO, Hk⟩
    sl_exec (disch := exact chk1)
    ihave HS := (Entails.of_eq (congrArg (bigSep Finset.univ) (slots_start c fW fS fD fT (exV (body.sl.r c arg0 f0) (body.sl.r_1 c arg0 f0) (body.sl.r_2 c arg0 f0) (body.sl.r_3 c arg0 f0) (body.sl.r_4 c arg0 f0) (body.sl.r_5 c arg0 f0) (body.sl.r_6 c arg0 f0) (body.sl.r_7 c arg0 f0) (body.sl.r_8 c arg0 f0) (body.sl.r_9 c arg0 f0) (body.sl.r_10 c arg0 f0) (body.sl.r_11 c arg0 f0) (body.sl.r_12 c arg0 f0) (body.sl.r_13 c arg0 f0) (body.sl.r_14 c arg0 f0) (body.sl.r_15 c arg0 f0) (body.sl.r_16 c arg0 f0) (body.sl.r_17 c arg0 f0) (body.sl.r_18 c arg0 f0) (body.sl.r_19 c arg0 f0) (body.sl.r_20 c arg0 f0) (body.sl.r_21 c arg0 f0) (body.sl.r_22 c arg0 f0) (body.sl.r_23 c arg0 f0) (body.sl.r_24 c arg0 f0) (body.sl.r_25 c arg0 f0) (body.sl.r_26 c arg0 f0) (body.sl.r_27 c arg0 f0) (body.sl.r_28 c arg0 f0) (body.sl.r_29 c arg0 f0) (body.sl.r_30 c arg0 f0) (body.sl.r_31 c arg0 f0) (body.sl.r_32 c arg0 f0) (body.sl.r_33 c arg0 f0) (body.sl.r_34 c arg0 f0) (body.sl.r_35 c arg0 f0) (body.sl.r_36 c arg0 f0) (body.sl.r_37 c arg0 f0) (body.sl.r_38 c arg0 f0) (body.sl.r_39 c arg0 f0) (body.sl.r_40 c arg0 f0) (body.sl.r_41 c arg0 f0) (body.sl.r_42 c arg0 f0) (body.sl.r_43 c arg0 f0) (body.sl.r_44 c arg0 f0) (body.sl.r_45 c arg0 f0) (body.sl.r_46 c arg0 f0) (body.sl.r_47 c arg0 f0) (body.sl.r_48 c arg0 f0) (body.sl.r_49 c arg0 f0) (body.sl.r_50 c arg0 f0) (body.sl.r_51 c arg0 f0) (body.sl.r_52 c arg0 f0) (body.sl.r_53 c arg0 f0) (body.sl.r_54 c arg0 f0) (body.sl.r_55 c arg0 f0) (body.sl.r_56 c arg0 f0) (body.sl.r_57 c arg0 f0) (body.sl.r_58 c arg0 f0) (body.sl.r_59 c arg0 f0) (body.sl.r_60 c arg0 f0) (body.sl.r_61 c arg0 f0) (body.sl.r_62 c arg0 f0) (body.sl.r_63 c arg0 f0))).symm)) $$ HS
    iapply (loop1 c arg0 harg0 arg1 harg1 arg2 harg2 arg3 harg3 arg8 harg8 h4 h5 h6 h7 h9 h10 h11 h12 h13 h14 chk1 fW fS fD fT _ _ _ _ (exV (body.sl.r c arg0 f0) (body.sl.r_1 c arg0 f0) (body.sl.r_2 c arg0 f0) (body.sl.r_3 c arg0 f0) (body.sl.r_4 c arg0 f0) (body.sl.r_5 c arg0 f0) (body.sl.r_6 c arg0 f0) (body.sl.r_7 c arg0 f0) (body.sl.r_8 c arg0 f0) (body.sl.r_9 c arg0 f0) (body.sl.r_10 c arg0 f0) (body.sl.r_11 c arg0 f0) (body.sl.r_12 c arg0 f0) (body.sl.r_13 c arg0 f0) (body.sl.r_14 c arg0 f0) (body.sl.r_15 c arg0 f0) (body.sl.r_16 c arg0 f0) (body.sl.r_17 c arg0 f0) (body.sl.r_18 c arg0 f0) (body.sl.r_19 c arg0 f0) (body.sl.r_20 c arg0 f0) (body.sl.r_21 c arg0 f0) (body.sl.r_22 c arg0 f0) (body.sl.r_23 c arg0 f0) (body.sl.r_24 c arg0 f0) (body.sl.r_25 c arg0 f0) (body.sl.r_26 c arg0 f0) (body.sl.r_27 c arg0 f0) (body.sl.r_28 c arg0 f0) (body.sl.r_29 c arg0 f0) (body.sl.r_30 c arg0 f0) (body.sl.r_31 c arg0 f0) (body.sl.r_32 c arg0 f0) (body.sl.r_33 c arg0 f0) (body.sl.r_34 c arg0 f0) (body.sl.r_35 c arg0 f0) (body.sl.r_36 c arg0 f0) (body.sl.r_37 c arg0 f0) (body.sl.r_38 c arg0 f0) (body.sl.r_39 c arg0 f0) (body.sl.r_40 c arg0 f0) (body.sl.r_41 c arg0 f0) (body.sl.r_42 c arg0 f0) (body.sl.r_43 c arg0 f0) (body.sl.r_44 c arg0 f0) (body.sl.r_45 c arg0 f0) (body.sl.r_46 c arg0 f0) (body.sl.r_47 c arg0 f0) (body.sl.r_48 c arg0 f0) (body.sl.r_49 c arg0 f0) (body.sl.r_50 c arg0 f0) (body.sl.r_51 c arg0 f0) (body.sl.r_52 c arg0 f0) (body.sl.r_53 c arg0 f0) (body.sl.r_54 c arg0 f0) (body.sl.r_55 c arg0 f0) (body.sl.r_56 c arg0 f0) (body.sl.r_57 c arg0 f0) (body.sl.r_58 c arg0 f0) (body.sl.r_59 c arg0 f0) (body.sl.r_60 c arg0 f0) (body.sl.r_61 c arg0 f0) (body.sl.r_62 c arg0 f0) (body.sl.r_63 c arg0 f0))
      (fun k => word_stores c g14 _ _ _ _ _ _ _ _ (slot1 k) (lt_of_lt_of_eq k.isLt t1_trips)) _ _ _)
    isplitl [H14]; · iexact H14
    isplitl [HS]; · iexact HS
    isplitl [HO]; · iexact HO
    iintro ⟨H14, HS, HO⟩
    iapply (loop0 c _ _ t2_trips _ _ _)
    sl_exec (disch := exact chk1)
    ihave HS := (slots_turn c fW fS fD fT _) $$ HS
    ihave H13 := (own_rep c bAcc fullShare (bAcc.view.writes (Elt F) bAcc.view.junk (body.sl.H13_1 (F := F))) (X := k0_pay860 (F := F)) (View.read_writes_full _ _ _ _ _)) $$ H13
    iapply (loop3 c arg0 harg0 arg1 harg1 arg2 harg2 arg3 harg3 arg8 harg8 h4 h5 h6 h7 h9 h10 h11 h12 h13 h14 chk1 f1 f2 f3 fW fS fD fT _ _ (exV (body.sl.r c arg0 f0) (body.sl.r_1 c arg0 f0) (body.sl.r_2 c arg0 f0) (body.sl.r_3 c arg0 f0) (body.sl.r_4 c arg0 f0) (body.sl.r_5 c arg0 f0) (body.sl.r_6 c arg0 f0) (body.sl.r_7 c arg0 f0) (body.sl.r_8 c arg0 f0) (body.sl.r_9 c arg0 f0) (body.sl.r_10 c arg0 f0) (body.sl.r_11 c arg0 f0) (body.sl.r_12 c arg0 f0) (body.sl.r_13 c arg0 f0) (body.sl.r_14 c arg0 f0) (body.sl.r_15 c arg0 f0) (body.sl.r_16 c arg0 f0) (body.sl.r_17 c arg0 f0) (body.sl.r_18 c arg0 f0) (body.sl.r_19 c arg0 f0) (body.sl.r_20 c arg0 f0) (body.sl.r_21 c arg0 f0) (body.sl.r_22 c arg0 f0) (body.sl.r_23 c arg0 f0) (body.sl.r_24 c arg0 f0) (body.sl.r_25 c arg0 f0) (body.sl.r_26 c arg0 f0) (body.sl.r_27 c arg0 f0) (body.sl.r_28 c arg0 f0) (body.sl.r_29 c arg0 f0) (body.sl.r_30 c arg0 f0) (body.sl.r_31 c arg0 f0) (body.sl.r_32 c arg0 f0) (body.sl.r_33 c arg0 f0) (body.sl.r_34 c arg0 f0) (body.sl.r_35 c arg0 f0) (body.sl.r_36 c arg0 f0) (body.sl.r_37 c arg0 f0) (body.sl.r_38 c arg0 f0) (body.sl.r_39 c arg0 f0) (body.sl.r_40 c arg0 f0) (body.sl.r_41 c arg0 f0) (body.sl.r_42 c arg0 f0) (body.sl.r_43 c arg0 f0) (body.sl.r_44 c arg0 f0) (body.sl.r_45 c arg0 f0) (body.sl.r_46 c arg0 f0) (body.sl.r_47 c arg0 f0) (body.sl.r_48 c arg0 f0) (body.sl.r_49 c arg0 f0) (body.sl.r_50 c arg0 f0) (body.sl.r_51 c arg0 f0) (body.sl.r_52 c arg0 f0) (body.sl.r_53 c arg0 f0) (body.sl.r_54 c arg0 f0) (body.sl.r_55 c arg0 f0) (body.sl.r_56 c arg0 f0) (body.sl.r_57 c arg0 f0) (body.sl.r_58 c arg0 f0) (body.sl.r_59 c arg0 f0) (body.sl.r_60 c arg0 f0) (body.sl.r_61 c arg0 f0) (body.sl.r_62 c arg0 f0) (body.sl.r_63 c arg0 f0)) (acc0 c)
      (fun k => word_stores c g14 _ _ _ _ _ _ _ _ (slot3 k) (lt_of_lt_of_eq k.isLt t3_trips)) _ _ _)
    isplitl [H1]; · iexact H1
    isplitl [H2]; · iexact H2
    isplitl [H3]; · iexact H3
    isplitl [H13]; · iexact H13
    isplitl [H14]; · iexact H14
    isplitl [HS]; · iexact HS
    isplitl [HO]; · iexact HO
    iintro ⟨H1, H2, H3, H13, H14, HS, ⟨%W', HO⟩⟩
    iapply (loop0 c _ _ t4_trips _ _ _)
    sl_exec (disch := exact chk1)
    sl_step
    iapply Hk
    isplitl [H0]; · iexact H0
    isplitl [H1]; · iexact H1
    isplitl [H2]; · iexact H2
    isplitl [H3]; · iexact H3
    isplitl [H8]
    · iapply (own_rep c arg8 fullShare _ (View.read_writes_full _ _ _ _ _)) $$ H8
    isplitl [H13]; · iexists _; iexact H13
    isplitl [H14]; · iexists _; iexact H14
    isplitl [HS]
    · iapply (Entails.of_eq (congrArg (bigSep Finset.univ) (slots_end c fW fS fD fT (exV (body.sl.r c arg0 f0) (body.sl.r_1 c arg0 f0) (body.sl.r_2 c arg0 f0) (body.sl.r_3 c arg0 f0) (body.sl.r_4 c arg0 f0) (body.sl.r_5 c arg0 f0) (body.sl.r_6 c arg0 f0) (body.sl.r_7 c arg0 f0) (body.sl.r_8 c arg0 f0) (body.sl.r_9 c arg0 f0) (body.sl.r_10 c arg0 f0) (body.sl.r_11 c arg0 f0) (body.sl.r_12 c arg0 f0) (body.sl.r_13 c arg0 f0) (body.sl.r_14 c arg0 f0) (body.sl.r_15 c arg0 f0) (body.sl.r_16 c arg0 f0) (body.sl.r_17 c arg0 f0) (body.sl.r_18 c arg0 f0) (body.sl.r_19 c arg0 f0) (body.sl.r_20 c arg0 f0) (body.sl.r_21 c arg0 f0) (body.sl.r_22 c arg0 f0) (body.sl.r_23 c arg0 f0) (body.sl.r_24 c arg0 f0) (body.sl.r_25 c arg0 f0) (body.sl.r_26 c arg0 f0) (body.sl.r_27 c arg0 f0) (body.sl.r_28 c arg0 f0) (body.sl.r_29 c arg0 f0) (body.sl.r_30 c arg0 f0) (body.sl.r_31 c arg0 f0) (body.sl.r_32 c arg0 f0) (body.sl.r_33 c arg0 f0) (body.sl.r_34 c arg0 f0) (body.sl.r_35 c arg0 f0) (body.sl.r_36 c arg0 f0) (body.sl.r_37 c arg0 f0) (body.sl.r_38 c arg0 f0) (body.sl.r_39 c arg0 f0) (body.sl.r_40 c arg0 f0) (body.sl.r_41 c arg0 f0) (body.sl.r_42 c arg0 f0) (body.sl.r_43 c arg0 f0) (body.sl.r_44 c arg0 f0) (body.sl.r_45 c arg0 f0) (body.sl.r_46 c arg0 f0) (body.sl.r_47 c arg0 f0) (body.sl.r_48 c arg0 f0) (body.sl.r_49 c arg0 f0) (body.sl.r_50 c arg0 f0) (body.sl.r_51 c arg0 f0) (body.sl.r_52 c arg0 f0) (body.sl.r_53 c arg0 f0) (body.sl.r_54 c arg0 f0) (body.sl.r_55 c arg0 f0) (body.sl.r_56 c arg0 f0) (body.sl.r_57 c arg0 f0) (body.sl.r_58 c arg0 f0) (body.sl.r_59 c arg0 f0) (body.sl.r_60 c arg0 f0) (body.sl.r_61 c arg0 f0) (body.sl.r_62 c arg0 f0) (body.sl.r_63 c arg0 f0)) _))) $$ HS
    iexists _; iexact HO

end Cert.Kernel.Hand

end
-- ==== Proof.Hand.Kernel.Launch.lean ====
module

public import proofs.«01_k».proof.Proof.Hand.Kernel.Body
public import proofs.«01_k».proof.Proof.Gen.Kernel.Frame
public import Idealize.ShloMosaic.Lib.SparseCore.Launch

/-! The launch: the four slot buffers split into their slots, the four arguments into read tokens and the cells by slot,
before the body, and put back after it; then the run of the one region and the frame. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's own cells -/

/-- The thirty-two cells, four to a slot. -/
def osem0 (k : Fin 8 × Fin 4) : SemLoc sig := .dma (cell k.1 k.2).sem
theorem ownSemFacts0 : Pipeline.OwnSemFacts spec0 osem0 := by decide +kernel

/-! ## The slots of one buffer (Wgu) -/

abbrev setWgu (j : Fin 8) : Finset S8x1536x2048.Idx := (Rect.unit (s := S8x1536x2048) ![j.val, 0, 0] S1x1536x2048.size (inbWgu rfl j.isLt)).set
theorem setWgu_eq (j : Fin 8) : (sWgu j).view.set = setWgu j := by
  unfold sWgu
  simp only [Memref.view_squeeze, View.set_reshape]; exact View.set_slice_whole _ _
theorem setWgu_disjoint (j j' : Fin 8) (h : j ≠ j') : Disjoint (setWgu j) (setWgu j') :=
  Ring.lead_disjoint (s := S8x1536x2048) (0 : Fin 3) 1 (fun j : Fin 8 => (![j.val, 0, 0] : Fin 3 → Nat)) S1x1536x2048.size (fun j => inbWgu rfl j.isLt) (fun j => by simp) rfl j j' h
theorem setWgu_cover : Finset.univ.biUnion setWgu = Finset.univ :=
  Ring.lead_cover (s := S8x1536x2048) (0 : Fin 3) 1 (fun j : Fin 8 => (![j.val, 0, 0] : Fin 3 → Nat)) S1x1536x2048.size (fun j => inbWgu rfl j.isLt) (fun j => by simp)
    (fun j a ha => by fin_cases a <;> first | exact absurd rfl ha | rfl) rfl (fun a ha => by fin_cases a <;> first | exact absurd rfl ha | rfl) rfl
theorem ownWgu_eq (c : Dev nD) (j : Fin 8) (f : Bf (F := F) c bWgu) : (own c (sWgu j) fullShare f : sProp 𝕄) = (bWgu.view.loc (c : Thread nD τ) ↦[setWgu j]{fullShare} f) := by
  rw [← setWgu_eq]; rfl
theorem inWgu (c : Dev nD) : iprop(∃ f, bWgu.view.loc (c : Thread nD τ) ↦{fullShare} f) ⊢ (bigSep Finset.univ (fun j => iprop(∃ g, own c (sWgu j) fullShare g)) : sProp 𝕄) := by
  have h := fun f : Bf (F := F) c bWgu => Ring.pointsTo_blocks (Ix := Unit) (Name := ℕ) (U := Pipeline.UD sig nD τ) (Lvl := ℕ) (Val := Elt F) (ℓ := bWgu.view.loc (c : Thread nD τ)) (q := fullShare) setWgu setWgu_disjoint setWgu_cover f
  have h' := fun f : Bf (F := F) c bWgu => (Entails.of_eq (h f)).trans (bigSep_mono (s := Finset.univ) (Ψ := fun j => (iprop(∃ g, own c (sWgu j) fullShare g) : sProp 𝕄)) fun j _ => (Entails.of_eq (ownWgu_eq c j f).symm).trans (exists_intro (Φ := fun g => own c (sWgu j) fullShare g) f))
  iintro ⟨%f, H⟩
  iapply (h' f) $$ H
theorem outWgu (c : Dev nD) : (bigSep Finset.univ (fun j => iprop(∃ g, own c (sWgu j) fullShare g)) : sProp 𝕄) ⊢ iprop(∃ f, bWgu.view.loc (c : Thread nD τ) ↦{fullShare} f) := by
  refine (Entails.of_eq (bigSep_congr fun j _ => ?_)).trans (Ring.pointsTo_blocks_join_exists (ℓ := bWgu.view.loc (c : Thread nD τ)) setWgu setWgu_disjoint setWgu_cover bWgu.view.junk)
  exact congrArg BIBase.exists (funext fun f => ownWgu_eq c j f)

/-! ## The slots of one buffer (Sgu) -/

abbrev setSgu (j : Fin 8) : Finset S8x24x2048.Idx := (Rect.unit (s := S8x24x2048) ![j.val, 0, 0] S1x24x2048.size (inbSgu rfl j.isLt)).set
theorem setSgu_eq (j : Fin 8) : (sSgu j).view.set = setSgu j := by
  unfold sSgu
  simp only [Memref.view_squeeze, View.set_reshape]; exact View.set_slice_whole _ _
theorem setSgu_disjoint (j j' : Fin 8) (h : j ≠ j') : Disjoint (setSgu j) (setSgu j') :=
  Ring.lead_disjoint (s := S8x24x2048) (0 : Fin 3) 1 (fun j : Fin 8 => (![j.val, 0, 0] : Fin 3 → Nat)) S1x24x2048.size (fun j => inbSgu rfl j.isLt) (fun j => by simp) rfl j j' h
theorem setSgu_cover : Finset.univ.biUnion setSgu = Finset.univ :=
  Ring.lead_cover (s := S8x24x2048) (0 : Fin 3) 1 (fun j : Fin 8 => (![j.val, 0, 0] : Fin 3 → Nat)) S1x24x2048.size (fun j => inbSgu rfl j.isLt) (fun j => by simp)
    (fun j a ha => by fin_cases a <;> first | exact absurd rfl ha | rfl) rfl (fun a ha => by fin_cases a <;> first | exact absurd rfl ha | rfl) rfl
theorem ownSgu_eq (c : Dev nD) (j : Fin 8) (f : Bf (F := F) c bSgu) : (own c (sSgu j) fullShare f : sProp 𝕄) = (bSgu.view.loc (c : Thread nD τ) ↦[setSgu j]{fullShare} f) := by
  rw [← setSgu_eq]; rfl
theorem inSgu (c : Dev nD) : iprop(∃ f, bSgu.view.loc (c : Thread nD τ) ↦{fullShare} f) ⊢ (bigSep Finset.univ (fun j => iprop(∃ g, own c (sSgu j) fullShare g)) : sProp 𝕄) := by
  have h := fun f : Bf (F := F) c bSgu => Ring.pointsTo_blocks (Ix := Unit) (Name := ℕ) (U := Pipeline.UD sig nD τ) (Lvl := ℕ) (Val := Elt F) (ℓ := bSgu.view.loc (c : Thread nD τ)) (q := fullShare) setSgu setSgu_disjoint setSgu_cover f
  have h' := fun f : Bf (F := F) c bSgu => (Entails.of_eq (h f)).trans (bigSep_mono (s := Finset.univ) (Ψ := fun j => (iprop(∃ g, own c (sSgu j) fullShare g) : sProp 𝕄)) fun j _ => (Entails.of_eq (ownSgu_eq c j f).symm).trans (exists_intro (Φ := fun g => own c (sSgu j) fullShare g) f))
  iintro ⟨%f, H⟩
  iapply (h' f) $$ H
theorem outSgu (c : Dev nD) : (bigSep Finset.univ (fun j => iprop(∃ g, own c (sSgu j) fullShare g)) : sProp 𝕄) ⊢ iprop(∃ f, bSgu.view.loc (c : Thread nD τ) ↦{fullShare} f) := by
  refine (Entails.of_eq (bigSep_congr fun j _ => ?_)).trans (Ring.pointsTo_blocks_join_exists (ℓ := bSgu.view.loc (c : Thread nD τ)) setSgu setSgu_disjoint setSgu_cover bSgu.view.junk)
  exact congrArg BIBase.exists (funext fun f => ownSgu_eq c j f)

/-! ## The slots of one buffer (Wd) -/

abbrev setWd (j : Fin 8) : Finset S8x512x3072.Idx := (Rect.unit (s := S8x512x3072) ![j.val, 0, 0] S1x512x3072.size (inbWd rfl j.isLt)).set
theorem setWd_eq (j : Fin 8) : (sWd j).view.set = setWd j := by
  unfold sWd
  simp only [Memref.view_squeeze, View.set_reshape]; exact View.set_slice_whole _ _
theorem setWd_disjoint (j j' : Fin 8) (h : j ≠ j') : Disjoint (setWd j) (setWd j') :=
  Ring.lead_disjoint (s := S8x512x3072) (0 : Fin 3) 1 (fun j : Fin 8 => (![j.val, 0, 0] : Fin 3 → Nat)) S1x512x3072.size (fun j => inbWd rfl j.isLt) (fun j => by simp) rfl j j' h
theorem setWd_cover : Finset.univ.biUnion setWd = Finset.univ :=
  Ring.lead_cover (s := S8x512x3072) (0 : Fin 3) 1 (fun j : Fin 8 => (![j.val, 0, 0] : Fin 3 → Nat)) S1x512x3072.size (fun j => inbWd rfl j.isLt) (fun j => by simp)
    (fun j a ha => by fin_cases a <;> first | exact absurd rfl ha | rfl) rfl (fun a ha => by fin_cases a <;> first | exact absurd rfl ha | rfl) rfl
theorem ownWd_eq (c : Dev nD) (j : Fin 8) (f : Bf (F := F) c bWd) : (own c (sWd j) fullShare f : sProp 𝕄) = (bWd.view.loc (c : Thread nD τ) ↦[setWd j]{fullShare} f) := by
  rw [← setWd_eq]; rfl
theorem inWd (c : Dev nD) : iprop(∃ f, bWd.view.loc (c : Thread nD τ) ↦{fullShare} f) ⊢ (bigSep Finset.univ (fun j => iprop(∃ g, own c (sWd j) fullShare g)) : sProp 𝕄) := by
  have h := fun f : Bf (F := F) c bWd => Ring.pointsTo_blocks (Ix := Unit) (Name := ℕ) (U := Pipeline.UD sig nD τ) (Lvl := ℕ) (Val := Elt F) (ℓ := bWd.view.loc (c : Thread nD τ)) (q := fullShare) setWd setWd_disjoint setWd_cover f
  have h' := fun f : Bf (F := F) c bWd => (Entails.of_eq (h f)).trans (bigSep_mono (s := Finset.univ) (Ψ := fun j => (iprop(∃ g, own c (sWd j) fullShare g) : sProp 𝕄)) fun j _ => (Entails.of_eq (ownWd_eq c j f).symm).trans (exists_intro (Φ := fun g => own c (sWd j) fullShare g) f))
  iintro ⟨%f, H⟩
  iapply (h' f) $$ H
theorem outWd (c : Dev nD) : (bigSep Finset.univ (fun j => iprop(∃ g, own c (sWd j) fullShare g)) : sProp 𝕄) ⊢ iprop(∃ f, bWd.view.loc (c : Thread nD τ) ↦{fullShare} f) := by
  refine (Entails.of_eq (bigSep_congr fun j _ => ?_)).trans (Ring.pointsTo_blocks_join_exists (ℓ := bWd.view.loc (c : Thread nD τ)) setWd setWd_disjoint setWd_cover bWd.view.junk)
  exact congrArg BIBase.exists (funext fun f => ownWd_eq c j f)

/-! ## The slots of one buffer (Sd) -/

abbrev setSd (j : Fin 8) : Finset S8x8x3072.Idx := (Rect.unit (s := S8x8x3072) ![j.val, 0, 0] S1x8x3072.size (inbSd rfl j.isLt)).set
theorem setSd_eq (j : Fin 8) : (sSd j).view.set = setSd j := by
  unfold sSd
  simp only [Memref.view_squeeze, View.set_reshape]; exact View.set_slice_whole _ _
theorem setSd_disjoint (j j' : Fin 8) (h : j ≠ j') : Disjoint (setSd j) (setSd j') :=
  Ring.lead_disjoint (s := S8x8x3072) (0 : Fin 3) 1 (fun j : Fin 8 => (![j.val, 0, 0] : Fin 3 → Nat)) S1x8x3072.size (fun j => inbSd rfl j.isLt) (fun j => by simp) rfl j j' h
theorem setSd_cover : Finset.univ.biUnion setSd = Finset.univ :=
  Ring.lead_cover (s := S8x8x3072) (0 : Fin 3) 1 (fun j : Fin 8 => (![j.val, 0, 0] : Fin 3 → Nat)) S1x8x3072.size (fun j => inbSd rfl j.isLt) (fun j => by simp)
    (fun j a ha => by fin_cases a <;> first | exact absurd rfl ha | rfl) rfl (fun a ha => by fin_cases a <;> first | exact absurd rfl ha | rfl) rfl
theorem ownSd_eq (c : Dev nD) (j : Fin 8) (f : Bf (F := F) c bSd) : (own c (sSd j) fullShare f : sProp 𝕄) = (bSd.view.loc (c : Thread nD τ) ↦[setSd j]{fullShare} f) := by
  rw [← setSd_eq]; rfl
theorem inSd (c : Dev nD) : iprop(∃ f, bSd.view.loc (c : Thread nD τ) ↦{fullShare} f) ⊢ (bigSep Finset.univ (fun j => iprop(∃ g, own c (sSd j) fullShare g)) : sProp 𝕄) := by
  have h := fun f : Bf (F := F) c bSd => Ring.pointsTo_blocks (Ix := Unit) (Name := ℕ) (U := Pipeline.UD sig nD τ) (Lvl := ℕ) (Val := Elt F) (ℓ := bSd.view.loc (c : Thread nD τ)) (q := fullShare) setSd setSd_disjoint setSd_cover f
  have h' := fun f : Bf (F := F) c bSd => (Entails.of_eq (h f)).trans (bigSep_mono (s := Finset.univ) (Ψ := fun j => (iprop(∃ g, own c (sSd j) fullShare g) : sProp 𝕄)) fun j _ => (Entails.of_eq (ownSd_eq c j f).symm).trans (exists_intro (Φ := fun g => own c (sSd j) fullShare g) f))
  iintro ⟨%f, H⟩
  iapply (h' f) $$ H
theorem outSd (c : Dev nD) : (bigSep Finset.univ (fun j => iprop(∃ g, own c (sSd j) fullShare g)) : sProp 𝕄) ⊢ iprop(∃ f, bSd.view.loc (c : Thread nD τ) ↦{fullShare} f) := by
  refine (Entails.of_eq (bigSep_congr fun j _ => ?_)).trans (Ring.pointsTo_blocks_join_exists (ℓ := bSd.view.loc (c : Thread nD τ)) setSd setSd_disjoint setSd_cover bSd.view.junk)
  exact congrArg BIBase.exists (funext fun f => ownSd_eq c j f)

/-! ## All slots free -/

theorem sep3 (A B C : Fin 8 → sProp 𝕄) : bigSep Finset.univ (fun j => iprop(A j ∗ B j ∗ C j)) = iprop(bigSep Finset.univ A ∗ bigSep Finset.univ B ∗ bigSep Finset.univ C) := by
  exact (BI.bigSep_sep Finset.univ A (fun j => iprop(B j ∗ C j))).trans (congrArg (fun X : sProp 𝕄 => iprop(bigSep Finset.univ A ∗ X)) (BI.bigSep_sep Finset.univ B C))
theorem sep4 (A B C D : Fin 8 → sProp 𝕄) : bigSep Finset.univ (fun j => iprop(A j ∗ B j ∗ C j ∗ D j)) = iprop(bigSep Finset.univ A ∗ bigSep Finset.univ B ∗ bigSep Finset.univ C ∗ bigSep Finset.univ D) := by
  exact (BI.bigSep_sep Finset.univ A (fun j => iprop(B j ∗ C j ∗ D j))).trans (congrArg (fun X : sProp 𝕄 => iprop(bigSep Finset.univ A ∗ X)) (sep3 B C D))

theorem cells_eq (c : Dev nD) : (Pipeline.ownSems0 (Ix := Unit) (Name := ℕ) (U := Pipeline.UD sig nD τ) (Lvl := ℕ) (Val := Elt F) (τ := τ) osem0 c : sProp 𝕄)
    = iprop(bigSep Finset.univ (fun j => semVal ((c : Thread nD τ), SemLoc.dma (cell j 0).sem) 0) ∗ bigSep Finset.univ (fun j => semVal ((c : Thread nD τ), SemLoc.dma (cell j 1).sem) 0)
      ∗ bigSep Finset.univ (fun j => semVal ((c : Thread nD τ), SemLoc.dma (cell j 2).sem) 0) ∗ bigSep Finset.univ (fun j => semVal ((c : Thread nD τ), SemLoc.dma (cell j 3).sem) 0)) := by
  unfold Pipeline.ownSems0
  rw [← Finset.univ_product_univ, SparseCore.bigSep_product]
  refine (bigSep_congr (Ψ := fun j => (iprop(semVal ((c : Thread nD τ), SemLoc.dma (cell j 0).sem) 0 ∗ semVal ((c : Thread nD τ), SemLoc.dma (cell j 1).sem) 0
      ∗ semVal ((c : Thread nD τ), SemLoc.dma (cell j 2).sem) 0 ∗ semVal ((c : Thread nD τ), SemLoc.dma (cell j 3).sem) 0) : sProp 𝕄)) fun j _ => ?_).trans ?_
  · rw [bigSep_univ_eq_bigSepL [(0 : Fin 4), (1 : Fin 4), (2 : Fin 4), (3 : Fin 4)] (by decide) (by decide)]
    rfl
  · exact sep4 _ _ _ _

theorem free_eq (c : Dev nD) (fW : Bf (F := F) c hWgu) (fS : Bf (F := F) c hSgu) (fD : Bf (F := F) c hWd) (fT : Bf (F := F) c hSd) :
    (bigSep Finset.univ (Free c fW fS fD fT) : sProp 𝕄)
      = iprop((bigSep Finset.univ (fun j => iprop(∃ g, own c (sSgu j) fullShare g)) ∗ bigSep Finset.univ (fun j => semVal ((c : Thread nD τ), SemLoc.dma (cell j 0).sem) 0) ∗ bigSep Finset.univ (fun j => hSgu.view.loc (c : Thread nD τ) ↦{tok j} fS))
        ∗ (bigSep Finset.univ (fun j => iprop(∃ g, own c (sWgu j) fullShare g)) ∗ bigSep Finset.univ (fun j => semVal ((c : Thread nD τ), SemLoc.dma (cell j 1).sem) 0) ∗ bigSep Finset.univ (fun j => hWgu.view.loc (c : Thread nD τ) ↦{tok j} fW))
        ∗ (bigSep Finset.univ (fun j => iprop(∃ g, own c (sSd j) fullShare g)) ∗ bigSep Finset.univ (fun j => semVal ((c : Thread nD τ), SemLoc.dma (cell j 2).sem) 0) ∗ bigSep Finset.univ (fun j => hSd.view.loc (c : Thread nD τ) ↦{tok j} fT))
        ∗ (bigSep Finset.univ (fun j => iprop(∃ g, own c (sWd j) fullShare g)) ∗ bigSep Finset.univ (fun j => semVal ((c : Thread nD τ), SemLoc.dma (cell j 3).sem) 0) ∗ bigSep Finset.univ (fun j => hWd.view.loc (c : Thread nD τ) ↦{tok j} fD))) := by
  have e : Free c fW fS fD fT = fun j => (iprop(((∃ g, own c (sSgu j) fullShare g) ∗ semVal ((c : Thread nD τ), SemLoc.dma (cell j 0).sem) 0 ∗ (hSgu.view.loc (c : Thread nD τ) ↦{tok j} fS))
      ∗ ((∃ g, own c (sWgu j) fullShare g) ∗ semVal ((c : Thread nD τ), SemLoc.dma (cell j 1).sem) 0 ∗ (hWgu.view.loc (c : Thread nD τ) ↦{tok j} fW))
      ∗ ((∃ g, own c (sSd j) fullShare g) ∗ semVal ((c : Thread nD τ), SemLoc.dma (cell j 2).sem) 0 ∗ (hSd.view.loc (c : Thread nD τ) ↦{tok j} fT))
      ∗ ((∃ g, own c (sWd j) fullShare g) ∗ semVal ((c : Thread nD τ), SemLoc.dma (cell j 3).sem) 0 ∗ (hWd.view.loc (c : Thread nD τ) ↦{tok j} fD))) : sProp 𝕄) := rfl
  rw [e]
  refine (sep4 _ _ _ _).trans ?_
  rw [sep3, sep3, sep3, sep3]

/-- What is left of an argument beside its eight tokens. -/
abbrev rest {s : Shape} {φ : EltTy} (c : Dev nD) (M : Memref sig .tc .hbm s φ) (f : Bf (F := F) c M) : sProp 𝕄 :=
  M.view.loc (c : Thread nD τ) ↦{Transfers.shareDrop fullShare 8} f

/-- The buffers, cells and arguments whole, and all slots free: one from the other. -/
theorem free_in (c : Dev nD) (fW : Bf (F := F) c hWgu) (fS : Bf (F := F) c hSgu) (fD : Bf (F := F) c hWd) (fT : Bf (F := F) c hSd) :
    iprop((∃ f, bWgu.view.loc (c : Thread nD τ) ↦{fullShare} f) ∗ (∃ f, bSgu.view.loc (c : Thread nD τ) ↦{fullShare} f) ∗ (∃ f, bWd.view.loc (c : Thread nD τ) ↦{fullShare} f) ∗ (∃ f, bSd.view.loc (c : Thread nD τ) ↦{fullShare} f)
      ∗ Pipeline.ownSems0 (Ix := Unit) (Name := ℕ) (U := Pipeline.UD sig nD τ) (Lvl := ℕ) (Val := Elt F) (τ := τ) osem0 c
      ∗ (hWgu.view.loc (c : Thread nD τ) ↦{fullShare} fW) ∗ (hSgu.view.loc (c : Thread nD τ) ↦{fullShare} fS) ∗ (hWd.view.loc (c : Thread nD τ) ↦{fullShare} fD) ∗ (hSd.view.loc (c : Thread nD τ) ↦{fullShare} fT))
    ⊢ (iprop(bigSep Finset.univ (Free c fW fS fD fT) ∗ rest c hWgu fW ∗ rest c hSgu fS ∗ rest c hWd fD ∗ rest c hSd fT) : sProp 𝕄) := by
  rw [free_eq, cells_eq]
  iintro ⟨HW, HS, HD, HT, ⟨C0, C1, C2, C3⟩, AW, AS, AD, AT⟩
  ihave HW := (inWgu c) $$ HW
  ihave HS := (inSgu c) $$ HS
  ihave HD := (inWd c) $$ HD
  ihave HT := (inSd c) $$ HT
  ihave AW := (Transfers.pointsTo_toks_split fullShare 8) $$ AW
  ihave AS := (Transfers.pointsTo_toks_split fullShare 8) $$ AS
  ihave AD := (Transfers.pointsTo_toks_split fullShare 8) $$ AD
  ihave AT := (Transfers.pointsTo_toks_split fullShare 8) $$ AT
  icases AW with ⟨RW, AW⟩
  icases AS with ⟨RS, AS⟩
  icases AD with ⟨RD, AD⟩
  icases AT with ⟨RT, AT⟩
  isplitr [RW RS RD RT]
  · isplitl [HS C0 AS]
    · isplitl [HS]; · iexact HS
      isplitl [C0]; · iexact C0
      iexact AS
    isplitl [HW C1 AW]
    · isplitl [HW]; · iexact HW
      isplitl [C1]; · iexact C1
      iexact AW
    isplitl [HT C2 AT]
    · isplitl [HT]; · iexact HT
      isplitl [C2]; · iexact C2
      iexact AT
    isplitl [HD]; · iexact HD
    isplitl [C3]; · iexact C3
    iexact AD
  isplitl [RW]; · iexact RW
  isplitl [RS]; · iexact RS
  isplitl [RD]; · iexact RD
  iexact RT
theorem free_out (c : Dev nD) (fW : Bf (F := F) c hWgu) (fS : Bf (F := F) c hSgu) (fD : Bf (F := F) c hWd) (fT : Bf (F := F) c hSd) :
    (iprop(bigSep Finset.univ (Free c fW fS fD fT) ∗ rest c hWgu fW ∗ rest c hSgu fS ∗ rest c hWd fD ∗ rest c hSd fT) : sProp 𝕄) ⊢
    iprop((∃ f, bWgu.view.loc (c : Thread nD τ) ↦{fullShare} f) ∗ (∃ f, bSgu.view.loc (c : Thread nD τ) ↦{fullShare} f) ∗ (∃ f, bWd.view.loc (c : Thread nD τ) ↦{fullShare} f) ∗ (∃ f, bSd.view.loc (c : Thread nD τ) ↦{fullShare} f)
      ∗ Pipeline.ownSems0 (Ix := Unit) (Name := ℕ) (U := Pipeline.UD sig nD τ) (Lvl := ℕ) (Val := Elt F) (τ := τ) osem0 c
      ∗ (hWgu.view.loc (c : Thread nD τ) ↦{fullShare} fW) ∗ (hSgu.view.loc (c : Thread nD τ) ↦{fullShare} fS) ∗ (hWd.view.loc (c : Thread nD τ) ↦{fullShare} fD) ∗ (hSd.view.loc (c : Thread nD τ) ↦{fullShare} fT)) := by
  rw [free_eq, cells_eq]
  iintro ⟨⟨⟨HS, C0, AS⟩, ⟨HW, C1, AW⟩, ⟨HT, C2, AT⟩, ⟨HD, C3, AD⟩⟩, RW, RS, RD, RT⟩
  isplitl [HW]; · iapply (outWgu c) $$ HW
  isplitl [HS]; · iapply (outSgu c) $$ HS
  isplitl [HD]; · iapply (outWd c) $$ HD
  isplitl [HT]; · iapply (outSd c) $$ HT
  isplitl [C0 C1 C2 C3]
  · isplitl [C0]; · iexact C0
    isplitl [C1]; · iexact C1
    isplitl [C2]; · iexact C2
    iexact C3
  isplitl [RW AW]
  · iapply (Transfers.pointsTo_toks_join fullShare 8)
    isplitl [RW]; · iexact RW
    iexact AW
  isplitl [RS AS]
  · iapply (Transfers.pointsTo_toks_join fullShare 8)
    isplitl [RS]; · iexact RS
    iexact AS
  isplitl [RD AD]
  · iapply (Transfers.pointsTo_toks_join fullShare 8)
    isplitl [RD]; · iexact RD
    iexact AD
  iapply (Transfers.pointsTo_toks_join fullShare 8)
  isplitl [RT]; · iexact RT
  iexact AT

end Cert.Kernel.Hand

end
-- ==== Proof.Hand.Kernel.Frame.lean ====
module

public import proofs.«01_k».proof.Proof.Hand.Kernel.Launch
public import proofs.«01_k».proof.Proof.Gen.Kernel.Frame

/-! The run of the one region and the frame: the program terminates, nothing faults, the arguments end unchanged and
every semaphore counter ends at zero. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arguments the kernel's copies read. -/
def H0 : Finset (Ref sig .tc) := {main_arg3, main_arg4, main_arg5, main_arg6}
theorem H0_sub : H0 ⊆ Pipeline.restRefs sig spec0 := by decide
theorem hbm_eq (c : Dev nD) :
    (bigSep H0 (fun b => ((c : Thread nD τ).loc b) ↦{fullShare} V m c b) : sProp 𝕄)
      = iprop((hWgu.view.loc (c : Thread nD τ) ↦{fullShare} V m c main_arg3) ∗ (hSgu.view.loc (c : Thread nD τ) ↦{fullShare} V m c main_arg4)
          ∗ (hWd.view.loc (c : Thread nD τ) ↦{fullShare} V m c main_arg5) ∗ (hSd.view.loc (c : Thread nD τ) ↦{fullShare} V m c main_arg6)) := by
  rw [BI.bigSep_eq_bigSepL_of_eq [main_arg3, main_arg4, main_arg5, main_arg6] (by decide) (by decide)]; rfl

abbrev ms0_0 (t : Fin cfg0.N) : Memref sig .tc .smem S64 .i32 := win0_0.stage (cfg0.slots t 0)
abbrev ms0_1 (t : Fin cfg0.N) : Memref sig .tc .vmem S32x2 .i32 := win0_1.stage (cfg0.slots t 1)
abbrev ms0_2 (t : Fin cfg0.N) : Memref sig .tc .vmem S32x2 .f32 := win0_2.stage (cfg0.slots t 2)
abbrev ms0_3 (t : Fin cfg0.N) : Memref sig .tc .vmem S32x3072 .bf16 := win0_3.stage (cfg0.slots t 3)
abbrev ms0_4 (t : Fin cfg0.N) : Memref sig .tc .vmem S32x3072 .bf16 := win0_4.stage (cfg0.slots t 4)

/-- The body at a point, on the windows' blocks. -/
def bodyRun (c : Dev nD) (t : Fin cfg0.N) :=
  body (F := F) c (ms0_0 t) (hstage0_0 0) (ms0_1 t) (hstage0_1 0) (ms0_2 t) (hstage0_2 0) (ms0_3 t) (hstage0_3 0) (ms0_4 t) (hstage0_4 0)
    (Memref.isWhole_whole _) (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _)
    ((ms0_0 t).view.rep (iblk m c 0 t)) ((ms0_1 t).view.rep (iblk m c 1 t)) ((ms0_2 t).view.rep (iblk m c 2 t)) ((ms0_3 t).view.rep (iblk m c 3 t))
    (V m c main_arg3) (V m c main_arg4) (V m c main_arg5) (V m c main_arg6)

/-- What the body leaves in the result's block. -/
def outAt (c : Dev nD) (t : Fin cfg0.N) : S32x3072.Idx → Elt F .bf16 := (bodyRun m c t).1

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem before0_0 (c : Dev nD) (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

theorem whole_own (c : Dev nD) {sp : Space} {s : Shape} {φ : EltTy} (b : Ref sig .tc) (f : Buf (Elt F) ((c : Thread nD τ).loc b)) :
    (((c : Thread nD τ).loc b) ↦{fullShare} f : sProp 𝕄) = (((c : Thread nD τ).loc b) ↦[Finset.univ]{fullShare} f) := rfl

theorem phi_eq (c : Dev nD) : Pipeline.ΦD (Val := Elt F) (τ := τ) (nD := nD) osem0 spec0 H0 (V m) c
    = (iprop(((∃ f, bWgu.view.loc (c : Thread nD τ) ↦{fullShare} f) ∗ (∃ f, bSgu.view.loc (c : Thread nD τ) ↦{fullShare} f) ∗ (∃ f, bWd.view.loc (c : Thread nD τ) ↦{fullShare} f) ∗ (∃ f, bSd.view.loc (c : Thread nD τ) ↦{fullShare} f)
        ∗ (∃ f, own c bAcc fullShare f) ∗ (∃ f, own c bAct fullShare f))
      ∗ (∃ r, prngReg c r)
      ∗ Pipeline.ownSems0 (Ix := Unit) (Name := ℕ) (U := Pipeline.UD sig nD τ) (Lvl := ℕ) (Val := Elt F) (τ := τ) osem0 c
      ∗ (hWgu.view.loc (c : Thread nD τ) ↦{fullShare} V m c main_arg3) ∗ (hSgu.view.loc (c : Thread nD τ) ↦{fullShare} V m c main_arg4)
          ∗ (hWd.view.loc (c : Thread nD τ) ↦{fullShare} V m c main_arg5) ∗ (hSd.view.loc (c : Thread nD τ) ↦{fullShare} V m c main_arg6)) : sProp 𝕄) := by
  have e4 := fun f : Bf (F := F) c bAcc => (congrArg (fun S => (bAcc.view.loc (c : Thread nD τ) ↦[S]{fullShare} f : sProp 𝕄)) (View.set_whole cc0_scratch4))
  have e5 := fun f : Bf (F := F) c bAct => (congrArg (fun S => (bAct.view.loc (c : Thread nD τ) ↦[S]{fullShare} f : sProp 𝕄)) (View.set_whole cc0_scratch5))
  rw [Pipeline.ΦD_eq, scopedRest0_eq, hbm_eq]
  simp only [own, e4, e5]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0 m c (dats m 0 c) (A_eq m c 0) (after0_0 m c), before0_1 m c (dats m 0 c) (A_eq m c 1) (after0_1 m c),
    before0_2 m c (dats m 0 c) (A_eq m c 2) (after0_2 m c), before0_3 m c (dats m 0 c) (A_eq m c 3) (after0_3 m c)]
  rw [show (dats m 0 c).Φ t.succ = (dats m 0 c).Φ t.castSucc from rfl, after0_0, after0_1, after0_2, after0_3, after0_4]
  rw [show (dats m 0 c).Φ t.castSucc = Pipeline.ΦD osem0 spec0 H0 (V m) c from rfl, phi_eq]
  unfold Dat.owesAt Pipeline.owesWithin
  rw [show (dats m 0 c).owed t.castSucc = 0 from rfl, show (dats m 0 c).owed t.succ = 0 from rfl]
  rw [owns_eq_rep (c : Thread nD τ) (ms0_0 t), owns_eq_rep (c : Thread nD τ) (ms0_1 t), owns_eq_rep (c : Thread nD τ) (ms0_2 t), owns_eq_rep (c : Thread nD τ) (ms0_3 t), owns_eq_rep (c : Thread nD τ) (ms0_4 t) fullShare (outAt m c t)]
  unfold owns
  iintro ⟨⟨⟨B0, B1, B2, B3, ⟨%g13, B4⟩, ⟨%g14, B5⟩⟩, Hg, HC, A3, A4, A5, A6⟩, ⟨%W, -, HW⟩, ⟨%d0, H0⟩, ⟨%d1, H1⟩, ⟨%d2, H2⟩, ⟨%d3, H3⟩, ⟨%d4, %f4, -, H4⟩⟩
  ihave HF := (free_in c (V m c main_arg3) (V m c main_arg4) (V m c main_arg5) (V m c main_arg6)) $$ [B0 B1 B2 B3 HC A3 A4 A5 A6]
  · isplitl [B0]; · iexact B0
    isplitl [B1]; · iexact B1
    isplitl [B2]; · iexact B2
    isplitl [B3]; · iexact B3
    isplitl [HC]; · iexact HC
    isplitl [A3]; · iexact A3
    isplitl [A4]; · iexact A4
    isplitl [A5]; · iexact A5
    iexact A6
  icases HF with ⟨HF, HR⟩
  iapply ((bodyRun m c t).2 f4 g13 g14 W _)
  isplitl [H0]; · iexact H0
  isplitl [H1]; · iexact H1
  isplitl [H2]; · iexact H2
  isplitl [H3]; · iexact H3
  isplitl [H4]; · iexact H4
  isplitl [B4]; · iexact B4
  isplitl [B5]; · iexact B5
  isplitl [HF]; · iexact HF
  isplitl [HW]; · iexact HW
  iintro ⟨H0, H1, H2, H3, H4, B4, B5, HF, ⟨%W', HW'⟩⟩
  ihave HA := (free_out c (V m c main_arg3) (V m c main_arg4) (V m c main_arg5) (V m c main_arg6)) $$ [HF HR]
  · isplitl [HF]; · iexact HF
    iexact HR
  icases HA with ⟨B0, B1, B2, B3, HC, HA⟩
  isplitl [B0 B1 B2 B3 B4 B5 Hg HC HA]
  · isplitl [B0 B1 B2 B3 B4 B5]
    · isplitl [B0]; · iexact B0
      isplitl [B1]; · iexact B1
      isplitl [B2]; · iexact B2
      isplitl [B3]; · iexact B3
      isplitl [B4]; · iexact B4
      iexact B5
    isplitl [Hg]; · iexact Hg
    isplitl [HC]; · iexact HC
    iexact HA
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.Kernel.Hand

end
-- ==== Proof.Hand.RefFrame.lean ====
module

public import proofs.«01_k».proof.Defs
public import proofs.«01_k».proof.Proof.Gen.ReferenceIdeal.Run
public import Idealize.ShloMosaic.Lib.Quiescent

@[expose] public section

noncomputable section

namespace Cert.ReferenceIdeal.Hand

open Cert.ReferenceIdeal Cert.ReferenceIdeal.Gen Idealize.ShloMosaic Idealize.ShloMosaic.TcCoe

/-- The reference ends, and leaves its arguments as they were: a program of host operations has no counters. -/
theorem frame : Cert.quiescent_ReferenceIdeal (hReferenceIdeal := Cert.ReferenceIdeal.Gen.facts) :=
  fun m g _ => (θ_run _ _ _).mono (fun r h => ⟨fun c => (h c).2, sem_eq_zero_of_no_sems (by decide) _⟩) (Cert.ReferenceIdeal.Value.run m g)

end Cert.ReferenceIdeal.Hand

end
-- ==== Proof.Hand.KernelIdeal.Words.lean ====
module

public import proofs.«01_k».proof.Proof.Gen.KernelIdeal.Skeleton
public import Idealize.ShloMosaic.Lib.LoopRemainder
public import Idealize.ShloMosaic.Lib.PairWhole

/-! The words the kernel computes from the expert ids: the mask of the experts some row asks for, the number of such
experts before a given one, the trip counts of the four loops, and the side condition the kernel assumes of them. -/

@[expose] public section

set_option maxRecDepth 16384

namespace Cert.KernelIdeal.Hand

open Cert.KernelIdeal Idealize.ShloMosaic

/-- The mask after one more id. -/
def maskStep (m v : BitVec 32) : BitVec 32 := Scalar.ori m (Scalar.shli 1#32 v)

/-- The mask of a list of ids, bit `e` set when some id is `e`. -/
def maskOf (l : List (BitVec 32)) : BitVec 32 := l.foldl maskStep 0#32

/-- Bit `e` of the mask, as a word. -/
def bit (m : BitVec 32) (e : ℕ) : BitVec 32 := Scalar.andi (Scalar.shrsi m (BitVec.ofNat 32 e)) 1#32

/-- How many of the experts before `e` the mask names. -/
def act (m : BitVec 32) : ℕ → BitVec 32
  | 0 => 0#32
  | e + 1 => Scalar.addi (act m e) (bit m e)

theorem bit_le (m : BitVec 32) (e : ℕ) : (bit m e).toNat ≤ 1 := by
  have h : bit m e = (Scalar.shrsi m (BitVec.ofNat 32 e)) &&& 1#32 := rfl
  rw [h, BitVec.toNat_and]; exact Nat.and_le_right

theorem act_toNat (m : BitVec 32) : ∀ e, e ≤ 8 → (act m e).toNat ≤ e ∧ ∀ e', e' < e → (act m (e' + 1)).toNat = (act m e').toNat + (bit m e').toNat
  | 0, _ => ⟨le_rfl, fun _ h => absurd h (Nat.not_lt_zero _)⟩
  | e + 1, he => by
    obtain ⟨h1, h2⟩ := act_toNat m e (by omega)
    have hb := bit_le m e
    have hs : (act m (e + 1)).toNat = (act m e).toNat + (bit m e).toNat := by
      show (act m e + bit m e).toNat = _
      rw [BitVec.toNat_add, Nat.mod_eq_of_lt (by omega)]
    refine ⟨by omega, fun e' h => ?_⟩
    rcases Nat.lt_or_ge e' e with h' | h'
    · exact h2 e' h'
    · obtain rfl : e' = e := by omega
      exact hs

theorem act_le (m : BitVec 32) (e : ℕ) (he : e ≤ 8) : (act m e).toNat ≤ e := (act_toNat m e he).1

theorem act_succ (m : BitVec 32) (e : ℕ) (he : e < 8) : (act m (e + 1)).toNat = (act m e).toNat + (bit m e).toNat :=
  (act_toNat m 8 le_rfl).2 e he

variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

theorem off1_eq : k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 1).toNat] := rfl
theorem off2_eq : k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 2).toNat] := rfl
theorem off3_eq : k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 3).toNat] := rfl
theorem off4_eq : k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 4).toNat] := rfl
theorem off5_eq : k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 5).toNat] := rfl
theorem off6_eq : k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 6).toNat] := rfl
theorem off7_eq : k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = ![(act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 7).toNat] := rfl

/-- The loop over `x` experts, before the unrolling by one is divided out. -/
def loopOf (x : BitVec 32) : Scf.Loop 32 :=
  ⟨0#32, Scalar.addi 0#32 (Scalar.muli (Scalar.divsi (Scalar.subi x 0#32) 1#32) 1#32), 1#32⟩

/-- What remains of it after whole trips: nothing. -/
def restOf (x : BitVec 32) : Scf.Loop 32 :=
  ⟨Scalar.addi 0#32 (Scalar.muli (Scalar.divsi (Scalar.subi x 0#32) 1#32) 1#32), Scalar.addi 0#32 (Scalar.subi x 0#32), 1#32⟩

theorem t1_loop_eq : k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = loopOf (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8) := rfl
theorem t2_loop_eq : k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = restOf (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8) := rfl
theorem t3_loop_eq : k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = loopOf (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8) := rfl
theorem t4_loop_eq : k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 = restOf (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8) := rfl

theorem loopOf_ub (x : BitVec 32) : (loopOf x).ub = x := by
  show Scalar.addi 0#32 (Scalar.muli (Scalar.divsi (Scalar.subi x 0#32) 1#32) 1#32) = x
  rw [Scalar.muli_divsi_one]
  show (0#32 + (x - 0#32)) = x
  simp

theorem loopOf_trips (x : BitVec 32) (hx : x.toNat ≤ 8) : (loopOf x).trips = x.toNat := by
  show Scf.trips 0#32 (loopOf x).ub 1#32 = _
  rw [loopOf_ub]
  have h : x.toInt = x.toNat := BitVec.toInt_eq_toNat_of_lt (by omega)
  have h1 : (1#32 : BitVec 32).toInt = 1 := by decide
  have h0 : (0#32 : BitVec 32).toInt = 0 := by decide
  rw [Scf.trips, h, h1, h0, Int.ediv_one]
  omega

theorem loopOf_ok (x : BitVec 32) (hx : x.toNat ≤ 8) : (loopOf x).OK := by
  have ht := loopOf_trips x hx
  have h1 : (1#32 : BitVec 32).toInt = 1 := by decide
  have h0 : (0#32 : BitVec 32).toInt = 0 := by decide
  refine ⟨by show 0 < (1#32 : BitVec 32).toInt; decide, ?_⟩
  show (0#32 : BitVec 32).toInt + ((loopOf x).trips : Int) * (1#32 : BitVec 32).toInt < 2 ^ 31
  rw [ht, h0, h1]; omega

theorem restOf_trips (x : BitVec 32) : (restOf x).trips = 0 := Scf.rem_trips _ _

theorem restOf_ok (x : BitVec 32) : (restOf x).OK := Scf.rem_ok _ _

theorem act8_le (m : BitVec 32) : (act m 8).toNat ≤ 8 := act_le m 8 le_rfl

theorem t1_trips : (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips = (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8).toNat :=
  (congrArg Scf.Loop.trips t1_loop_eq).trans (loopOf_trips _ (act8_le _))
theorem t3_trips : (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips = (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8).toNat :=
  (congrArg Scf.Loop.trips t3_loop_eq).trans (loopOf_trips _ (act8_le _))
theorem t2_trips : (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips = 0 :=
  (congrArg Scf.Loop.trips t2_loop_eq).trans (restOf_trips _)
theorem t4_trips : (k0_t4_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips = 0 :=
  (congrArg Scf.Loop.trips t4_loop_eq).trans (restOf_trips _)

theorem t1_lt (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k.val < 8 :=
  lt_of_lt_of_le k.isLt (t1_trips.trans_le (act8_le _))
theorem t3_lt (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k.val < 8 :=
  lt_of_lt_of_le k.isLt (t3_trips.trans_le (act8_le _))

theorem iv_toNat (k : ℕ) (hk : k < 8) : (Scf.iv 0#32 1#32 k).toNat = k := by
  have h : Scf.iv 0#32 1#32 k = BitVec.ofNat 32 k := by simp [Scf.iv]
  rw [h, BitVec.toNat_ofNat, Nat.mod_eq_of_lt (by omega)]

theorem ivIdx_toNat (k : ℕ) (hk : k < 8) : (Scalar.indexCast (Scf.iv 0#32 1#32 k) : BitVec 32).toNat = k := iv_toNat k hk

theorem off8_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val] := by
  show ![_] = _; rw [ivIdx_toNat _ (t1_lt k)]
theorem off9_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0] := by
  show ![_, 0] = _; rw [iv_toNat _ (t1_lt k)]
theorem off10_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := by
  show ![_, 0, 0] = _; rw [iv_toNat _ (t1_lt k)]
theorem off12_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 1] := by
  show ![_, 1] = _; rw [iv_toNat _ (t1_lt k)]
theorem off13_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off10_eq k
theorem off15_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 2] := by
  show ![_, 2] = _; rw [iv_toNat _ (t1_lt k)]
theorem off16_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off10_eq k
theorem off18_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off18 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 3] := by
  show ![_, 3] = _; rw [iv_toNat _ (t1_lt k)]
theorem off19_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off19 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off10_eq k

theorem off34_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off34 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val] := by
  show ![_] = _; rw [ivIdx_toNat _ (t3_lt k)]
theorem off35_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0] := by
  show ![_, 0] = _; rw [iv_toNat _ (t3_lt k)]
theorem off36_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off36 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := by
  show ![_, 0, 0] = _; rw [iv_toNat _ (t3_lt k)]
theorem off38_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 1] := by
  show ![_, 1] = _; rw [iv_toNat _ (t3_lt k)]
theorem off39_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off36_eq k
theorem off41_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 2] := by
  show ![_, 2] = _; rw [iv_toNat _ (t3_lt k)]
theorem off42_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off36_eq k
theorem off44_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 3] := by
  show ![_, 3] = _; rw [iv_toNat _ (t3_lt k)]
theorem off45_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off36_eq k
theorem off47_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off47 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val] := off34_eq k
theorem off48_eq (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : k0_off48 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k = ![k.val, 0, 0] := off36_eq k

/-- A word-sized place below eight is in an array of eight words. -/
theorem inb1 {off : Fin 1 → ℕ} {j : ℕ} (h : off = ![j]) (hj : j < 8) : ∀ a, off a + S1.size a ≤ S8.size a := by
  subst h; intro a; fin_cases a; show j + 1 ≤ 8; omega
theorem inbSem {off : Fin 2 → ℕ} {j i : ℕ} (h : off = ![j, i]) (hj : j < 8) (hi : i < 4) : ∀ a, off a + S1x1.size a ≤ S8x4.size a := by
  subst h; intro a; fin_cases a
  · show j + 1 ≤ 8; omega
  · show i + 1 ≤ 4; omega
theorem inbWgu {off : Fin 3 → ℕ} {j : ℕ} (h : off = ![j, 0, 0]) (hj : j < 8) : ∀ a, off a + S1x1536x2048.size a ≤ S8x1536x2048.size a := by
  subst h; intro a; fin_cases a
  · show j + 1 ≤ 8; omega
  · exact le_rfl
  · exact le_rfl
theorem inbSgu {off : Fin 3 → ℕ} {j : ℕ} (h : off = ![j, 0, 0]) (hj : j < 8) : ∀ a, off a + S1x24x2048.size a ≤ S8x24x2048.size a := by
  subst h; intro a; fin_cases a
  · show j + 1 ≤ 8; omega
  · exact le_rfl
  · exact le_rfl
theorem inbWd {off : Fin 3 → ℕ} {j : ℕ} (h : off = ![j, 0, 0]) (hj : j < 8) : ∀ a, off a + S1x512x3072.size a ≤ S8x512x3072.size a := by
  subst h; intro a; fin_cases a
  · show j + 1 ≤ 8; omega
  · exact le_rfl
  · exact le_rfl
theorem inbSd {off : Fin 3 → ℕ} {j : ℕ} (h : off = ![j, 0, 0]) (hj : j < 8) : ∀ a, off a + S1x8x3072.size a ≤ S8x8x3072.size a := by
  subst h; intro a; fin_cases a
  · show j + 1 ≤ 8; omega
  · exact le_rfl
  · exact le_rfl

/-- A slot of a three-axis array is whole words: it takes every row. -/
theorem wordsWgu {off : Fin 3 → ℕ} {j : ℕ} (h : off = ![j, 0, 0]) (p : ℕ) (hinb : ∀ a, off a + S1x1536x2048.size a ≤ S8x1536x2048.size a) :
    (Rect.unit (s := S8x1536x2048) off S1x1536x2048.size hinb).WholeWords p := by
  subst h; exact .inr ⟨by decide, rfl, rfl, rfl⟩
theorem wordsSgu {off : Fin 3 → ℕ} {j : ℕ} (h : off = ![j, 0, 0]) (p : ℕ) (hinb : ∀ a, off a + S1x24x2048.size a ≤ S8x24x2048.size a) :
    (Rect.unit (s := S8x24x2048) off S1x24x2048.size hinb).WholeWords p := by
  subst h; exact .inr ⟨by decide, rfl, rfl, rfl⟩
theorem wordsWd {off : Fin 3 → ℕ} {j : ℕ} (h : off = ![j, 0, 0]) (p : ℕ) (hinb : ∀ a, off a + S1x512x3072.size a ≤ S8x512x3072.size a) :
    (Rect.unit (s := S8x512x3072) off S1x512x3072.size hinb).WholeWords p := by
  subst h; exact .inr ⟨by decide, rfl, rfl, rfl⟩
theorem wordsSd {off : Fin 3 → ℕ} {j : ℕ} (h : off = ![j, 0, 0]) (p : ℕ) (hinb : ∀ a, off a + S1x8x3072.size a ≤ S8x8x3072.size a) :
    (Rect.unit (s := S8x8x3072) off S1x8x3072.size hinb).WholeWords p := by
  subst h; exact .inr ⟨by decide, rfl, rfl, rfl⟩

/-- Nothing is asked of the trips of a loop that runs none. -/
theorem no_trip {n : ℕ} (h : n = 0) (k : Fin n) : False := by
  subst h; exact k.elim0

theorem chk1_0 : k0_chk1_0 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 :=
  ⟨inb1 off1_eq (lt_of_le_of_lt (act_le _ 1 (by omega)) (by omega)),
   inb1 off2_eq (lt_of_le_of_lt (act_le _ 2 (by omega)) (by omega)),
   inb1 off3_eq (lt_of_le_of_lt (act_le _ 3 (by omega)) (by omega)),
   inb1 off4_eq (lt_of_le_of_lt (act_le _ 4 (by omega)) (by omega)),
   inb1 off5_eq (lt_of_le_of_lt (act_le _ 5 (by omega)) (by omega)),
   inb1 off6_eq (lt_of_le_of_lt (act_le _ 6 (by omega)) (by omega)),
   inb1 off7_eq (lt_of_le_of_lt (act_le _ 7 (by omega)) (by omega)),
   t1_loop_eq ▸ loopOf_ok _ (act8_le _),
   fun k => inb1 (off8_eq k) (t1_lt k),
   fun k => inbSem (off9_eq k) (t1_lt k) (by omega),
   fun k => inbSgu (off10_eq k) (t1_lt k),
   fun k => wordsSgu (off10_eq k) _,
   fun k => inbSem (off12_eq k) (t1_lt k) (by omega),
   fun k => inbWgu (off13_eq k) (t1_lt k),
   fun k => wordsWgu (off13_eq k) _,
   fun k => inbSem (off15_eq k) (t1_lt k) (by omega),
   fun k => inbSd (off16_eq k) (t1_lt k),
   fun k => wordsSd (off16_eq k) _,
   fun k => inbSem (off18_eq k) (t1_lt k) (by omega),
   fun k => inbWd (off19_eq k) (t1_lt k),
   fun k => wordsWd (off19_eq k) _,
   t2_loop_eq ▸ restOf_ok _,
   fun k => (no_trip t2_trips k).elim,
   fun k => (no_trip t2_trips k).elim,
   fun k => (no_trip t2_trips k).elim,
   fun k => (no_trip t2_trips k).elim,
   fun k => (no_trip t2_trips k).elim,
   fun k => (no_trip t2_trips k).elim,
   fun k => (no_trip t2_trips k).elim,
   fun k => (no_trip t2_trips k).elim,
   fun k => (no_trip t2_trips k).elim,
   fun k => (no_trip t2_trips k).elim⟩

theorem chk1_1 : k0_chk1_1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 :=
  ⟨fun k => (no_trip t2_trips k).elim,
   fun k => (no_trip t2_trips k).elim,
   fun k => (no_trip t2_trips k).elim,
   t3_loop_eq ▸ loopOf_ok _ (act8_le _),
   fun k => inb1 (off34_eq k) (t3_lt k),
   fun k => inbSem (off35_eq k) (t3_lt k) (by omega),
   fun k => inbSgu (off36_eq k) (t3_lt k),
   fun k => wordsSgu (off36_eq k) _,
   fun k => inbSem (off38_eq k) (t3_lt k) (by omega),
   fun k => inbWgu (off39_eq k) (t3_lt k),
   fun k => wordsWgu (off39_eq k) _,
   fun k => inbSem (off41_eq k) (t3_lt k) (by omega),
   fun k => inbSd (off42_eq k) (t3_lt k),
   fun k => wordsSd (off42_eq k) _,
   fun k => inbSem (off44_eq k) (t3_lt k) (by omega),
   fun k => inbWd (off45_eq k) (t3_lt k),
   fun k => wordsWd (off45_eq k) _,
   fun k => inb1 (off47_eq k) (t3_lt k),
   fun k => inbSgu (off48_eq k) (t3_lt k),
   t4_loop_eq ▸ restOf_ok _,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim,
   fun k => (no_trip t4_trips k).elim⟩

theorem chk1_2 : k0_chk1_2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 :=
  ⟨fun k => (no_trip t4_trips k).elim, fun k => (no_trip t4_trips k).elim, fun k => (no_trip t4_trips k).elim⟩

/-- What the kernel assumes of the words it computes from the ids holds of every sixty-four words. -/
theorem chk1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 := ⟨chk1_0, chk1_1, chk1_2⟩

end Cert.KernelIdeal.Hand

end
-- ==== Proof.Hand.KernelIdeal.Slots.lean ====
module

public import proofs.«01_k».proof.Proof.Hand.KernelIdeal.Words
public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Transfers

/-! The slots the kernel copies experts into, the cells it waits on and the rows it copies from, under names that do not
mention the words they are computed from, and the equations by which the program's own spellings are these. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

abbrev bWgu : Memref sig .tc .vmem S8x1536x2048 .i8 := Memref.whole cc0_scratch0
abbrev bSgu : Memref sig .tc .vmem S8x24x2048 .bf16 := Memref.whole cc0_scratch1
abbrev bWd : Memref sig .tc .vmem S8x512x3072 .i8 := Memref.whole cc0_scratch2
abbrev bSd : Memref sig .tc .vmem S8x8x3072 .bf16 := Memref.whole cc0_scratch3
abbrev bAcc : Memref sig .tc .vmem S32x3072 .f32 := Memref.whole cc0_scratch4
abbrev bAct : Memref sig .tc .smem S8 .i32 := Memref.whole cc0_scratch5
abbrev hWgu : Memref sig .tc .hbm S8x1536x2048 .i8 := Memref.whole main_arg3
abbrev hSgu : Memref sig .tc .hbm S8x24x2048 .bf16 := Memref.whole main_arg4
abbrev hWd : Memref sig .tc .hbm S8x512x3072 .i8 := Memref.whole main_arg5
abbrev hSd : Memref sig .tc .hbm S8x8x3072 .bf16 := Memref.whole main_arg6

/-- Slot `j` of each of the four buffers. -/
def sWgu (j : Fin 8) : Memref sig .tc .vmem S1536x2048 .i8 :=
  (bWgu.slice (Rect.unit (s := S8x1536x2048) ![j.val, 0, 0] S1x1536x2048.size (inbWgu rfl j.isLt)) (fun _ => rfl)).squeeze S1536x2048 squeezes_S1x1536x2048_S1536x2048
def sSgu (j : Fin 8) : Memref sig .tc .vmem S24x2048 .bf16 :=
  (bSgu.slice (Rect.unit (s := S8x24x2048) ![j.val, 0, 0] S1x24x2048.size (inbSgu rfl j.isLt)) (fun _ => rfl)).squeeze S24x2048 squeezes_S1x24x2048_S24x2048
def sWd (j : Fin 8) : Memref sig .tc .vmem S512x3072 .i8 :=
  (bWd.slice (Rect.unit (s := S8x512x3072) ![j.val, 0, 0] S1x512x3072.size (inbWd rfl j.isLt)) (fun _ => rfl)).squeeze S512x3072 squeezes_S1x512x3072_S512x3072
def sSd (j : Fin 8) : Memref sig .tc .vmem S8x3072 .bf16 :=
  (bSd.slice (Rect.unit (s := S8x8x3072) ![j.val, 0, 0] S1x8x3072.size (inbSd rfl j.isLt)) (fun _ => rfl)).squeeze S8x3072 squeezes_S1x8x3072_S8x3072

/-- Expert `e`'s rows in each of the four arguments. -/
def rWgu (j : Fin 8) : Memref sig .tc .hbm S1536x2048 .i8 :=
  (hWgu.slice (Rect.unit (s := S8x1536x2048) ![j.val, 0, 0] S1x1536x2048.size (inbWgu rfl j.isLt)) (fun _ => rfl)).squeeze S1536x2048 squeezes_S1x1536x2048_S1536x2048
def rSgu (j : Fin 8) : Memref sig .tc .hbm S24x2048 .bf16 :=
  (hSgu.slice (Rect.unit (s := S8x24x2048) ![j.val, 0, 0] S1x24x2048.size (inbSgu rfl j.isLt)) (fun _ => rfl)).squeeze S24x2048 squeezes_S1x24x2048_S24x2048
def rWd (j : Fin 8) : Memref sig .tc .hbm S512x3072 .i8 :=
  (hWd.slice (Rect.unit (s := S8x512x3072) ![j.val, 0, 0] S1x512x3072.size (inbWd rfl j.isLt)) (fun _ => rfl)).squeeze S512x3072 squeezes_S1x512x3072_S512x3072
def rSd (j : Fin 8) : Memref sig .tc .hbm S8x3072 .bf16 :=
  (hSd.slice (Rect.unit (s := S8x8x3072) ![j.val, 0, 0] S1x8x3072.size (inbSd rfl j.isLt)) (fun _ => rfl)).squeeze S8x3072 squeezes_S1x8x3072_S8x3072

/-- Cell `i` of slot `j`. -/
def cell (j : Fin 8) (i : Fin 4) : DmaSems sig S_ :=
  (cc0_scratch6.slice (Rect.unit (s := S8x4) ![j.val, i.val] S1x1.size (inbSem rfl j.isLt i.isLt))).squeeze S_ squeezes_S1x1_S_

theorem cell_congr {off : Fin 2 → ℕ} {j : Fin 8} {i : Fin 4} (e : off = ![j.val, i.val]) (hh) :
    (cc0_scratch6.slice (Rect.unit (s := S8x4) off S1x1.size hh)).squeeze S_ squeezes_S1x1_S_ = cell j i :=
  congrArg (fun A : DmaSems sig S1x1 => A.squeeze S_ squeezes_S1x1_S_) (SemArray.slice_unit_congr _ e _ _)
theorem sWgu_congr {off : Fin 3 → ℕ} {j : Fin 8} (e : off = ![j.val, 0, 0]) (hh hs) :
    (bWgu.slice (Rect.unit (s := S8x1536x2048) off S1x1536x2048.size hh) hs).squeeze S1536x2048 squeezes_S1x1536x2048_S1536x2048 = sWgu j :=
  congrArg (fun M : Memref sig .tc .vmem S1x1536x2048 .i8 => M.squeeze S1536x2048 squeezes_S1x1536x2048_S1536x2048) (Memref.slice_unit_congr _ e _ _ _ _)
theorem sSgu_congr {off : Fin 3 → ℕ} {j : Fin 8} (e : off = ![j.val, 0, 0]) (hh hs) :
    (bSgu.slice (Rect.unit (s := S8x24x2048) off S1x24x2048.size hh) hs).squeeze S24x2048 squeezes_S1x24x2048_S24x2048 = sSgu j :=
  congrArg (fun M : Memref sig .tc .vmem S1x24x2048 .bf16 => M.squeeze S24x2048 squeezes_S1x24x2048_S24x2048) (Memref.slice_unit_congr _ e _ _ _ _)
theorem sWd_congr {off : Fin 3 → ℕ} {j : Fin 8} (e : off = ![j.val, 0, 0]) (hh hs) :
    (bWd.slice (Rect.unit (s := S8x512x3072) off S1x512x3072.size hh) hs).squeeze S512x3072 squeezes_S1x512x3072_S512x3072 = sWd j :=
  congrArg (fun M : Memref sig .tc .vmem S1x512x3072 .i8 => M.squeeze S512x3072 squeezes_S1x512x3072_S512x3072) (Memref.slice_unit_congr _ e _ _ _ _)
theorem sSd_congr {off : Fin 3 → ℕ} {j : Fin 8} (e : off = ![j.val, 0, 0]) (hh hs) :
    (bSd.slice (Rect.unit (s := S8x8x3072) off S1x8x3072.size hh) hs).squeeze S8x3072 squeezes_S1x8x3072_S8x3072 = sSd j :=
  congrArg (fun M : Memref sig .tc .vmem S1x8x3072 .bf16 => M.squeeze S8x3072 squeezes_S1x8x3072_S8x3072) (Memref.slice_unit_congr _ e _ _ _ _)
theorem rWgu_congr {off : Fin 3 → ℕ} {j : Fin 8} (e : off = ![j.val, 0, 0]) (hh hs) :
    (hWgu.slice (Rect.unit (s := S8x1536x2048) off S1x1536x2048.size hh) hs).squeeze S1536x2048 squeezes_S1x1536x2048_S1536x2048 = rWgu j :=
  congrArg (fun M : Memref sig .tc .hbm S1x1536x2048 .i8 => M.squeeze S1536x2048 squeezes_S1x1536x2048_S1536x2048) (Memref.slice_unit_congr _ e _ _ _ _)
theorem rSgu_congr {off : Fin 3 → ℕ} {j : Fin 8} (e : off = ![j.val, 0, 0]) (hh hs) :
    (hSgu.slice (Rect.unit (s := S8x24x2048) off S1x24x2048.size hh) hs).squeeze S24x2048 squeezes_S1x24x2048_S24x2048 = rSgu j :=
  congrArg (fun M : Memref sig .tc .hbm S1x24x2048 .bf16 => M.squeeze S24x2048 squeezes_S1x24x2048_S24x2048) (Memref.slice_unit_congr _ e _ _ _ _)
theorem rWd_congr {off : Fin 3 → ℕ} {j : Fin 8} (e : off = ![j.val, 0, 0]) (hh hs) :
    (hWd.slice (Rect.unit (s := S8x512x3072) off S1x512x3072.size hh) hs).squeeze S512x3072 squeezes_S1x512x3072_S512x3072 = rWd j :=
  congrArg (fun M : Memref sig .tc .hbm S1x512x3072 .i8 => M.squeeze S512x3072 squeezes_S1x512x3072_S512x3072) (Memref.slice_unit_congr _ e _ _ _ _)
theorem rSd_congr {off : Fin 3 → ℕ} {j : Fin 8} (e : off = ![j.val, 0, 0]) (hh hs) :
    (hSd.slice (Rect.unit (s := S8x8x3072) off S1x8x3072.size hh) hs).squeeze S8x3072 squeezes_S1x8x3072_S8x3072 = rSd j :=
  congrArg (fun M : Memref sig .tc .hbm S1x8x3072 .bf16 => M.squeeze S8x3072 squeezes_S1x8x3072_S8x3072) (Memref.slice_unit_congr _ e _ _ _ _)

variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

/-- The slot of a trip of the copying loop, and of the computing loop. -/
def slot1 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 8 := ⟨k.val, t1_lt k⟩
def slot3 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : Fin 8 := ⟨k.val, t3_lt k⟩

/-- The expert a word names. -/
def expert (w : BitVec 32) : Fin 8 := ⟨w.toNat % 8, Nat.mod_lt _ (by omega)⟩
theorem expert_off {w : BitVec 32} (h : w.toNat < 8) : (![w.toNat, 0, 0] : Fin 3 → ℕ) = ![(expert w).val, 0, 0] := by
  show _ = ![w.toNat % 8, 0, 0]; rw [Nat.mod_eq_of_lt h]

@[sl_canon] theorem cell9 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot1 k) 0 := cell_congr (off9_eq k) hh
@[sl_canon] theorem cell12 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot1 k) 1 := cell_congr (off12_eq k) hh
@[sl_canon] theorem cell15 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot1 k) 2 := cell_congr (off15_eq k) hh
@[sl_canon] theorem cell18 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off18 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot1 k) 3 := cell_congr (off18_eq k) hh
@[sl_canon] theorem slot10 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bSgu.slice (Rect.unit (s := S8x24x2048) (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x24x2048.size hh) hs).squeeze S24x2048 squeezes_S1x24x2048_S24x2048 = sSgu (slot1 k) := sSgu_congr (off10_eq k) hh hs
@[sl_canon] theorem slot13 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bWgu.slice (Rect.unit (s := S8x1536x2048) (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1536x2048.size hh) hs).squeeze S1536x2048 squeezes_S1x1536x2048_S1536x2048 = sWgu (slot1 k) := sWgu_congr (off13_eq k) hh hs
@[sl_canon] theorem slot16 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bSd.slice (Rect.unit (s := S8x8x3072) (k0_off16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x8x3072.size hh) hs).squeeze S8x3072 squeezes_S1x8x3072_S8x3072 = sSd (slot1 k) := sSd_congr (off16_eq k) hh hs
@[sl_canon] theorem slot19 (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bWd.slice (Rect.unit (s := S8x512x3072) (k0_off19 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x512x3072.size hh) hs).squeeze S512x3072 squeezes_S1x512x3072_S512x3072 = sWd (slot1 k) := sWd_congr (off19_eq k) hh hs

@[sl_canon] theorem row11 (w : BitVec 32) (hw : w.toNat < 8) (hh hs) :
    (hSgu.slice (Rect.unit (s := S8x24x2048) (k0_off11 w) S1x24x2048.size hh) hs).squeeze S24x2048 squeezes_S1x24x2048_S24x2048 = rSgu (expert w) := rSgu_congr (expert_off hw) hh hs
@[sl_canon] theorem row14 (w : BitVec 32) (hw : w.toNat < 8) (hh hs) :
    (hWgu.slice (Rect.unit (s := S8x1536x2048) (k0_off14 w) S1x1536x2048.size hh) hs).squeeze S1536x2048 squeezes_S1x1536x2048_S1536x2048 = rWgu (expert w) := rWgu_congr (expert_off hw) hh hs
@[sl_canon] theorem row17 (w : BitVec 32) (hw : w.toNat < 8) (hh hs) :
    (hSd.slice (Rect.unit (s := S8x8x3072) (k0_off17 w) S1x8x3072.size hh) hs).squeeze S8x3072 squeezes_S1x8x3072_S8x3072 = rSd (expert w) := rSd_congr (expert_off hw) hh hs
@[sl_canon] theorem row20 (w : BitVec 32) (hw : w.toNat < 8) (hh hs) :
    (hWd.slice (Rect.unit (s := S8x512x3072) (k0_off20 w) S1x512x3072.size hh) hs).squeeze S512x3072 squeezes_S1x512x3072_S512x3072 = rWd (expert w) := rWd_congr (expert_off hw) hh hs

@[sl_canon] theorem cell35 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot3 k) 0 := cell_congr (off35_eq k) hh
@[sl_canon] theorem cell38 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot3 k) 1 := cell_congr (off38_eq k) hh
@[sl_canon] theorem cell41 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot3 k) 2 := cell_congr (off41_eq k) hh
@[sl_canon] theorem cell44 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh) :
    (cc0_scratch6.slice (Rect.unit (s := S8x4) (k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1.size hh)).squeeze S_ squeezes_S1x1_S_ = cell (slot3 k) 3 := cell_congr (off44_eq k) hh
@[sl_canon] theorem slot36 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bSgu.slice (Rect.unit (s := S8x24x2048) (k0_off36 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x24x2048.size hh) hs).squeeze S24x2048 squeezes_S1x24x2048_S24x2048 = sSgu (slot3 k) := sSgu_congr (off36_eq k) hh hs
@[sl_canon] theorem slot48 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bSgu.slice (Rect.unit (s := S8x24x2048) (k0_off48 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x24x2048.size hh) hs).squeeze S24x2048 squeezes_S1x24x2048_S24x2048 = sSgu (slot3 k) := sSgu_congr (off48_eq k) hh hs
@[sl_canon] theorem slot39 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bWgu.slice (Rect.unit (s := S8x1536x2048) (k0_off39 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x1536x2048.size hh) hs).squeeze S1536x2048 squeezes_S1x1536x2048_S1536x2048 = sWgu (slot3 k) := sWgu_congr (off39_eq k) hh hs
@[sl_canon] theorem slot42 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bSd.slice (Rect.unit (s := S8x8x3072) (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x8x3072.size hh) hs).squeeze S8x3072 squeezes_S1x8x3072_S8x3072 = sSd (slot3 k) := sSd_congr (off42_eq k) hh hs
@[sl_canon] theorem slot45 (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (hh hs) :
    (bWd.slice (Rect.unit (s := S8x512x3072) (k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1x512x3072.size hh) hs).squeeze S512x3072 squeezes_S1x512x3072_S512x3072 = sWd (slot3 k) := sWd_congr (off45_eq k) hh hs

/-- Expert words below eight name rows inside the four arguments, in whole words. -/
theorem chk2_of {w : BitVec 32} (h : w.toNat < 8) : k0_chk2 w :=
  ⟨inbSgu rfl h, wordsSgu rfl _, inbWgu rfl h, wordsWgu rfl _, inbSd rfl h, wordsSd rfl _, inbWd rfl h, wordsWd rfl _⟩
theorem chk4_of {w : BitVec 32} (h : w.toNat < 8) : k0_chk4 w :=
  ⟨inbSgu rfl h, wordsSgu rfl _, inbWgu rfl h, wordsWgu rfl _, inbSd rfl h, wordsSd rfl _, inbWd rfl h, wordsWd rfl _⟩

section Words
variable {F : FTy → Type} [FloatOps F]
/-- Word `j` of the list of experts to run. -/
def word (c : Dev nD) (f : Buf (Elt F) (bAct.view.loc (c : Thread nD τ))) (j : Fin 8) : BitVec 32 :=
  bAct.view.read (Elt F) f (fun a => ⟨j.val, lt_of_lt_of_eq j.isLt (by fin_cases a; rfl)⟩)
theorem readAct (c : Dev nD) (f : Buf (Elt F) (bAct.view.loc (c : Thread nD τ))) {off : Fin 1 → ℕ} {j : Fin 8} (e : off = ![j.val]) (hh) (hn) :
    (bAct.view.readAt (Elt F) (Rect.unit (s := S8) off S1.size hh).toLoadRect f (Shape.Idx.first hn) : BitVec 32) = word c f j := by
  subst e
  refine congrArg (bAct.view.read (Elt F) f) (funext fun a => Fin.ext ?_)
  fin_cases a
  rfl
end Words

end Cert.KernelIdeal.Hand

end
-- ==== Proof.Hand.KernelIdeal.Res.lean ====
module

public import proofs.«01_k».proof.Proof.Hand.KernelIdeal.Slots
public import Idealize.ShloMosaic.Lib.Pipeline.TableIdle

/-! What the kernel holds of one slot: free (the slot at some contents, its cell at zero, a read token of the argument) or
in flight (the copy of one expert's rows into it). -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev Bf {sp : Space} {s : Shape} {φ : EltTy} (c : Dev nD) (M : Memref sig .tc sp s φ) := Buf (Elt F) (M.view.loc (c : Thread nD τ))
abbrev own {sp : Space} {s : Shape} {φ : EltTy} (c : Dev nD) (M : Memref sig .tc sp s φ) (q : PosShare TreeShare) (f : Bf (F := F) c M) : sProp 𝕄 :=
  M.view.loc (c : Thread nD τ) ↦[M.view.set]{q} f

abbrev EC : UEmb Counters 𝕄 := countersEmb (U := Pipeline.UD sig nD τ)

/-- Elements held at contents that read `X` are held at the canonical contents of `X`. -/
theorem own_rep (c : Dev nD) {sp : Space} {s : Shape} {φ : EltTy} (M : Memref sig .tc sp s φ) (q : PosShare TreeShare) (f : Bf (F := F) c M)
    {X : s.Idx → Elt F φ} (h : M.view.read (Elt F) f = X) : own c M q f ⊢ own c M q (M.view.rep X) := by
  iintro H
  ihave H' := (owns_intro (c : Thread nD τ) M q f) $$ H
  rw [h]
  ihave H'' := (Entails.of_eq (owns_eq_rep (c : Thread nD τ) M q X)) $$ H'
  iexact H''

/-- A slot's part of one buffer, free: the slot at some contents, its cell at zero, and the token of the argument. -/
def freeOne (c : Dev nD) {s s' : Shape} {φ : EltTy} (z : DmaSems sig S_) (dst : Memref sig .tc .vmem s φ) (arr : Memref sig .tc .hbm s' φ)
    (q : PosShare TreeShare) (fs : Bf (F := F) c arr) : sProp 𝕄 :=
  iprop((∃ g, own c dst fullShare g) ∗ semVal ((c : Thread nD τ), SemLoc.dma z.sem) 0 ∗ (arr.view.loc (c : Thread nD τ) ↦{q} fs))

/-- The same in flight: the copy of `src` into the slot, and the token's rest. -/
def flyOne (c : Dev nD) {s : Shape} {φ : EltTy} (z : DmaSems sig S_) (dst : Memref sig .tc .vmem s φ) (src : Memref sig .tc .hbm s φ)
    (q : PosShare TreeShare) (fs : Bf (F := F) c src) : sProp 𝕄 :=
  iprop(Transfers.Flight EC (c : Thread nD τ) (.dma z.sem) () dst.view.dmaCredit
      iprop(own c dst fullShare (dst.view.rep (src.view.read (Elt F) fs)) ∗ own c src q fs)
    ∗ (src.view.loc (c : Thread nD τ) ↦[Finset.univ \ src.view.set]{q} fs))

abbrev tok (j : Fin 8) : PosShare TreeShare := Transfers.shareTok fullShare 8 j

/-- Slot `j` free. -/
def Free (c : Dev nD) (fW : Bf (F := F) c hWgu) (fS : Bf (F := F) c hSgu) (fD : Bf (F := F) c hWd) (fT : Bf (F := F) c hSd) (j : Fin 8) : sProp 𝕄 :=
  iprop(freeOne c (cell j 0) (sSgu j) hSgu (tok j) fS ∗ freeOne c (cell j 1) (sWgu j) hWgu (tok j) fW
    ∗ freeOne c (cell j 2) (sSd j) hSd (tok j) fT ∗ freeOne c (cell j 3) (sWd j) hWd (tok j) fD)

/-- Slot `j` with expert `e`'s rows on their way. -/
def Fly (c : Dev nD) (fW : Bf (F := F) c hWgu) (fS : Bf (F := F) c hSgu) (fD : Bf (F := F) c hWd) (fT : Bf (F := F) c hSd) (j e : Fin 8) : sProp 𝕄 :=
  iprop(flyOne c (cell j 0) (sSgu j) (rSgu e) (tok j) fS ∗ flyOne c (cell j 1) (sWgu j) (rWgu e) (tok j) fW
    ∗ flyOne c (cell j 2) (sSd j) (rSd e) (tok j) fT ∗ flyOne c (cell j 3) (sWd j) (rWd e) (tok j) fD)

/-- The token of an argument is the rows lent and the rest. -/
theorem lendWgu (c : Dev nD) (e : Fin 8) (q : PosShare TreeShare) (fs : Bf (F := F) c hWgu) :
    ((hWgu.view.loc (c : Thread nD τ) ↦{q} fs) : sProp 𝕄) ⊣⊢ iprop(own c (rWgu e) q fs ∗ ((rWgu e).view.loc (c : Thread nD τ) ↦[Finset.univ \ (rWgu e).view.set]{q} fs)) :=
  pointsTo_split_subset (Finset.subset_univ (rWgu e).view.set)
theorem lendSgu (c : Dev nD) (e : Fin 8) (q : PosShare TreeShare) (fs : Bf (F := F) c hSgu) :
    ((hSgu.view.loc (c : Thread nD τ) ↦{q} fs) : sProp 𝕄) ⊣⊢ iprop(own c (rSgu e) q fs ∗ ((rSgu e).view.loc (c : Thread nD τ) ↦[Finset.univ \ (rSgu e).view.set]{q} fs)) :=
  pointsTo_split_subset (Finset.subset_univ (rSgu e).view.set)
theorem lendWd (c : Dev nD) (e : Fin 8) (q : PosShare TreeShare) (fs : Bf (F := F) c hWd) :
    ((hWd.view.loc (c : Thread nD τ) ↦{q} fs) : sProp 𝕄) ⊣⊢ iprop(own c (rWd e) q fs ∗ ((rWd e).view.loc (c : Thread nD τ) ↦[Finset.univ \ (rWd e).view.set]{q} fs)) :=
  pointsTo_split_subset (Finset.subset_univ (rWd e).view.set)
theorem lendSd (c : Dev nD) (e : Fin 8) (q : PosShare TreeShare) (fs : Bf (F := F) c hSd) :
    ((hSd.view.loc (c : Thread nD τ) ↦{q} fs) : sProp 𝕄) ⊣⊢ iprop(own c (rSd e) q fs ∗ ((rSd e).view.loc (c : Thread nD τ) ↦[Finset.univ \ (rSd e).view.set]{q} fs)) :=
  pointsTo_split_subset (Finset.subset_univ (rSd e).view.set)

/-- A copy under way, as the run leaves it, is `flyOne`. -/
theorem fly_intro (c : Dev nD) {s : Shape} {φ : EltTy} (z : DmaSems sig S_) (dst : Memref sig .tc .vmem s φ) (src : Memref sig .tc .hbm s φ)
    (q : PosShare TreeShare) (fs : Bf (F := F) c src) (N : ℕ) (g : Bf (F := F) c dst) (X : s.Idx → Elt F φ)
    (hN : dst.view.dmaCredit = N) (hX : X = src.view.read (Elt F) fs) :
    iprop(Transfers.Flight EC (c : Thread nD τ) (.dma z.sem) () N
        iprop((dst.view.loc (c : Thread nD τ) ↦[dst.view.set]{fullShare} dst.view.writes (Elt F) g [⟨Rect.whole s, X⟩]) ∗ (src.view.loc (c : Thread nD τ) ↦[src.view.set]{q} fs))
      ∗ (src.view.loc (c : Thread nD τ) ↦[Finset.univ \ src.view.set]{q} fs)) ⊢ flyOne c z dst src q fs := by
  subst hN
  unfold flyOne
  iintro ⟨HF, HR⟩
  isplitl [HF]; swap; · iexact HR
  iapply (Transfers.Flight_mono EC _ (sep_mono (own_rep c dst fullShare _ ?_) .rfl)) $$ HF
  have e := View.write_univ_eq_writes_whole dst.view (Val := Elt F) g [] X
  rw [View.writes_nil] at e
  rw [← e, hX]
  exact View.read_write_univ _ _

end Cert.KernelIdeal.Hand

end
-- ==== Proof.Hand.KernelIdeal.Trip1.lean ====
module

public import proofs.«01_k».proof.Proof.Hand.KernelIdeal.Res
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

theorem trip1 (c : Dev nD)
    (arg0 : Memref sig .tc .smem S64 .i32) (harg0 : arg0.IsWhole) (arg1 : Memref sig .tc .vmem S32x2 .i32) (harg1 : arg1.IsWhole)
    (arg2 : Memref sig .tc .vmem S32x2 .f32) (harg2 : arg2.IsWhole) (arg3 : Memref sig .tc .vmem S32x3072 .bf16) (harg3 : arg3.IsWhole)
    (arg8 : Memref sig .tc .vmem S32x3072 .bf16) (harg8 : arg8.IsWhole)
    (h4 : hWgu.IsWhole) (h5 : hSgu.IsWhole) (h6 : hWd.IsWhole) (h7 : hSd.IsWhole)
    (h9 : bWgu.IsWhole) (h10 : bSgu.IsWhole) (h11 : bWd.IsWhole) (h12 : bSd.IsWhole) (h13 : bAcc.IsWhole) (h14 : bAct.IsWhole)
    (hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (z z' z'' : BitVec 32) (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips)
    (f14 : Bf (F := F) c bAct) (fW : Bf (F := F) c hWgu) (fS : Bf (F := F) c hSgu) (fD : Bf (F := F) c hWd) (fT : Bf (F := F) c hSd)
    (w : BitVec 32) (hww : word c f14 (slot1 k) = w) (hcanonw : w.toNat < 8) (W : Waits sig Unit) (K : PUnit → sProp 𝕄) :
      iprop(own c bAct fullShare f14 ∗ Free c fW fS fD fT (slot1 k) ∗ owes (c : Thread nD τ) 0 W
        ∗ (iprop(own c bAct fullShare f14 ∗ Fly c fW fS fD fT (slot1 k) (expert w) ∗ owes (c : Thread nD τ) 0 W) -∗ K ⟨⟩))
      ⊢ wp frame (wpE (defs₀ (F := F)) Variants.none (c : Thread nD τ) none) Set.univ
          (k0_t1_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z z' z'' k ()) K := by
  unfold k0_t1_body Free Fly freeOne
  iintro ⟨H14, ⟨⟨⟨%g0, HS0⟩, HC0, HA0⟩, ⟨⟨%g1, HS1⟩, HC1, HA1⟩, ⟨⟨%g2, HS2⟩, HC2, HA2⟩, ⟨⟨%g3, HS3⟩, HC3, HA3⟩⟩, HO, Hk⟩
  ihave H0 := (lendSgu c (expert w) _ _).1 $$ HA0
  icases H0 with ⟨HR0, HT0⟩
  ihave H1 := (lendWgu c (expert w) _ _).1 $$ HA1
  icases H1 with ⟨HR1, HT1⟩
  ihave H2 := (lendSd c (expert w) _ _).1 $$ HA2
  icases H2 with ⟨HR2, HT2⟩
  ihave H3 := (lendWd c (expert w) _ _).1 $$ HA3
  icases H3 with ⟨HR3, HT3⟩
  sl_exec
  have hv : trip1.sl.r c hw1 k f14 = w := (readAct c f14 (j := slot1 k) (off8_eq k) _ _).trans hww
  rw [hv]
  sl_exec (disch := first | exact chk2_of hcanonw | assumption)
  sl_step
  iapply Hk
  isplitl [H14]; · iexact H14
  isplitr [HO]; swap; · iexact HO
  isplitl [HC0 HT0]
  · iapply (fly_intro c (cell (slot1 k) 0) (sSgu (slot1 k)) (rSgu (expert w)) (tok (slot1 k)) fS _ g0 _ rfl rfl)
    isplitl [HC0]; · iexact HC0
    iexact HT0
  isplitl [HC1 HT1]
  · iapply (fly_intro c (cell (slot1 k) 1) (sWgu (slot1 k)) (rWgu (expert w)) (tok (slot1 k)) fW _ g1 _ rfl rfl)
    isplitl [HC1]; · iexact HC1
    iexact HT1
  isplitl [HC2 HT2]
  · iapply (fly_intro c (cell (slot1 k) 2) (sSd (slot1 k)) (rSd (expert w)) (tok (slot1 k)) fT _ g2 _ rfl rfl)
    isplitl [HC2]; · iexact HC2
    iexact HT2
  · iapply (fly_intro c (cell (slot1 k) 3) (sWd (slot1 k)) (rWd (expert w)) (tok (slot1 k)) fD _ g3 _ rfl rfl)
    isplitl [HC3]; · iexact HC3
    iexact HT3

end Cert.KernelIdeal.Hand

end
-- ==== Proof.Hand.KernelIdeal.Trip3.lean ====
module

public import proofs.«01_k».proof.Proof.Hand.KernelIdeal.Res
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

def trip3 (c : Dev nD)
    (arg0 : Memref sig .tc .smem S64 .i32) (harg0 : arg0.IsWhole) (arg1 : Memref sig .tc .vmem S32x2 .i32) (harg1 : arg1.IsWhole)
    (arg2 : Memref sig .tc .vmem S32x2 .f32) (harg2 : arg2.IsWhole) (arg3 : Memref sig .tc .vmem S32x3072 .bf16) (harg3 : arg3.IsWhole)
    (arg8 : Memref sig .tc .vmem S32x3072 .bf16) (harg8 : arg8.IsWhole)
    (h4 : hWgu.IsWhole) (h5 : hSgu.IsWhole) (h6 : hWd.IsWhole) (h7 : hSd.IsWhole)
    (h9 : bWgu.IsWhole) (h10 : bSgu.IsWhole) (h11 : bWd.IsWhole) (h12 : bSd.IsWhole) (h13 : bAcc.IsWhole) (h14 : bAct.IsWhole)
    (hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (z : BitVec 32) (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips)
    (f1 : Bf (F := F) c arg1) (f2 : Bf (F := F) c arg2) (f3 : Bf (F := F) c arg3) (f13 : Bf (F := F) c bAcc) (f14 : Bf (F := F) c bAct)
    (gw : Bf (F := F) c (sWgu (slot3 k))) (gs : Bf (F := F) c (sSgu (slot3 k))) (gv : Bf (F := F) c (sWd (slot3 k))) (gt : Bf (F := F) c (sSd (slot3 k)))
    (hword : (word c f14 (slot3 k)).toNat < 8) (e : Fin 8) (q : PosShare TreeShare)
    (r0 : Bf (F := F) c (rSgu e)) (r1 : Bf (F := F) c (rWgu e)) (r2 : Bf (F := F) c (rSd e)) (r3 : Bf (F := F) c (rWd e)) :
    { L : Bf (F := F) c bAcc //
      ∀ (W : Waits sig Unit) (K : PUnit → sProp 𝕄),
      iprop(own c arg1 fullShare f1 ∗ own c arg2 fullShare f2 ∗ own c arg3 fullShare f3
        ∗ own c bAcc fullShare f13 ∗ own c bAct fullShare f14
        ∗ Transfers.Flight EC (c : Thread nD τ) (.dma (cell (slot3 k) 0).sem) () (sSgu (slot3 k)).view.dmaCredit iprop(own c (sSgu (slot3 k)) fullShare gs ∗ own c (rSgu e) q r0)
        ∗ Transfers.Flight EC (c : Thread nD τ) (.dma (cell (slot3 k) 1).sem) () (sWgu (slot3 k)).view.dmaCredit iprop(own c (sWgu (slot3 k)) fullShare gw ∗ own c (rWgu e) q r1)
        ∗ Transfers.Flight EC (c : Thread nD τ) (.dma (cell (slot3 k) 2).sem) () (sSd (slot3 k)).view.dmaCredit iprop(own c (sSd (slot3 k)) fullShare gt ∗ own c (rSd e) q r2)
        ∗ Transfers.Flight EC (c : Thread nD τ) (.dma (cell (slot3 k) 3).sem) () (sWd (slot3 k)).view.dmaCredit iprop(own c (sWd (slot3 k)) fullShare gv ∗ own c (rWd e) q r3)
        ∗ owes (c : Thread nD τ) 0 W
        ∗ (iprop(own c arg1 fullShare f1 ∗ own c arg2 fullShare f2 ∗ own c arg3 fullShare f3 ∗ own c bAcc fullShare L ∗ own c bAct fullShare f14
            ∗ (own c (sSgu (slot3 k)) fullShare gs ∗ semVal ((c : Thread nD τ), SemLoc.dma (cell (slot3 k) 0).sem) 0 ∗ own c (rSgu e) q r0)
            ∗ (own c (sWgu (slot3 k)) fullShare gw ∗ semVal ((c : Thread nD τ), SemLoc.dma (cell (slot3 k) 1).sem) 0 ∗ own c (rWgu e) q r1)
            ∗ (own c (sSd (slot3 k)) fullShare gt ∗ semVal ((c : Thread nD τ), SemLoc.dma (cell (slot3 k) 2).sem) 0 ∗ own c (rSd e) q r2)
            ∗ (own c (sWd (slot3 k)) fullShare gv ∗ semVal ((c : Thread nD τ), SemLoc.dma (cell (slot3 k) 3).sem) 0 ∗ own c (rWd e) q r3)
            ∗ ∃ W', owes (c : Thread nD τ) 0 W') -∗ K ⟨⟩))
      ⊢ wp frame (wpE (defs₀ (F := F)) Variants.none (c : Thread nD τ) none) Set.univ
          (k0_t3_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z k ()) K } := by
  refine ⟨?_, fun W K => ?run⟩
  case run =>
    unfold k0_t3_body
    iintro ⟨H1, H2, H3, H13, H14, HF0, HF1, HF2, HF3, HO, Hk⟩
    sl_exec_parts (disch := exact chk4_of (lt_of_eq_of_lt (congrArg BitVec.toNat (readAct c f14 (j := slot3 k) (off34_eq k) _ _)) hword))
    sl_step
    iapply Hk
    isplitl [H1]; · iexact H1
    isplitl [H2]; · iexact H2
    isplitl [H3]; · iexact H3
    isplitl [H13]; · iexact H13
    isplitl [H14]; · iexact H14
    isplitl [HF0_dst HF0 HF0_src]
    · isplitl [HF0_dst]; · iexact HF0_dst
      isplitl [HF0]; · iexact HF0
      iexact HF0_src
    isplitl [HF1_dst HF1 HF1_src]
    · isplitl [HF1_dst]; · iexact HF1_dst
      isplitl [HF1]; · iexact HF1
      iexact HF1_src
    isplitl [HF2_dst HF2 HF2_src]
    · isplitl [HF2_dst]; · iexact HF2_dst
      isplitl [HF2]; · iexact HF2
      iexact HF2_src
    isplitl [HF3_dst HF3 HF3_src]
    · isplitl [HF3_dst]; · iexact HF3_dst
      isplitl [HF3]; · iexact HF3
      iexact HF3_src
    iexists _; iexact HO

end Cert.KernelIdeal.Hand

end
-- ==== Proof.Hand.KernelIdeal.Loops.lean ====
module

public import proofs.«01_k».proof.Proof.Hand.KernelIdeal.Trip1
public import proofs.«01_k».proof.Proof.Hand.KernelIdeal.Trip3

/-! The two loops: the first sends every active expert's rows to its slot, the second waits for each slot in turn and adds
the expert's product to the accumulator.  Slot `j` holds expert `ex j`. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

variable (c : Dev nD)
    (arg0 : Memref sig .tc .smem S64 .i32) (harg0 : arg0.IsWhole) (arg1 : Memref sig .tc .vmem S32x2 .i32) (harg1 : arg1.IsWhole)
    (arg2 : Memref sig .tc .vmem S32x2 .f32) (harg2 : arg2.IsWhole) (arg3 : Memref sig .tc .vmem S32x3072 .bf16) (harg3 : arg3.IsWhole)
    (arg8 : Memref sig .tc .vmem S32x3072 .bf16) (harg8 : arg8.IsWhole)
    (h4 : hWgu.IsWhole) (h5 : hSgu.IsWhole) (h6 : hWd.IsWhole) (h7 : hSd.IsWhole)
    (h9 : bWgu.IsWhole) (h10 : bSgu.IsWhole) (h11 : bWd.IsWhole) (h12 : bSd.IsWhole) (h13 : bAcc.IsWhole) (h14 : bAct.IsWhole)
    (hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189)

/-- The accumulator a trip leaves depends on the table of active experts at the trip's own entry alone. -/
theorem trip3_word (z : BitVec 32) (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips)
    (f1 : Bf (F := F) c arg1) (f2 : Bf (F := F) c arg2) (f3 : Bf (F := F) c arg3) (f13 : Bf (F := F) c bAcc) (f14 f14' : Bf (F := F) c bAct)
    (gw : Bf (F := F) c (sWgu (slot3 k))) (gs : Bf (F := F) c (sSgu (slot3 k))) (gv : Bf (F := F) c (sWd (slot3 k))) (gt : Bf (F := F) c (sSd (slot3 k)))
    (h : (word c f14 (slot3 k)).toNat < 8) (h' : (word c f14' (slot3 k)).toNat < 8) (e : Fin 8) (q : PosShare TreeShare)
    (r0 : Bf (F := F) c (rSgu e)) (r1 : Bf (F := F) c (rWgu e)) (r2 : Bf (F := F) c (rSd e)) (r3 : Bf (F := F) c (rWd e))
    (hh : word c f14 (slot3 k) = word c f14' (slot3 k))
    (e' : Fin 8) (q' : PosShare TreeShare) (r0' : Bf (F := F) c (rSgu e')) (r1' : Bf (F := F) c (rWgu e')) (r2' : Bf (F := F) c (rSd e')) (r3' : Bf (F := F) c (rWd e')) (z' : BitVec 32) :
    (trip3 c arg0 harg0 arg1 harg1 arg2 harg2 arg3 harg3 arg8 harg8 h4 h5 h6 h7 h9 h10 h11 h12 h13 h14 hw1 z k f1 f2 f3 f13 f14 gw gs gv gt h e q r0 r1 r2 r3).1
      = (trip3 c arg0 harg0 arg1 harg1 arg2 harg2 arg3 harg3 arg8 harg8 h4 h5 h6 h7 h9 h10 h11 h12 h13 h14 hw1 z' k f1 f2 f3 f13 f14' gw gs gv gt h' e' q' r0' r1' r2' r3').1 := by
  have e1 : trip3.sl.r_1 c hw1 k f14 = trip3.sl.r_1 c hw1 k f14' :=
    (readAct c f14 (j := slot3 k) (off34_eq k) _ _).trans (hh.trans (readAct c f14' (j := slot3 k) (off34_eq k) _ _).symm)
  delta trip3
  dsimp only
  unfold trip3.sl.H13_11 trip3.sl.H13_10 trip3.sl.H13_9 trip3.sl.H13_8 trip3.sl.H13_7 trip3.sl.H13_6 trip3.sl.H13_5 trip3.sl.H13_4 trip3.sl.H13_3 trip3.sl.H13_2 trip3.sl.H13_1
  unfold trip3.sl.r_331 trip3.sl.r_315 trip3.sl.r_314 trip3.sl.r_300 trip3.sl.r_298 trip3.sl.r_297
  rw [e1]

/-- The table that names one expert everywhere. -/
def one14 (e : Fin 8) : Bf (F := F) c bAct := bAct.view.rep (Val := Elt F) (fun _ => (BitVec.ofNat 32 e.val : BitVec 32))
theorem one14_word (e j : Fin 8) : word c (one14 (F := F) c e) j = BitVec.ofNat 32 e.val := by
  unfold word one14; rw [View.read_rep]
theorem ofNat_lt (e : Fin 8) : (BitVec.ofNat 32 e.val).toNat < 8 := by
  rw [BitVec.toNat_ofNat, Nat.mod_eq_of_lt (by have := e.isLt; omega)]; exact e.isLt
theorem expert_ofNat (e : Fin 8) : expert (BitVec.ofNat 32 e.val) = e :=
  Fin.ext (by show (BitVec.ofNat 32 e.val).toNat % 8 = e.val; rw [BitVec.toNat_ofNat]; have := e.isLt; omega)

/-- What trip `k` makes of the accumulator `f13` when slot `k` holds expert `e`. -/
def L3 (f1 : Bf (F := F) c arg1) (f2 : Bf (F := F) c arg2) (f3 : Bf (F := F) c arg3)
    (fW : Bf (F := F) c hWgu) (fS : Bf (F := F) c hSgu) (fD : Bf (F := F) c hWd) (fT : Bf (F := F) c hSd)
    (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (f13 : Bf (F := F) c bAcc) (e : Fin 8) : Bf (F := F) c bAcc :=
  (trip3 c arg0 harg0 arg1 harg1 arg2 harg2 arg3 harg3 arg8 harg8 h4 h5 h6 h7 h9 h10 h11 h12 h13 h14 hw1 0#32 k f1 f2 f3 f13 (one14 c e)
    ((sWgu (slot3 k)).view.rep ((rWgu e).view.read (Elt F) fW)) ((sSgu (slot3 k)).view.rep ((rSgu e).view.read (Elt F) fS))
    ((sWd (slot3 k)).view.rep ((rWd e).view.read (Elt F) fD)) ((sSd (slot3 k)).view.rep ((rSd e).view.read (Elt F) fT))
    (by rw [one14_word]; exact ofNat_lt e) e fullShare fS fW fT fD).1

variable (f1 : Bf (F := F) c arg1) (f2 : Bf (F := F) c arg2) (f3 : Bf (F := F) c arg3)
    (fW : Bf (F := F) c hWgu) (fS : Bf (F := F) c hSgu) (fD : Bf (F := F) c hWd) (fT : Bf (F := F) c hSd)

theorem trip3_free (z : BitVec 32) (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) (f13 : Bf (F := F) c bAcc) (f14 : Bf (F := F) c bAct) (e : Fin 8)
    (hex : word c f14 (slot3 k) = BitVec.ofNat 32 e.val) (W : Waits sig Unit) (K : PUnit → sProp 𝕄) :
      iprop(own c arg1 fullShare f1 ∗ own c arg2 fullShare f2 ∗ own c arg3 fullShare f3
        ∗ own c bAcc fullShare f13 ∗ own c bAct fullShare f14 ∗ Fly c fW fS fD fT (slot3 k) e ∗ owes (c : Thread nD τ) 0 W
        ∗ (iprop(own c arg1 fullShare f1 ∗ own c arg2 fullShare f2 ∗ own c arg3 fullShare f3
            ∗ own c bAcc fullShare (L3 c arg0 harg0 arg1 harg1 arg2 harg2 arg3 harg3 arg8 harg8 h4 h5 h6 h7 h9 h10 h11 h12 h13 h14 hw1 f1 f2 f3 fW fS fD fT k f13 e)
            ∗ own c bAct fullShare f14 ∗ Free c fW fS fD fT (slot3 k) ∗ ∃ W', owes (c : Thread nD τ) 0 W') -∗ K ⟨⟩))
      ⊢ wp frame (wpE (defs₀ (F := F)) Variants.none (c : Thread nD τ) none) Set.univ
          (k0_t3_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z k ()) K := by
  have hL := trip3_word c arg0 harg0 arg1 harg1 arg2 harg2 arg3 harg3 arg8 harg8 h4 h5 h6 h7 h9 h10 h11 h12 h13 h14 hw1 z k f1 f2 f3 f13 f14 (one14 c e)
    ((sWgu (slot3 k)).view.rep ((rWgu e).view.read (Elt F) fW)) ((sSgu (slot3 k)).view.rep ((rSgu e).view.read (Elt F) fS))
    ((sWd (slot3 k)).view.rep ((rWd e).view.read (Elt F) fD)) ((sSd (slot3 k)).view.rep ((rSd e).view.read (Elt F) fT))
    (by rw [hex]; exact ofNat_lt e) (by rw [one14_word]; exact ofNat_lt e) e (tok (slot3 k)) fS fW fT fD (by rw [hex, one14_word]) e fullShare fS fW fT fD 0#32
  unfold L3
  rw [← hL]
  unfold Fly flyOne
  iintro ⟨H1, H2, H3, H13, H14, ⟨⟨F0, R0⟩, ⟨F1, R1⟩, ⟨F2, R2⟩, ⟨F3, R3⟩⟩, HO, Hk⟩
  iapply ((trip3 c arg0 harg0 arg1 harg1 arg2 harg2 arg3 harg3 arg8 harg8 h4 h5 h6 h7 h9 h10 h11 h12 h13 h14 hw1 z k f1 f2 f3 f13 f14
    ((sWgu (slot3 k)).view.rep ((rWgu e).view.read (Elt F) fW)) ((sSgu (slot3 k)).view.rep ((rSgu e).view.read (Elt F) fS))
    ((sWd (slot3 k)).view.rep ((rWd e).view.read (Elt F) fD)) ((sSd (slot3 k)).view.rep ((rSd e).view.read (Elt F) fT))
    (by rw [hex]; exact ofNat_lt e) e (tok (slot3 k)) fS fW fT fD).2 W K)
  isplitl [H1]; · iexact H1
  isplitl [H2]; · iexact H2
  isplitl [H3]; · iexact H3
  isplitl [H13]; · iexact H13
  isplitl [H14]; · iexact H14
  isplitl [F0]; · iexact F0
  isplitl [F1]; · iexact F1
  isplitl [F2]; · iexact F2
  isplitl [F3]; · iexact F3
  isplitl [HO]; · iexact HO
  iintro ⟨H1, H2, H3, H13, H14, ⟨G0, C0, S0⟩, ⟨G1, C1, S1⟩, ⟨G2, C2, S2⟩, ⟨G3, C3, S3⟩, HO⟩
  iapply Hk
  isplitl [H1]; · iexact H1
  isplitl [H2]; · iexact H2
  isplitl [H3]; · iexact H3
  isplitl [H13]; · iexact H13
  isplitl [H14]; · iexact H14
  isplitr [HO]; swap; · iexact HO
  unfold Free freeOne
  isplitl [G0 C0 S0 R0]
  · isplitl [G0]; · iexists _; iexact G0
    isplitl [C0]; · iexact C0
    iapply (lendSgu c e (tok (slot3 k)) fS).2
    isplitl [S0] <;> iassumption
  isplitl [G1 C1 S1 R1]
  · isplitl [G1]; · iexists _; iexact G1
    isplitl [C1]; · iexact C1
    iapply (lendWgu c e (tok (slot3 k)) fW).2
    isplitl [S1] <;> iassumption
  isplitl [G2 C2 S2 R2]
  · isplitl [G2]; · iexists _; iexact G2
    isplitl [C2]; · iexact C2
    iapply (lendSd c e (tok (slot3 k)) fT).2
    isplitl [S2] <;> iassumption
  · isplitl [G3]; · iexists _; iexact G3
    isplitl [C3]; · iexact C3
    iapply (lendWd c e (tok (slot3 k)) fD).2
    isplitl [S3] <;> iassumption

/-- One element out of eight, and what puts it back changed. -/
theorem swap_one (j : Fin 8) (P Q : Fin 8 → sProp 𝕄) (h : ∀ i, i ≠ j → P i = Q i) :
    bigSep Finset.univ P ⊢ iprop(P j ∗ (Q j -∗ bigSep Finset.univ Q)) := by
  have eP : bigSep Finset.univ P = iprop(P j ∗ bigSep (Finset.univ.erase j) P) := BI.bigSep_univ_split j
  have eQ : bigSep Finset.univ Q = iprop(Q j ∗ bigSep (Finset.univ.erase j) Q) := BI.bigSep_univ_split j
  have eR : bigSep (Finset.univ.erase j) P = bigSep (Finset.univ.erase j) Q := BI.bigSep_congr (fun i hi => h i (Finset.ne_of_mem_erase hi))
  rw [eP, eQ, eR]
  iintro ⟨H, HR⟩
  isplitl [H]; · iexact H
  iintro HQ
  isplitl [HQ] <;> iassumption

/-- The slots in the copying loop before trip `k`. -/
def slots1 (ex : Fin 8 → Fin 8) (k : ℕ) (j : Fin 8) : sProp 𝕄 :=
  if j.val < k then Fly c fW fS fD fT j (ex j) else Free c fW fS fD fT j
/-- The slots in the computing loop before trip `k` of `n`. -/
def slots3 (ex : Fin 8 → Fin 8) (n k : ℕ) (j : Fin 8) : sProp 𝕄 :=
  if k ≤ j.val ∧ j.val < n then Fly c fW fS fD fT j (ex j) else Free c fW fS fD fT j

theorem slots_mid (ex : Fin 8 → Fin 8) (n : ℕ) : slots1 (F := F) c fW fS fD fT ex n = slots3 c fW fS fD fT ex n 0 := by
  funext j; unfold slots1 slots3; simp only [Nat.zero_le, true_and]
theorem slots_start (ex : Fin 8 → Fin 8) : slots1 (F := F) c fW fS fD fT ex 0 = Free c fW fS fD fT := by
  funext j; unfold slots1; exact if_neg (by omega)
theorem slots_end (ex : Fin 8 → Fin 8) (n : ℕ) : slots3 (F := F) c fW fS fD fT ex n n = Free c fW fS fD fT := by
  funext j; unfold slots3; exact if_neg (by omega)

/-- The accumulator before trip `k`, from `a`. -/
def accAt (ex : Fin 8 → Fin 8) (a : Bf (F := F) c bAcc) : ℕ → Bf (F := F) c bAcc
  | 0 => a
  | k + 1 => if h : k < (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips then
      L3 c arg0 harg0 arg1 harg1 arg2 harg2 arg3 harg3 arg8 harg8 h4 h5 h6 h7 h9 h10 h11 h12 h13 h14 hw1 f1 f2 f3 fW fS fD fT ⟨k, h⟩ (accAt ex a k) (ex (slot3 ⟨k, h⟩))
    else accAt ex a k

/-- The copying loop. -/
theorem loop1 (z z' z'' : BitVec 32) (f14 : Bf (F := F) c bAct) (ex : Fin 8 → Fin 8)
    (hex : ∀ k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, word c f14 (slot1 k) = BitVec.ofNat 32 (ex (slot1 k)).val) (W : Waits sig Unit)
    {β : Type} (kk : PUnit → Prog (TpuEff nD τ sig (Elt F) Λ₀ .tc) β) (Q : β → sProp 𝕄) :
    iprop(own c bAct fullShare f14 ∗ bigSep Finset.univ (slots1 c fW fS fD fT ex 0) ∗ owes (c : Thread nD τ) 0 W
      ∗ (iprop(own c bAct fullShare f14 ∗ bigSep Finset.univ (slots1 c fW fS fD fT ex (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) ∗ owes (c : Thread nD τ) 0 W)
          -∗ wp frame (wpE (defs₀ (F := F)) Variants.none (c : Thread nD τ) none) Set.univ (kk ⟨⟩) Q))
      ⊢ wp frame (wpE (defs₀ (F := F)) Variants.none (c : Thread nD τ) none) Set.univ
          (Scf.Loop.for (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t1_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1) ⟨⟩ (k0_t1_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z z' z'') >>= kk) Q := by
  iintro ⟨H14, HS, HO, Hk⟩
  iapply (Scf.wp_for_bind frame (wpE (defs₀ (F := F)) Variants.none (c : Thread nD τ) none) Set.univ (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).lb (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).ub (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).st (k0_t1_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1) (⟨⟩ : PUnit)
    (k0_t1_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z z' z'')
    (fun k _ => iprop(own c bAct fullShare f14 ∗ bigSep Finset.univ (slots1 c fW fS fD fT ex k) ∗ owes (c : Thread nD τ) 0 W)) ?_) $$ [H14 HS HO]
  · rintro k ⟨⟩
    have e0 : slots1 (F := F) c fW fS fD fT ex k.val (slot1 k) = Free c fW fS fD fT (slot1 k) := by
      unfold slots1; exact if_neg (by show ¬ k.val < k.val; omega)
    have e1 : slots1 (F := F) c fW fS fD fT ex (k.val + 1) (slot1 k) = Fly c fW fS fD fT (slot1 k) (ex (slot1 k)) := by
      unfold slots1; exact if_pos (by show k.val < k.val + 1; omega)
    have hsw := swap_one (F := F) (slot1 k) (slots1 c fW fS fD fT ex k.val) (slots1 c fW fS fD fT ex (k.val + 1)) (by
      intro i hi
      have : i.val ≠ k.val := fun h => hi (Fin.ext h)
      unfold slots1
      by_cases h : i.val < k.val
      · rw [if_pos h, if_pos (by omega)]
      · rw [if_neg h, if_neg (by omega)])
    rw [e0, e1] at hsw
    have ht := trip1 c arg0 harg0 arg1 harg1 arg2 harg2 arg3 harg3 arg8 harg8 h4 h5 h6 h7 h9 h10 h11 h12 h13 h14 hw1 z z' z'' k f14 fW fS fD fT _ (hex k) (ofNat_lt _) W
      (fun _ => iprop(own c bAct fullShare f14 ∗ bigSep Finset.univ (slots1 c fW fS fD fT ex (k.val + 1)) ∗ owes (c : Thread nD τ) 0 W))
    rw [expert_ofNat] at ht
    iintro ⟨H14, HS, HO⟩
    ihave HS' := hsw $$ HS
    icases HS' with ⟨HF, HB⟩
    iapply ht
    isplitl [H14]; · iexact H14
    isplitl [HF]; · iexact HF
    isplitl [HO]; · iexact HO
    iintro ⟨H14, HF, HO⟩
    isplitl [H14]; · iexact H14
    isplitr [HO]; swap; · iexact HO
    iapply HB $$ HF
  · isplitl [H14]; · iexact H14
    isplitl [HS] <;> iassumption
  iintro %_ H
  iapply Hk $$ H

/-- The computing loop. -/
theorem loop3 (z : BitVec 32) (f14 : Bf (F := F) c bAct) (ex : Fin 8 → Fin 8) (a : Bf (F := F) c bAcc)
    (hex : ∀ k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips, word c f14 (slot3 k) = BitVec.ofNat 32 (ex (slot3 k)).val) (W : Waits sig Unit)
    {β : Type} (kk : PUnit → Prog (TpuEff nD τ sig (Elt F) Λ₀ .tc) β) (Q : β → sProp 𝕄) :
    iprop(own c arg1 fullShare f1 ∗ own c arg2 fullShare f2 ∗ own c arg3 fullShare f3 ∗ own c bAcc fullShare a
      ∗ own c bAct fullShare f14 ∗ bigSep Finset.univ (slots3 c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips 0) ∗ owes (c : Thread nD τ) 0 W
      ∗ (iprop(own c arg1 fullShare f1 ∗ own c arg2 fullShare f2 ∗ own c arg3 fullShare f3
            ∗ own c bAcc fullShare (accAt c arg0 harg0 arg1 harg1 arg2 harg2 arg3 harg3 arg8 harg8 h4 h5 h6 h7 h9 h10 h11 h12 h13 h14 hw1 f1 f2 f3 fW fS fD fT ex a (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips)
            ∗ own c bAct fullShare f14 ∗ bigSep Finset.univ (slots3 c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) ∗ ∃ W', owes (c : Thread nD τ) 0 W')
          -∗ wp frame (wpE (defs₀ (F := F)) Variants.none (c : Thread nD τ) none) Set.univ (kk ⟨⟩) Q))
      ⊢ wp frame (wpE (defs₀ (F := F)) Variants.none (c : Thread nD τ) none) Set.univ
          (Scf.Loop.for (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k0_t3_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1) ⟨⟩ (k0_t3_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z) >>= kk) Q := by
  iintro ⟨H1, H2, H3, H13, H14, HS, HO, Hk⟩
  iapply (Scf.wp_for_bind frame (wpE (defs₀ (F := F)) Variants.none (c : Thread nD τ) none) Set.univ (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).lb (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).ub (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).st (k0_t3_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1) (⟨⟩ : PUnit)
    (k0_t3_body arg0 harg0 arg1 harg1 arg2 harg2 arg3 harg3 hWgu h4 hSgu h5 hWd h6 hSd h7 arg8 harg8 bWgu h9 bSgu h10 bWd h11 bSd h12 bAcc h13 bAct h14 cc0_scratch6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 hw1 z)
    (fun k _ => iprop(own c arg1 fullShare f1 ∗ own c arg2 fullShare f2 ∗ own c arg3 fullShare f3
            ∗ own c bAcc fullShare (accAt c arg0 harg0 arg1 harg1 arg2 harg2 arg3 harg3 arg8 harg8 h4 h5 h6 h7 h9 h10 h11 h12 h13 h14 hw1 f1 f2 f3 fW fS fD fT ex a k)
            ∗ own c bAct fullShare f14 ∗ bigSep Finset.univ (slots3 c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips k) ∗ ∃ W', owes (c : Thread nD τ) 0 W')) ?_) $$ [H1 H2 H3 H13 H14 HS HO]
  · rintro k ⟨⟩
    have hk : k.val < (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips := k.isLt
    have e0 : slots3 (F := F) c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips k.val (slot3 k) = Fly c fW fS fD fT (slot3 k) (ex (slot3 k)) := by
      unfold slots3; exact if_pos ⟨le_refl _, hk⟩
    have e1 : slots3 (F := F) c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips (k.val + 1) (slot3 k) = Free c fW fS fD fT (slot3 k) := by
      unfold slots3; exact if_neg (fun h => by have h' : k.val + 1 ≤ k.val := h.1; omega)
    have hsw := swap_one (F := F) (slot3 k) (slots3 c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips k.val) (slots3 c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips (k.val + 1)) (by
      intro i hi
      have : i.val ≠ k.val := fun h => hi (Fin.ext h)
      unfold slots3
      by_cases h : k.val ≤ i.val ∧ i.val < (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips
      · rw [if_pos h, if_pos (by omega)]
      · rw [if_neg h, if_neg (by omega)])
    rw [e0, e1] at hsw
    have ea : accAt c arg0 harg0 arg1 harg1 arg2 harg2 arg3 harg3 arg8 harg8 h4 h5 h6 h7 h9 h10 h11 h12 h13 h14 hw1 f1 f2 f3 fW fS fD fT ex a (k.val + 1)
        = L3 c arg0 harg0 arg1 harg1 arg2 harg2 arg3 harg3 arg8 harg8 h4 h5 h6 h7 h9 h10 h11 h12 h13 h14 hw1 f1 f2 f3 fW fS fD fT k
            (accAt c arg0 harg0 arg1 harg1 arg2 harg2 arg3 harg3 arg8 harg8 h4 h5 h6 h7 h9 h10 h11 h12 h13 h14 hw1 f1 f2 f3 fW fS fD fT ex a k.val) (ex (slot3 k)) := by
      rw [accAt, dif_pos hk]
    rw [ea]
    iintro ⟨H1, H2, H3, H13, H14, HS, ⟨%W, HO⟩⟩
    ihave HS' := hsw $$ HS
    icases HS' with ⟨HF, HB⟩
    iapply (trip3_free c arg0 harg0 arg1 harg1 arg2 harg2 arg3 harg3 arg8 harg8 h4 h5 h6 h7 h9 h10 h11 h12 h13 h14 hw1 f1 f2 f3 fW fS fD fT z k _ f14 (ex (slot3 k)) (hex k) W)
    isplitl [H1]; · iexact H1
    isplitl [H2]; · iexact H2
    isplitl [H3]; · iexact H3
    isplitl [H13]; · iexact H13
    isplitl [H14]; · iexact H14
    isplitl [HF]; · iexact HF
    isplitl [HO]; · iexact HO
    iintro ⟨H1, H2, H3, H13, H14, HF, HO⟩
    isplitl [H1]; · iexact H1
    isplitl [H2]; · iexact H2
    isplitl [H3]; · iexact H3
    isplitl [H13]; · iexact H13
    isplitl [H14]; · iexact H14
    isplitr [HO]; swap; · iexact HO
    iapply HB $$ HF
  · isplitl [H1]; · iexact H1
    isplitl [H2]; · iexact H2
    isplitl [H3]; · iexact H3
    isplitl [H13]; · iexact H13
    isplitl [H14]; · iexact H14
    isplitl [HS]; · iexact HS
    iexists _; iexact HO
  iintro %_ H
  iapply Hk $$ H

/-- A loop of no trips is skipped. -/
theorem loop0 (l : Scf.Loop 32) (hok : l.OK) (h0 : l.trips = 0) (body : Fin l.trips → PUnit → Prog (TpuEff nD τ sig (Elt F) Λ₀ .tc) PUnit)
    {β : Type} (kk : PUnit → Prog (TpuEff nD τ sig (Elt F) Λ₀ .tc) β) (Q : β → sProp 𝕄) :
    wp frame (wpE (defs₀ (F := F)) Variants.none (c : Thread nD τ) none) Set.univ (kk ⟨⟩) Q
      ⊢ wp frame (wpE (defs₀ (F := F)) Variants.none (c : Thread nD τ) none) Set.univ (Scf.Loop.for l hok ⟨⟩ body >>= kk) Q := by
  iintro Hk
  iapply (Scf.wp_for_bind frame (wpE (defs₀ (F := F)) Variants.none (c : Thread nD τ) none) Set.univ l.lb l.ub l.st hok (⟨⟩ : PUnit) body
    (fun _ _ => iprop(emp)) (fun k _ => (no_trip h0 k).elim)) $$ []
  · iempintro
  iintro %_ -
  iexact Hk

end Cert.KernelIdeal.Hand

end
-- ==== Proof.Hand.KernelIdeal.Body.lean ====
module

public import proofs.«01_k».proof.Proof.Hand.KernelIdeal.Loops
public import Idealize.ShloMosaic.Lib.CellWrites
public import Idealize.ShloMosaic.Lib.VecWindow

/-! One run of the whole kernel. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)
    (arg0 : Memref sig .tc .smem S64 .i32) (harg0 : arg0.IsWhole) (arg1 : Memref sig .tc .vmem S32x2 .i32) (harg1 : arg1.IsWhole)
    (arg2 : Memref sig .tc .vmem S32x2 .f32) (harg2 : arg2.IsWhole) (arg3 : Memref sig .tc .vmem S32x3072 .bf16) (harg3 : arg3.IsWhole)
    (arg8 : Memref sig .tc .vmem S32x3072 .bf16) (harg8 : arg8.IsWhole)
    (h4 : hWgu.IsWhole) (h5 : hSgu.IsWhole) (h6 : hWd.IsWhole) (h7 : hSd.IsWhole)
    (h9 : bWgu.IsWhole) (h10 : bSgu.IsWhole) (h11 : bWd.IsWhole) (h12 : bSd.IsWhole) (h13 : bAcc.IsWhole) (h14 : bAct.IsWhole)

variable (f0 : Bf (F := F) c arg0) (f1 : Bf (F := F) c arg1) (f2 : Bf (F := F) c arg2) (f3 : Bf (F := F) c arg3)
    (fW : Bf (F := F) c hWgu) (fS : Bf (F := F) c hSgu) (fD : Bf (F := F) c hWd) (fT : Bf (F := F) c hSd)

theorem ite_ite_of {p : Prop} [Decidable p] {a a' : BitVec 32} {b b' : Fin 8} (h : p → a = BitVec.ofNat 32 b.val) (h' : ¬p → a' = BitVec.ofNat 32 b'.val) :
    (if p then a else a') = BitVec.ofNat 32 (if p then b else b').val := by
  by_cases hp : p
  · rw [if_pos hp, if_pos hp]; exact h hp
  · rw [if_neg hp, if_neg hp]; exact h' hp

/-- The expert of slot `j`: the last one whose place in the list is `j`. -/
def exOf (m : BitVec 32) (j : Fin 8) : Fin 8 :=
  if j.val = (act m 7).toNat then 7 else if j.val = (act m 6).toNat then 6 else if j.val = (act m 5).toNat then 5
  else if j.val = (act m 4).toNat then 4 else if j.val = (act m 3).toNat then 3 else if j.val = (act m 2).toNat then 2
  else if j.val = (act m 1).toNat then 1 else 0

/-- The same of the sixty-four ids. -/
def exV (v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32) : Fin 8 → Fin 8 := exOf (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189])

section Stores
variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

/-- The list the eight stores leave, at every place in use. -/
theorem word_stores (g : Bf (F := F) c bAct) (i0 i1 i2 i3 i4 i5 i6 i7) (j : Fin 8) (hj : j.val < (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 8).toNat) :
    word c (bAct.view.writes (Elt F) g
      ((⟨Rect.unit (s := S8) (k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i7, fun _ => (7#32 : BitVec 32)⟩ : View.Piece (Elt F) S8 .i32) :: ⟨Rect.unit (s := S8) (k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i6, fun _ => (6#32 : BitVec 32)⟩
        :: ⟨Rect.unit (s := S8) (k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i5, fun _ => (5#32 : BitVec 32)⟩ :: ⟨Rect.unit (s := S8) (k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i4, fun _ => (4#32 : BitVec 32)⟩
        :: ⟨Rect.unit (s := S8) (k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i3, fun _ => (3#32 : BitVec 32)⟩ :: ⟨Rect.unit (s := S8) (k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i2, fun _ => (2#32 : BitVec 32)⟩
        :: ⟨Rect.unit (s := S8) (k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) S1.size i1, fun _ => (1#32 : BitVec 32)⟩ :: [⟨Rect.unit (s := S8) ![0] S1.size i0, fun _ => (0#32 : BitVec 32)⟩])) j
      = BitVec.ofNat 32 (exV v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 j).val := by
  have b := fun e he => act_succ (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) e he
  have b0 := b 0 (by omega); have b1 := b 1 (by omega); have b2 := b 2 (by omega); have b3 := b 3 (by omega)
  have b4 := b 4 (by omega); have b5 := b 5 (by omega); have b6 := b 6 (by omega); have b7 := b 7 (by omega)
  have z0 : (act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) 0).toNat = 0 := rfl
  have l := fun e => bit_le (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) e
  have l0 := l 0; have l1 := l 1; have l2 := l 2; have l3 := l 3; have l4 := l 4; have l5 := l 5; have l6 := l 6; have l7 := l 7
  generalize hA : act (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) = A at *
  generalize hB : bit (maskOf [v0, v3, v6, v9, v12, v15, v18, v21, v24, v27, v30, v33, v36, v39, v42, v45, v48, v51, v54, v57, v60, v63, v66, v69, v72, v75, v78, v81, v84, v87, v90, v93, v96, v99, v102, v105, v108, v111, v114, v117, v120, v123, v126, v129, v132, v135, v138, v141, v144, v147, v150, v153, v156, v159, v162, v165, v168, v171, v174, v177, v180, v183, v186, v189]) = B at *
  unfold word exV exOf
  rw [hA]
  refine (View.read_writes_cons_cell (Val := Elt F) (e := .i32) bAct.view g i7 (7#32 : BitVec 32) _ _).trans ?_
  rw [off7_eq, hA]
  refine ite_ite_of (fun _ => rfl) fun n7 => ?_
  refine (View.read_writes_cons_cell (Val := Elt F) (e := .i32) bAct.view g i6 (6#32 : BitVec 32) _ _).trans ?_
  rw [off6_eq, hA]
  refine ite_ite_of (fun _ => rfl) fun n6 => ?_
  refine (View.read_writes_cons_cell (Val := Elt F) (e := .i32) bAct.view g i5 (5#32 : BitVec 32) _ _).trans ?_
  rw [off5_eq, hA]
  refine ite_ite_of (fun _ => rfl) fun n5 => ?_
  refine (View.read_writes_cons_cell (Val := Elt F) (e := .i32) bAct.view g i4 (4#32 : BitVec 32) _ _).trans ?_
  rw [off4_eq, hA]
  refine ite_ite_of (fun _ => rfl) fun n4 => ?_
  refine (View.read_writes_cons_cell (Val := Elt F) (e := .i32) bAct.view g i3 (3#32 : BitVec 32) _ _).trans ?_
  rw [off3_eq, hA]
  refine ite_ite_of (fun _ => rfl) fun n3 => ?_
  refine (View.read_writes_cons_cell (Val := Elt F) (e := .i32) bAct.view g i2 (2#32 : BitVec 32) _ _).trans ?_
  rw [off2_eq, hA]
  refine ite_ite_of (fun _ => rfl) fun n2 => ?_
  refine (View.read_writes_cons_cell (Val := Elt F) (e := .i32) bAct.view g i1 (1#32 : BitVec 32) _ _).trans ?_
  rw [off1_eq, hA]
  refine ite_ite_of (fun _ => rfl) fun n1 => ?_
  refine (View.read_writes_cons_cell (Val := Elt F) (e := .i32) bAct.view g i0 (0#32 : BitVec 32) _ _).trans ?_
  refine (if_pos ?_).trans rfl
  show j.val = 0
  have n7 : ¬ j.val = (A 7).toNat := n7
  have n6 : ¬ j.val = (A 6).toNat := n6
  have n5 : ¬ j.val = (A 5).toNat := n5
  have n4 : ¬ j.val = (A 4).toNat := n4
  have n3 : ¬ j.val = (A 3).toNat := n3
  have n2 : ¬ j.val = (A 2).toNat := n2
  have n1 : ¬ j.val = (A 1).toNat := n1
  clear b i0 i1 i2 i3 i4 i5 i6 i7
  simp only [Nat.reduceAdd] at b0 b1 b2 b3 b4 b5 b6 b7
  omega
end Stores

/-- Between the loops every slot in use is on its way. -/
theorem slots_turn {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32} (ex : Fin 8 → Fin 8) :
    (bigSep Finset.univ (slots1 (F := F) c fW fS fD fT ex (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips) : sProp 𝕄) ⊢ bigSep Finset.univ (slots3 c fW fS fD fT ex (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips 0) := by
  rw [slots_mid, t1_trips]
/-- The accumulator at zero. -/
def acc0 : Bf (F := F) c bAcc := bAcc.view.rep (Val := Elt F) (k0_pay860 (F := F))

/-- The kernel on whole buffers: what it leaves in the result's buffer, and its run. -/
def body : { R : S32x3072.Idx → Elt F .bf16 //
    ∀ (g8 : Bf (F := F) c arg8) (g13 : Bf (F := F) c bAcc) (g14 : Bf (F := F) c bAct) (W : Waits sig Unit) (K : PUnit → sProp 𝕄),
    iprop(own c arg0 fullShare f0 ∗ own c arg1 fullShare f1 ∗ own c arg2 fullShare f2 ∗ own c arg3 fullShare f3 ∗ own c arg8 fullShare g8
      ∗ own c bAcc fullShare g13 ∗ own c bAct fullShare g14 ∗ bigSep Finset.univ (Free c fW fS fD fT) ∗ owes (c : Thread nD τ) 0 W
      ∗ (iprop(own c arg0 fullShare f0 ∗ own c arg1 fullShare f1 ∗ own c arg2 fullShare f2 ∗ own c arg3 fullShare f3 ∗ own c arg8 fullShare (arg8.view.rep R)
          ∗ (∃ g, own c bAcc fullShare g) ∗ (∃ g, own c bAct fullShare g) ∗ bigSep Finset.univ (Free c fW fS fD fT) ∗ ∃ W', owes (c : Thread nD τ) 0 W') -∗ K ⟨⟩))
      ⊢ wp frame (wpE (defs₀ (F := F)) Variants.none (c : Thread nD τ) none) Set.univ
          (cc0_moe_int4 arg0 harg0 arg1 harg1 arg2 harg2 arg3 harg3 hWgu h4 hSgu h5 hWd h6 hSd h7 arg8 harg8 bWgu h9 bSgu h10 bWd h11 bSd h12 bAcc h13 bAct h14 cc0_scratch6) K } := by
  refine ⟨?_, fun g8 g13 g14 W K => ?run⟩
  case run =>
    rw [cc0_moe_int4_eq_skeleton]
    unfold cc0_moe_int4_skel
    iintro ⟨H0, H1, H2, H3, H8, H13, H14, HS, HO, Hk⟩
    sl_exec (disch := exact chk1)
    ihave HS := (Entails.of_eq (congrArg (bigSep Finset.univ) (slots_start c fW fS fD fT (exV (body.sl.r c arg0 f0) (body.sl.r_1 c arg0 f0) (body.sl.r_2 c arg0 f0) (body.sl.r_3 c arg0 f0) (body.sl.r_4 c arg0 f0) (body.sl.r_5 c arg0 f0) (body.sl.r_6 c arg0 f0) (body.sl.r_7 c arg0 f0) (body.sl.r_8 c arg0 f0) (body.sl.r_9 c arg0 f0) (body.sl.r_10 c arg0 f0) (body.sl.r_11 c arg0 f0) (body.sl.r_12 c arg0 f0) (body.sl.r_13 c arg0 f0) (body.sl.r_14 c arg0 f0) (body.sl.r_15 c arg0 f0) (body.sl.r_16 c arg0 f0) (body.sl.r_17 c arg0 f0) (body.sl.r_18 c arg0 f0) (body.sl.r_19 c arg0 f0) (body.sl.r_20 c arg0 f0) (body.sl.r_21 c arg0 f0) (body.sl.r_22 c arg0 f0) (body.sl.r_23 c arg0 f0) (body.sl.r_24 c arg0 f0) (body.sl.r_25 c arg0 f0) (body.sl.r_26 c arg0 f0) (body.sl.r_27 c arg0 f0) (body.sl.r_28 c arg0 f0) (body.sl.r_29 c arg0 f0) (body.sl.r_30 c arg0 f0) (body.sl.r_31 c arg0 f0) (body.sl.r_32 c arg0 f0) (body.sl.r_33 c arg0 f0) (body.sl.r_34 c arg0 f0) (body.sl.r_35 c arg0 f0) (body.sl.r_36 c arg0 f0) (body.sl.r_37 c arg0 f0) (body.sl.r_38 c arg0 f0) (body.sl.r_39 c arg0 f0) (body.sl.r_40 c arg0 f0) (body.sl.r_41 c arg0 f0) (body.sl.r_42 c arg0 f0) (body.sl.r_43 c arg0 f0) (body.sl.r_44 c arg0 f0) (body.sl.r_45 c arg0 f0) (body.sl.r_46 c arg0 f0) (body.sl.r_47 c arg0 f0) (body.sl.r_48 c arg0 f0) (body.sl.r_49 c arg0 f0) (body.sl.r_50 c arg0 f0) (body.sl.r_51 c arg0 f0) (body.sl.r_52 c arg0 f0) (body.sl.r_53 c arg0 f0) (body.sl.r_54 c arg0 f0) (body.sl.r_55 c arg0 f0) (body.sl.r_56 c arg0 f0) (body.sl.r_57 c arg0 f0) (body.sl.r_58 c arg0 f0) (body.sl.r_59 c arg0 f0) (body.sl.r_60 c arg0 f0) (body.sl.r_61 c arg0 f0) (body.sl.r_62 c arg0 f0) (body.sl.r_63 c arg0 f0))).symm)) $$ HS
    iapply (loop1 c arg0 harg0 arg1 harg1 arg2 harg2 arg3 harg3 arg8 harg8 h4 h5 h6 h7 h9 h10 h11 h12 h13 h14 chk1 fW fS fD fT _ _ _ _ (exV (body.sl.r c arg0 f0) (body.sl.r_1 c arg0 f0) (body.sl.r_2 c arg0 f0) (body.sl.r_3 c arg0 f0) (body.sl.r_4 c arg0 f0) (body.sl.r_5 c arg0 f0) (body.sl.r_6 c arg0 f0) (body.sl.r_7 c arg0 f0) (body.sl.r_8 c arg0 f0) (body.sl.r_9 c arg0 f0) (body.sl.r_10 c arg0 f0) (body.sl.r_11 c arg0 f0) (body.sl.r_12 c arg0 f0) (body.sl.r_13 c arg0 f0) (body.sl.r_14 c arg0 f0) (body.sl.r_15 c arg0 f0) (body.sl.r_16 c arg0 f0) (body.sl.r_17 c arg0 f0) (body.sl.r_18 c arg0 f0) (body.sl.r_19 c arg0 f0) (body.sl.r_20 c arg0 f0) (body.sl.r_21 c arg0 f0) (body.sl.r_22 c arg0 f0) (body.sl.r_23 c arg0 f0) (body.sl.r_24 c arg0 f0) (body.sl.r_25 c arg0 f0) (body.sl.r_26 c arg0 f0) (body.sl.r_27 c arg0 f0) (body.sl.r_28 c arg0 f0) (body.sl.r_29 c arg0 f0) (body.sl.r_30 c arg0 f0) (body.sl.r_31 c arg0 f0) (body.sl.r_32 c arg0 f0) (body.sl.r_33 c arg0 f0) (body.sl.r_34 c arg0 f0) (body.sl.r_35 c arg0 f0) (body.sl.r_36 c arg0 f0) (body.sl.r_37 c arg0 f0) (body.sl.r_38 c arg0 f0) (body.sl.r_39 c arg0 f0) (body.sl.r_40 c arg0 f0) (body.sl.r_41 c arg0 f0) (body.sl.r_42 c arg0 f0) (body.sl.r_43 c arg0 f0) (body.sl.r_44 c arg0 f0) (body.sl.r_45 c arg0 f0) (body.sl.r_46 c arg0 f0) (body.sl.r_47 c arg0 f0) (body.sl.r_48 c arg0 f0) (body.sl.r_49 c arg0 f0) (body.sl.r_50 c arg0 f0) (body.sl.r_51 c arg0 f0) (body.sl.r_52 c arg0 f0) (body.sl.r_53 c arg0 f0) (body.sl.r_54 c arg0 f0) (body.sl.r_55 c arg0 f0) (body.sl.r_56 c arg0 f0) (body.sl.r_57 c arg0 f0) (body.sl.r_58 c arg0 f0) (body.sl.r_59 c arg0 f0) (body.sl.r_60 c arg0 f0) (body.sl.r_61 c arg0 f0) (body.sl.r_62 c arg0 f0) (body.sl.r_63 c arg0 f0))
      (fun k => word_stores c g14 _ _ _ _ _ _ _ _ (slot1 k) (lt_of_lt_of_eq k.isLt t1_trips)) _ _ _)
    isplitl [H14]; · iexact H14
    isplitl [HS]; · iexact HS
    isplitl [HO]; · iexact HO
    iintro ⟨H14, HS, HO⟩
    iapply (loop0 c _ _ t2_trips _ _ _)
    sl_exec (disch := exact chk1)
    ihave HS := (slots_turn c fW fS fD fT _) $$ HS
    ihave H13 := (own_rep c bAcc fullShare (bAcc.view.writes (Elt F) bAcc.view.junk (body.sl.H13_1 (F := F))) (X := k0_pay860 (F := F)) (View.read_writes_full _ _ _ _ _)) $$ H13
    iapply (loop3 c arg0 harg0 arg1 harg1 arg2 harg2 arg3 harg3 arg8 harg8 h4 h5 h6 h7 h9 h10 h11 h12 h13 h14 chk1 f1 f2 f3 fW fS fD fT _ _ (exV (body.sl.r c arg0 f0) (body.sl.r_1 c arg0 f0) (body.sl.r_2 c arg0 f0) (body.sl.r_3 c arg0 f0) (body.sl.r_4 c arg0 f0) (body.sl.r_5 c arg0 f0) (body.sl.r_6 c arg0 f0) (body.sl.r_7 c arg0 f0) (body.sl.r_8 c arg0 f0) (body.sl.r_9 c arg0 f0) (body.sl.r_10 c arg0 f0) (body.sl.r_11 c arg0 f0) (body.sl.r_12 c arg0 f0) (body.sl.r_13 c arg0 f0) (body.sl.r_14 c arg0 f0) (body.sl.r_15 c arg0 f0) (body.sl.r_16 c arg0 f0) (body.sl.r_17 c arg0 f0) (body.sl.r_18 c arg0 f0) (body.sl.r_19 c arg0 f0) (body.sl.r_20 c arg0 f0) (body.sl.r_21 c arg0 f0) (body.sl.r_22 c arg0 f0) (body.sl.r_23 c arg0 f0) (body.sl.r_24 c arg0 f0) (body.sl.r_25 c arg0 f0) (body.sl.r_26 c arg0 f0) (body.sl.r_27 c arg0 f0) (body.sl.r_28 c arg0 f0) (body.sl.r_29 c arg0 f0) (body.sl.r_30 c arg0 f0) (body.sl.r_31 c arg0 f0) (body.sl.r_32 c arg0 f0) (body.sl.r_33 c arg0 f0) (body.sl.r_34 c arg0 f0) (body.sl.r_35 c arg0 f0) (body.sl.r_36 c arg0 f0) (body.sl.r_37 c arg0 f0) (body.sl.r_38 c arg0 f0) (body.sl.r_39 c arg0 f0) (body.sl.r_40 c arg0 f0) (body.sl.r_41 c arg0 f0) (body.sl.r_42 c arg0 f0) (body.sl.r_43 c arg0 f0) (body.sl.r_44 c arg0 f0) (body.sl.r_45 c arg0 f0) (body.sl.r_46 c arg0 f0) (body.sl.r_47 c arg0 f0) (body.sl.r_48 c arg0 f0) (body.sl.r_49 c arg0 f0) (body.sl.r_50 c arg0 f0) (body.sl.r_51 c arg0 f0) (body.sl.r_52 c arg0 f0) (body.sl.r_53 c arg0 f0) (body.sl.r_54 c arg0 f0) (body.sl.r_55 c arg0 f0) (body.sl.r_56 c arg0 f0) (body.sl.r_57 c arg0 f0) (body.sl.r_58 c arg0 f0) (body.sl.r_59 c arg0 f0) (body.sl.r_60 c arg0 f0) (body.sl.r_61 c arg0 f0) (body.sl.r_62 c arg0 f0) (body.sl.r_63 c arg0 f0)) (acc0 c)
      (fun k => word_stores c g14 _ _ _ _ _ _ _ _ (slot3 k) (lt_of_lt_of_eq k.isLt t3_trips)) _ _ _)
    isplitl [H1]; · iexact H1
    isplitl [H2]; · iexact H2
    isplitl [H3]; · iexact H3
    isplitl [H13]; · iexact H13
    isplitl [H14]; · iexact H14
    isplitl [HS]; · iexact HS
    isplitl [HO]; · iexact HO
    iintro ⟨H1, H2, H3, H13, H14, HS, ⟨%W', HO⟩⟩
    iapply (loop0 c _ _ t4_trips _ _ _)
    sl_exec (disch := exact chk1)
    sl_step
    iapply Hk
    isplitl [H0]; · iexact H0
    isplitl [H1]; · iexact H1
    isplitl [H2]; · iexact H2
    isplitl [H3]; · iexact H3
    isplitl [H8]
    · iapply (own_rep c arg8 fullShare _ (View.read_writes_full _ _ _ _ _)) $$ H8
    isplitl [H13]; · iexists _; iexact H13
    isplitl [H14]; · iexists _; iexact H14
    isplitl [HS]
    · iapply (Entails.of_eq (congrArg (bigSep Finset.univ) (slots_end c fW fS fD fT (exV (body.sl.r c arg0 f0) (body.sl.r_1 c arg0 f0) (body.sl.r_2 c arg0 f0) (body.sl.r_3 c arg0 f0) (body.sl.r_4 c arg0 f0) (body.sl.r_5 c arg0 f0) (body.sl.r_6 c arg0 f0) (body.sl.r_7 c arg0 f0) (body.sl.r_8 c arg0 f0) (body.sl.r_9 c arg0 f0) (body.sl.r_10 c arg0 f0) (body.sl.r_11 c arg0 f0) (body.sl.r_12 c arg0 f0) (body.sl.r_13 c arg0 f0) (body.sl.r_14 c arg0 f0) (body.sl.r_15 c arg0 f0) (body.sl.r_16 c arg0 f0) (body.sl.r_17 c arg0 f0) (body.sl.r_18 c arg0 f0) (body.sl.r_19 c arg0 f0) (body.sl.r_20 c arg0 f0) (body.sl.r_21 c arg0 f0) (body.sl.r_22 c arg0 f0) (body.sl.r_23 c arg0 f0) (body.sl.r_24 c arg0 f0) (body.sl.r_25 c arg0 f0) (body.sl.r_26 c arg0 f0) (body.sl.r_27 c arg0 f0) (body.sl.r_28 c arg0 f0) (body.sl.r_29 c arg0 f0) (body.sl.r_30 c arg0 f0) (body.sl.r_31 c arg0 f0) (body.sl.r_32 c arg0 f0) (body.sl.r_33 c arg0 f0) (body.sl.r_34 c arg0 f0) (body.sl.r_35 c arg0 f0) (body.sl.r_36 c arg0 f0) (body.sl.r_37 c arg0 f0) (body.sl.r_38 c arg0 f0) (body.sl.r_39 c arg0 f0) (body.sl.r_40 c arg0 f0) (body.sl.r_41 c arg0 f0) (body.sl.r_42 c arg0 f0) (body.sl.r_43 c arg0 f0) (body.sl.r_44 c arg0 f0) (body.sl.r_45 c arg0 f0) (body.sl.r_46 c arg0 f0) (body.sl.r_47 c arg0 f0) (body.sl.r_48 c arg0 f0) (body.sl.r_49 c arg0 f0) (body.sl.r_50 c arg0 f0) (body.sl.r_51 c arg0 f0) (body.sl.r_52 c arg0 f0) (body.sl.r_53 c arg0 f0) (body.sl.r_54 c arg0 f0) (body.sl.r_55 c arg0 f0) (body.sl.r_56 c arg0 f0) (body.sl.r_57 c arg0 f0) (body.sl.r_58 c arg0 f0) (body.sl.r_59 c arg0 f0) (body.sl.r_60 c arg0 f0) (body.sl.r_61 c arg0 f0) (body.sl.r_62 c arg0 f0) (body.sl.r_63 c arg0 f0)) _))) $$ HS
    iexists _; iexact HO

end Cert.KernelIdeal.Hand

end
-- ==== Proof.Hand.KernelIdeal.Launch.lean ====
module

public import proofs.«01_k».proof.Proof.Hand.KernelIdeal.Body
public import proofs.«01_k».proof.Proof.Gen.KernelIdeal.Frame
public import Idealize.ShloMosaic.Lib.SparseCore.Launch

/-! The launch: the four slot buffers split into their slots, the four arguments into read tokens and the cells by slot,
before the body, and put back after it; then the run of the one region and the frame. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's own cells -/

/-- The thirty-two cells, four to a slot. -/
def osem0 (k : Fin 8 × Fin 4) : SemLoc sig := .dma (cell k.1 k.2).sem
theorem ownSemFacts0 : Pipeline.OwnSemFacts spec0 osem0 := by decide +kernel

/-! ## The slots of one buffer (Wgu) -/

abbrev setWgu (j : Fin 8) : Finset S8x1536x2048.Idx := (Rect.unit (s := S8x1536x2048) ![j.val, 0, 0] S1x1536x2048.size (inbWgu rfl j.isLt)).set
theorem setWgu_eq (j : Fin 8) : (sWgu j).view.set = setWgu j := by
  unfold sWgu
  simp only [Memref.view_squeeze, View.set_reshape]; exact View.set_slice_whole _ _
theorem setWgu_disjoint (j j' : Fin 8) (h : j ≠ j') : Disjoint (setWgu j) (setWgu j') :=
  Ring.lead_disjoint (s := S8x1536x2048) (0 : Fin 3) 1 (fun j : Fin 8 => (![j.val, 0, 0] : Fin 3 → Nat)) S1x1536x2048.size (fun j => inbWgu rfl j.isLt) (fun j => by simp) rfl j j' h
theorem setWgu_cover : Finset.univ.biUnion setWgu = Finset.univ :=
  Ring.lead_cover (s := S8x1536x2048) (0 : Fin 3) 1 (fun j : Fin 8 => (![j.val, 0, 0] : Fin 3 → Nat)) S1x1536x2048.size (fun j => inbWgu rfl j.isLt) (fun j => by simp)
    (fun j a ha => by fin_cases a <;> first | exact absurd rfl ha | rfl) rfl (fun a ha => by fin_cases a <;> first | exact absurd rfl ha | rfl) rfl
theorem ownWgu_eq (c : Dev nD) (j : Fin 8) (f : Bf (F := F) c bWgu) : (own c (sWgu j) fullShare f : sProp 𝕄) = (bWgu.view.loc (c : Thread nD τ) ↦[setWgu j]{fullShare} f) := by
  rw [← setWgu_eq]; rfl
theorem inWgu (c : Dev nD) : iprop(∃ f, bWgu.view.loc (c : Thread nD τ) ↦{fullShare} f) ⊢ (bigSep Finset.univ (fun j => iprop(∃ g, own c (sWgu j) fullShare g)) : sProp 𝕄) := by
  have h := fun f : Bf (F := F) c bWgu => Ring.pointsTo_blocks (Ix := Unit) (Name := ℕ) (U := Pipeline.UD sig nD τ) (Lvl := ℕ) (Val := Elt F) (ℓ := bWgu.view.loc (c : Thread nD τ)) (q := fullShare) setWgu setWgu_disjoint setWgu_cover f
  have h' := fun f : Bf (F := F) c bWgu => (Entails.of_eq (h f)).trans (bigSep_mono (s := Finset.univ) (Ψ := fun j => (iprop(∃ g, own c (sWgu j) fullShare g) : sProp 𝕄)) fun j _ => (Entails.of_eq (ownWgu_eq c j f).symm).trans (exists_intro (Φ := fun g => own c (sWgu j) fullShare g) f))
  iintro ⟨%f, H⟩
  iapply (h' f) $$ H
theorem outWgu (c : Dev nD) : (bigSep Finset.univ (fun j => iprop(∃ g, own c (sWgu j) fullShare g)) : sProp 𝕄) ⊢ iprop(∃ f, bWgu.view.loc (c : Thread nD τ) ↦{fullShare} f) := by
  refine (Entails.of_eq (bigSep_congr fun j _ => ?_)).trans (Ring.pointsTo_blocks_join_exists (ℓ := bWgu.view.loc (c : Thread nD τ)) setWgu setWgu_disjoint setWgu_cover bWgu.view.junk)
  exact congrArg BIBase.exists (funext fun f => ownWgu_eq c j f)

/-! ## The slots of one buffer (Sgu) -/

abbrev setSgu (j : Fin 8) : Finset S8x24x2048.Idx := (Rect.unit (s := S8x24x2048) ![j.val, 0, 0] S1x24x2048.size (inbSgu rfl j.isLt)).set
theorem setSgu_eq (j : Fin 8) : (sSgu j).view.set = setSgu j := by
  unfold sSgu
  simp only [Memref.view_squeeze, View.set_reshape]; exact View.set_slice_whole _ _
theorem setSgu_disjoint (j j' : Fin 8) (h : j ≠ j') : Disjoint (setSgu j) (setSgu j') :=
  Ring.lead_disjoint (s := S8x24x2048) (0 : Fin 3) 1 (fun j : Fin 8 => (![j.val, 0, 0] : Fin 3 → Nat)) S1x24x2048.size (fun j => inbSgu rfl j.isLt) (fun j => by simp) rfl j j' h
theorem setSgu_cover : Finset.univ.biUnion setSgu = Finset.univ :=
  Ring.lead_cover (s := S8x24x2048) (0 : Fin 3) 1 (fun j : Fin 8 => (![j.val, 0, 0] : Fin 3 → Nat)) S1x24x2048.size (fun j => inbSgu rfl j.isLt) (fun j => by simp)
    (fun j a ha => by fin_cases a <;> first | exact absurd rfl ha | rfl) rfl (fun a ha => by fin_cases a <;> first | exact absurd rfl ha | rfl) rfl
theorem ownSgu_eq (c : Dev nD) (j : Fin 8) (f : Bf (F := F) c bSgu) : (own c (sSgu j) fullShare f : sProp 𝕄) = (bSgu.view.loc (c : Thread nD τ) ↦[setSgu j]{fullShare} f) := by
  rw [← setSgu_eq]; rfl
theorem inSgu (c : Dev nD) : iprop(∃ f, bSgu.view.loc (c : Thread nD τ) ↦{fullShare} f) ⊢ (bigSep Finset.univ (fun j => iprop(∃ g, own c (sSgu j) fullShare g)) : sProp 𝕄) := by
  have h := fun f : Bf (F := F) c bSgu => Ring.pointsTo_blocks (Ix := Unit) (Name := ℕ) (U := Pipeline.UD sig nD τ) (Lvl := ℕ) (Val := Elt F) (ℓ := bSgu.view.loc (c : Thread nD τ)) (q := fullShare) setSgu setSgu_disjoint setSgu_cover f
  have h' := fun f : Bf (F := F) c bSgu => (Entails.of_eq (h f)).trans (bigSep_mono (s := Finset.univ) (Ψ := fun j => (iprop(∃ g, own c (sSgu j) fullShare g) : sProp 𝕄)) fun j _ => (Entails.of_eq (ownSgu_eq c j f).symm).trans (exists_intro (Φ := fun g => own c (sSgu j) fullShare g) f))
  iintro ⟨%f, H⟩
  iapply (h' f) $$ H
theorem outSgu (c : Dev nD) : (bigSep Finset.univ (fun j => iprop(∃ g, own c (sSgu j) fullShare g)) : sProp 𝕄) ⊢ iprop(∃ f, bSgu.view.loc (c : Thread nD τ) ↦{fullShare} f) := by
  refine (Entails.of_eq (bigSep_congr fun j _ => ?_)).trans (Ring.pointsTo_blocks_join_exists (ℓ := bSgu.view.loc (c : Thread nD τ)) setSgu setSgu_disjoint setSgu_cover bSgu.view.junk)
  exact congrArg BIBase.exists (funext fun f => ownSgu_eq c j f)

/-! ## The slots of one buffer (Wd) -/

abbrev setWd (j : Fin 8) : Finset S8x512x3072.Idx := (Rect.unit (s := S8x512x3072) ![j.val, 0, 0] S1x512x3072.size (inbWd rfl j.isLt)).set
theorem setWd_eq (j : Fin 8) : (sWd j).view.set = setWd j := by
  unfold sWd
  simp only [Memref.view_squeeze, View.set_reshape]; exact View.set_slice_whole _ _
theorem setWd_disjoint (j j' : Fin 8) (h : j ≠ j') : Disjoint (setWd j) (setWd j') :=
  Ring.lead_disjoint (s := S8x512x3072) (0 : Fin 3) 1 (fun j : Fin 8 => (![j.val, 0, 0] : Fin 3 → Nat)) S1x512x3072.size (fun j => inbWd rfl j.isLt) (fun j => by simp) rfl j j' h
theorem setWd_cover : Finset.univ.biUnion setWd = Finset.univ :=
  Ring.lead_cover (s := S8x512x3072) (0 : Fin 3) 1 (fun j : Fin 8 => (![j.val, 0, 0] : Fin 3 → Nat)) S1x512x3072.size (fun j => inbWd rfl j.isLt) (fun j => by simp)
    (fun j a ha => by fin_cases a <;> first | exact absurd rfl ha | rfl) rfl (fun a ha => by fin_cases a <;> first | exact absurd rfl ha | rfl) rfl
theorem ownWd_eq (c : Dev nD) (j : Fin 8) (f : Bf (F := F) c bWd) : (own c (sWd j) fullShare f : sProp 𝕄) = (bWd.view.loc (c : Thread nD τ) ↦[setWd j]{fullShare} f) := by
  rw [← setWd_eq]; rfl
theorem inWd (c : Dev nD) : iprop(∃ f, bWd.view.loc (c : Thread nD τ) ↦{fullShare} f) ⊢ (bigSep Finset.univ (fun j => iprop(∃ g, own c (sWd j) fullShare g)) : sProp 𝕄) := by
  have h := fun f : Bf (F := F) c bWd => Ring.pointsTo_blocks (Ix := Unit) (Name := ℕ) (U := Pipeline.UD sig nD τ) (Lvl := ℕ) (Val := Elt F) (ℓ := bWd.view.loc (c : Thread nD τ)) (q := fullShare) setWd setWd_disjoint setWd_cover f
  have h' := fun f : Bf (F := F) c bWd => (Entails.of_eq (h f)).trans (bigSep_mono (s := Finset.univ) (Ψ := fun j => (iprop(∃ g, own c (sWd j) fullShare g) : sProp 𝕄)) fun j _ => (Entails.of_eq (ownWd_eq c j f).symm).trans (exists_intro (Φ := fun g => own c (sWd j) fullShare g) f))
  iintro ⟨%f, H⟩
  iapply (h' f) $$ H
theorem outWd (c : Dev nD) : (bigSep Finset.univ (fun j => iprop(∃ g, own c (sWd j) fullShare g)) : sProp 𝕄) ⊢ iprop(∃ f, bWd.view.loc (c : Thread nD τ) ↦{fullShare} f) := by
  refine (Entails.of_eq (bigSep_congr fun j _ => ?_)).trans (Ring.pointsTo_blocks_join_exists (ℓ := bWd.view.loc (c : Thread nD τ)) setWd setWd_disjoint setWd_cover bWd.view.junk)
  exact congrArg BIBase.exists (funext fun f => ownWd_eq c j f)

/-! ## The slots of one buffer (Sd) -/

abbrev setSd (j : Fin 8) : Finset S8x8x3072.Idx := (Rect.unit (s := S8x8x3072) ![j.val, 0, 0] S1x8x3072.size (inbSd rfl j.isLt)).set
theorem setSd_eq (j : Fin 8) : (sSd j).view.set = setSd j := by
  unfold sSd
  simp only [Memref.view_squeeze, View.set_reshape]; exact View.set_slice_whole _ _
theorem setSd_disjoint (j j' : Fin 8) (h : j ≠ j') : Disjoint (setSd j) (setSd j') :=
  Ring.lead_disjoint (s := S8x8x3072) (0 : Fin 3) 1 (fun j : Fin 8 => (![j.val, 0, 0] : Fin 3 → Nat)) S1x8x3072.size (fun j => inbSd rfl j.isLt) (fun j => by simp) rfl j j' h
theorem setSd_cover : Finset.univ.biUnion setSd = Finset.univ :=
  Ring.lead_cover (s := S8x8x3072) (0 : Fin 3) 1 (fun j : Fin 8 => (![j.val, 0, 0] : Fin 3 → Nat)) S1x8x3072.size (fun j => inbSd rfl j.isLt) (fun j => by simp)
    (fun j a ha => by fin_cases a <;> first | exact absurd rfl ha | rfl) rfl (fun a ha => by fin_cases a <;> first | exact absurd rfl ha | rfl) rfl
theorem ownSd_eq (c : Dev nD) (j : Fin 8) (f : Bf (F := F) c bSd) : (own c (sSd j) fullShare f : sProp 𝕄) = (bSd.view.loc (c : Thread nD τ) ↦[setSd j]{fullShare} f) := by
  rw [← setSd_eq]; rfl
theorem inSd (c : Dev nD) : iprop(∃ f, bSd.view.loc (c : Thread nD τ) ↦{fullShare} f) ⊢ (bigSep Finset.univ (fun j => iprop(∃ g, own c (sSd j) fullShare g)) : sProp 𝕄) := by
  have h := fun f : Bf (F := F) c bSd => Ring.pointsTo_blocks (Ix := Unit) (Name := ℕ) (U := Pipeline.UD sig nD τ) (Lvl := ℕ) (Val := Elt F) (ℓ := bSd.view.loc (c : Thread nD τ)) (q := fullShare) setSd setSd_disjoint setSd_cover f
  have h' := fun f : Bf (F := F) c bSd => (Entails.of_eq (h f)).trans (bigSep_mono (s := Finset.univ) (Ψ := fun j => (iprop(∃ g, own c (sSd j) fullShare g) : sProp 𝕄)) fun j _ => (Entails.of_eq (ownSd_eq c j f).symm).trans (exists_intro (Φ := fun g => own c (sSd j) fullShare g) f))
  iintro ⟨%f, H⟩
  iapply (h' f) $$ H
theorem outSd (c : Dev nD) : (bigSep Finset.univ (fun j => iprop(∃ g, own c (sSd j) fullShare g)) : sProp 𝕄) ⊢ iprop(∃ f, bSd.view.loc (c : Thread nD τ) ↦{fullShare} f) := by
  refine (Entails.of_eq (bigSep_congr fun j _ => ?_)).trans (Ring.pointsTo_blocks_join_exists (ℓ := bSd.view.loc (c : Thread nD τ)) setSd setSd_disjoint setSd_cover bSd.view.junk)
  exact congrArg BIBase.exists (funext fun f => ownSd_eq c j f)

/-! ## All slots free -/

theorem sep3 (A B C : Fin 8 → sProp 𝕄) : bigSep Finset.univ (fun j => iprop(A j ∗ B j ∗ C j)) = iprop(bigSep Finset.univ A ∗ bigSep Finset.univ B ∗ bigSep Finset.univ C) := by
  exact (BI.bigSep_sep Finset.univ A (fun j => iprop(B j ∗ C j))).trans (congrArg (fun X : sProp 𝕄 => iprop(bigSep Finset.univ A ∗ X)) (BI.bigSep_sep Finset.univ B C))
theorem sep4 (A B C D : Fin 8 → sProp 𝕄) : bigSep Finset.univ (fun j => iprop(A j ∗ B j ∗ C j ∗ D j)) = iprop(bigSep Finset.univ A ∗ bigSep Finset.univ B ∗ bigSep Finset.univ C ∗ bigSep Finset.univ D) := by
  exact (BI.bigSep_sep Finset.univ A (fun j => iprop(B j ∗ C j ∗ D j))).trans (congrArg (fun X : sProp 𝕄 => iprop(bigSep Finset.univ A ∗ X)) (sep3 B C D))

theorem cells_eq (c : Dev nD) : (Pipeline.ownSems0 (Ix := Unit) (Name := ℕ) (U := Pipeline.UD sig nD τ) (Lvl := ℕ) (Val := Elt F) (τ := τ) osem0 c : sProp 𝕄)
    = iprop(bigSep Finset.univ (fun j => semVal ((c : Thread nD τ), SemLoc.dma (cell j 0).sem) 0) ∗ bigSep Finset.univ (fun j => semVal ((c : Thread nD τ), SemLoc.dma (cell j 1).sem) 0)
      ∗ bigSep Finset.univ (fun j => semVal ((c : Thread nD τ), SemLoc.dma (cell j 2).sem) 0) ∗ bigSep Finset.univ (fun j => semVal ((c : Thread nD τ), SemLoc.dma (cell j 3).sem) 0)) := by
  unfold Pipeline.ownSems0
  rw [← Finset.univ_product_univ, SparseCore.bigSep_product]
  refine (bigSep_congr (Ψ := fun j => (iprop(semVal ((c : Thread nD τ), SemLoc.dma (cell j 0).sem) 0 ∗ semVal ((c : Thread nD τ), SemLoc.dma (cell j 1).sem) 0
      ∗ semVal ((c : Thread nD τ), SemLoc.dma (cell j 2).sem) 0 ∗ semVal ((c : Thread nD τ), SemLoc.dma (cell j 3).sem) 0) : sProp 𝕄)) fun j _ => ?_).trans ?_
  · rw [bigSep_univ_eq_bigSepL [(0 : Fin 4), (1 : Fin 4), (2 : Fin 4), (3 : Fin 4)] (by decide) (by decide)]
    rfl
  · exact sep4 _ _ _ _

theorem free_eq (c : Dev nD) (fW : Bf (F := F) c hWgu) (fS : Bf (F := F) c hSgu) (fD : Bf (F := F) c hWd) (fT : Bf (F := F) c hSd) :
    (bigSep Finset.univ (Free c fW fS fD fT) : sProp 𝕄)
      = iprop((bigSep Finset.univ (fun j => iprop(∃ g, own c (sSgu j) fullShare g)) ∗ bigSep Finset.univ (fun j => semVal ((c : Thread nD τ), SemLoc.dma (cell j 0).sem) 0) ∗ bigSep Finset.univ (fun j => hSgu.view.loc (c : Thread nD τ) ↦{tok j} fS))
        ∗ (bigSep Finset.univ (fun j => iprop(∃ g, own c (sWgu j) fullShare g)) ∗ bigSep Finset.univ (fun j => semVal ((c : Thread nD τ), SemLoc.dma (cell j 1).sem) 0) ∗ bigSep Finset.univ (fun j => hWgu.view.loc (c : Thread nD τ) ↦{tok j} fW))
        ∗ (bigSep Finset.univ (fun j => iprop(∃ g, own c (sSd j) fullShare g)) ∗ bigSep Finset.univ (fun j => semVal ((c : Thread nD τ), SemLoc.dma (cell j 2).sem) 0) ∗ bigSep Finset.univ (fun j => hSd.view.loc (c : Thread nD τ) ↦{tok j} fT))
        ∗ (bigSep Finset.univ (fun j => iprop(∃ g, own c (sWd j) fullShare g)) ∗ bigSep Finset.univ (fun j => semVal ((c : Thread nD τ), SemLoc.dma (cell j 3).sem) 0) ∗ bigSep Finset.univ (fun j => hWd.view.loc (c : Thread nD τ) ↦{tok j} fD))) := by
  have e : Free c fW fS fD fT = fun j => (iprop(((∃ g, own c (sSgu j) fullShare g) ∗ semVal ((c : Thread nD τ), SemLoc.dma (cell j 0).sem) 0 ∗ (hSgu.view.loc (c : Thread nD τ) ↦{tok j} fS))
      ∗ ((∃ g, own c (sWgu j) fullShare g) ∗ semVal ((c : Thread nD τ), SemLoc.dma (cell j 1).sem) 0 ∗ (hWgu.view.loc (c : Thread nD τ) ↦{tok j} fW))
      ∗ ((∃ g, own c (sSd j) fullShare g) ∗ semVal ((c : Thread nD τ), SemLoc.dma (cell j 2).sem) 0 ∗ (hSd.view.loc (c : Thread nD τ) ↦{tok j} fT))
      ∗ ((∃ g, own c (sWd j) fullShare g) ∗ semVal ((c : Thread nD τ), SemLoc.dma (cell j 3).sem) 0 ∗ (hWd.view.loc (c : Thread nD τ) ↦{tok j} fD))) : sProp 𝕄) := rfl
  rw [e]
  refine (sep4 _ _ _ _).trans ?_
  rw [sep3, sep3, sep3, sep3]

/-- What is left of an argument beside its eight tokens. -/
abbrev rest {s : Shape} {φ : EltTy} (c : Dev nD) (M : Memref sig .tc .hbm s φ) (f : Bf (F := F) c M) : sProp 𝕄 :=
  M.view.loc (c : Thread nD τ) ↦{Transfers.shareDrop fullShare 8} f

/-- The buffers, cells and arguments whole, and all slots free: one from the other. -/
theorem free_in (c : Dev nD) (fW : Bf (F := F) c hWgu) (fS : Bf (F := F) c hSgu) (fD : Bf (F := F) c hWd) (fT : Bf (F := F) c hSd) :
    iprop((∃ f, bWgu.view.loc (c : Thread nD τ) ↦{fullShare} f) ∗ (∃ f, bSgu.view.loc (c : Thread nD τ) ↦{fullShare} f) ∗ (∃ f, bWd.view.loc (c : Thread nD τ) ↦{fullShare} f) ∗ (∃ f, bSd.view.loc (c : Thread nD τ) ↦{fullShare} f)
      ∗ Pipeline.ownSems0 (Ix := Unit) (Name := ℕ) (U := Pipeline.UD sig nD τ) (Lvl := ℕ) (Val := Elt F) (τ := τ) osem0 c
      ∗ (hWgu.view.loc (c : Thread nD τ) ↦{fullShare} fW) ∗ (hSgu.view.loc (c : Thread nD τ) ↦{fullShare} fS) ∗ (hWd.view.loc (c : Thread nD τ) ↦{fullShare} fD) ∗ (hSd.view.loc (c : Thread nD τ) ↦{fullShare} fT))
    ⊢ (iprop(bigSep Finset.univ (Free c fW fS fD fT) ∗ rest c hWgu fW ∗ rest c hSgu fS ∗ rest c hWd fD ∗ rest c hSd fT) : sProp 𝕄) := by
  rw [free_eq, cells_eq]
  iintro ⟨HW, HS, HD, HT, ⟨C0, C1, C2, C3⟩, AW, AS, AD, AT⟩
  ihave HW := (inWgu c) $$ HW
  ihave HS := (inSgu c) $$ HS
  ihave HD := (inWd c) $$ HD
  ihave HT := (inSd c) $$ HT
  ihave AW := (Transfers.pointsTo_toks_split fullShare 8) $$ AW
  ihave AS := (Transfers.pointsTo_toks_split fullShare 8) $$ AS
  ihave AD := (Transfers.pointsTo_toks_split fullShare 8) $$ AD
  ihave AT := (Transfers.pointsTo_toks_split fullShare 8) $$ AT
  icases AW with ⟨RW, AW⟩
  icases AS with ⟨RS, AS⟩
  icases AD with ⟨RD, AD⟩
  icases AT with ⟨RT, AT⟩
  isplitr [RW RS RD RT]
  · isplitl [HS C0 AS]
    · isplitl [HS]; · iexact HS
      isplitl [C0]; · iexact C0
      iexact AS
    isplitl [HW C1 AW]
    · isplitl [HW]; · iexact HW
      isplitl [C1]; · iexact C1
      iexact AW
    isplitl [HT C2 AT]
    · isplitl [HT]; · iexact HT
      isplitl [C2]; · iexact C2
      iexact AT
    isplitl [HD]; · iexact HD
    isplitl [C3]; · iexact C3
    iexact AD
  isplitl [RW]; · iexact RW
  isplitl [RS]; · iexact RS
  isplitl [RD]; · iexact RD
  iexact RT
theorem free_out (c : Dev nD) (fW : Bf (F := F) c hWgu) (fS : Bf (F := F) c hSgu) (fD : Bf (F := F) c hWd) (fT : Bf (F := F) c hSd) :
    (iprop(bigSep Finset.univ (Free c fW fS fD fT) ∗ rest c hWgu fW ∗ rest c hSgu fS ∗ rest c hWd fD ∗ rest c hSd fT) : sProp 𝕄) ⊢
    iprop((∃ f, bWgu.view.loc (c : Thread nD τ) ↦{fullShare} f) ∗ (∃ f, bSgu.view.loc (c : Thread nD τ) ↦{fullShare} f) ∗ (∃ f, bWd.view.loc (c : Thread nD τ) ↦{fullShare} f) ∗ (∃ f, bSd.view.loc (c : Thread nD τ) ↦{fullShare} f)
      ∗ Pipeline.ownSems0 (Ix := Unit) (Name := ℕ) (U := Pipeline.UD sig nD τ) (Lvl := ℕ) (Val := Elt F) (τ := τ) osem0 c
      ∗ (hWgu.view.loc (c : Thread nD τ) ↦{fullShare} fW) ∗ (hSgu.view.loc (c : Thread nD τ) ↦{fullShare} fS) ∗ (hWd.view.loc (c : Thread nD τ) ↦{fullShare} fD) ∗ (hSd.view.loc (c : Thread nD τ) ↦{fullShare} fT)) := by
  rw [free_eq, cells_eq]
  iintro ⟨⟨⟨HS, C0, AS⟩, ⟨HW, C1, AW⟩, ⟨HT, C2, AT⟩, ⟨HD, C3, AD⟩⟩, RW, RS, RD, RT⟩
  isplitl [HW]; · iapply (outWgu c) $$ HW
  isplitl [HS]; · iapply (outSgu c) $$ HS
  isplitl [HD]; · iapply (outWd c) $$ HD
  isplitl [HT]; · iapply (outSd c) $$ HT
  isplitl [C0 C1 C2 C3]
  · isplitl [C0]; · iexact C0
    isplitl [C1]; · iexact C1
    isplitl [C2]; · iexact C2
    iexact C3
  isplitl [RW AW]
  · iapply (Transfers.pointsTo_toks_join fullShare 8)
    isplitl [RW]; · iexact RW
    iexact AW
  isplitl [RS AS]
  · iapply (Transfers.pointsTo_toks_join fullShare 8)
    isplitl [RS]; · iexact RS
    iexact AS
  isplitl [RD AD]
  · iapply (Transfers.pointsTo_toks_join fullShare 8)
    isplitl [RD]; · iexact RD
    iexact AD
  iapply (Transfers.pointsTo_toks_join fullShare 8)
  isplitl [RT]; · iexact RT
  iexact AT

end Cert.KernelIdeal.Hand

end
-- ==== Proof.Hand.KernelIdeal.Frame.lean ====
module

public import proofs.«01_k».proof.Proof.Hand.KernelIdeal.Launch
public import proofs.«01_k».proof.Proof.Gen.KernelIdeal.Frame

/-! The run of the one region and the frame: the program terminates, nothing faults, the arguments end unchanged and
every semaphore counter ends at zero. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arguments the kernel's copies read. -/
def H0 : Finset (Ref sig .tc) := {main_arg3, main_arg4, main_arg5, main_arg6}
theorem H0_sub : H0 ⊆ Pipeline.restRefs sig spec0 := by decide
theorem hbm_eq (c : Dev nD) :
    (bigSep H0 (fun b => ((c : Thread nD τ).loc b) ↦{fullShare} V m c b) : sProp 𝕄)
      = iprop((hWgu.view.loc (c : Thread nD τ) ↦{fullShare} V m c main_arg3) ∗ (hSgu.view.loc (c : Thread nD τ) ↦{fullShare} V m c main_arg4)
          ∗ (hWd.view.loc (c : Thread nD τ) ↦{fullShare} V m c main_arg5) ∗ (hSd.view.loc (c : Thread nD τ) ↦{fullShare} V m c main_arg6)) := by
  rw [BI.bigSep_eq_bigSepL_of_eq [main_arg3, main_arg4, main_arg5, main_arg6] (by decide) (by decide)]; rfl

abbrev ms0_0 (t : Fin cfg0.N) : Memref sig .tc .smem S64 .i32 := win0_0.stage (cfg0.slots t 0)
abbrev ms0_1 (t : Fin cfg0.N) : Memref sig .tc .vmem S32x2 .i32 := win0_1.stage (cfg0.slots t 1)
abbrev ms0_2 (t : Fin cfg0.N) : Memref sig .tc .vmem S32x2 .f32 := win0_2.stage (cfg0.slots t 2)
abbrev ms0_3 (t : Fin cfg0.N) : Memref sig .tc .vmem S32x3072 .bf16 := win0_3.stage (cfg0.slots t 3)
abbrev ms0_4 (t : Fin cfg0.N) : Memref sig .tc .vmem S32x3072 .bf16 := win0_4.stage (cfg0.slots t 4)

/-- The body at a point, on the windows' blocks. -/
def bodyRun (c : Dev nD) (t : Fin cfg0.N) :=
  body (F := F) c (ms0_0 t) (hstage0_0 0) (ms0_1 t) (hstage0_1 0) (ms0_2 t) (hstage0_2 0) (ms0_3 t) (hstage0_3 0) (ms0_4 t) (hstage0_4 0)
    (Memref.isWhole_whole _) (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _)
    ((ms0_0 t).view.rep (iblk m c 0 t)) ((ms0_1 t).view.rep (iblk m c 1 t)) ((ms0_2 t).view.rep (iblk m c 2 t)) ((ms0_3 t).view.rep (iblk m c 3 t))
    (V m c main_arg3) (V m c main_arg4) (V m c main_arg5) (V m c main_arg6)

/-- What the body leaves in the result's block. -/
def outAt (c : Dev nD) (t : Fin cfg0.N) : S32x3072.Idx → Elt F .bf16 := (bodyRun m c t).1

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem before0_0 (c : Dev nD) (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

theorem whole_own (c : Dev nD) {sp : Space} {s : Shape} {φ : EltTy} (b : Ref sig .tc) (f : Buf (Elt F) ((c : Thread nD τ).loc b)) :
    (((c : Thread nD τ).loc b) ↦{fullShare} f : sProp 𝕄) = (((c : Thread nD τ).loc b) ↦[Finset.univ]{fullShare} f) := rfl

theorem phi_eq (c : Dev nD) : Pipeline.ΦD (Val := Elt F) (τ := τ) (nD := nD) osem0 spec0 H0 (V m) c
    = (iprop(((∃ f, bWgu.view.loc (c : Thread nD τ) ↦{fullShare} f) ∗ (∃ f, bSgu.view.loc (c : Thread nD τ) ↦{fullShare} f) ∗ (∃ f, bWd.view.loc (c : Thread nD τ) ↦{fullShare} f) ∗ (∃ f, bSd.view.loc (c : Thread nD τ) ↦{fullShare} f)
        ∗ (∃ f, own c bAcc fullShare f) ∗ (∃ f, own c bAct fullShare f))
      ∗ (∃ r, prngReg c r)
      ∗ Pipeline.ownSems0 (Ix := Unit) (Name := ℕ) (U := Pipeline.UD sig nD τ) (Lvl := ℕ) (Val := Elt F) (τ := τ) osem0 c
      ∗ (hWgu.view.loc (c : Thread nD τ) ↦{fullShare} V m c main_arg3) ∗ (hSgu.view.loc (c : Thread nD τ) ↦{fullShare} V m c main_arg4)
          ∗ (hWd.view.loc (c : Thread nD τ) ↦{fullShare} V m c main_arg5) ∗ (hSd.view.loc (c : Thread nD τ) ↦{fullShare} V m c main_arg6)) : sProp 𝕄) := by
  have e4 := fun f : Bf (F := F) c bAcc => (congrArg (fun S => (bAcc.view.loc (c : Thread nD τ) ↦[S]{fullShare} f : sProp 𝕄)) (View.set_whole cc0_scratch4))
  have e5 := fun f : Bf (F := F) c bAct => (congrArg (fun S => (bAct.view.loc (c : Thread nD τ) ↦[S]{fullShare} f : sProp 𝕄)) (View.set_whole cc0_scratch5))
  rw [Pipeline.ΦD_eq, scopedRest0_eq, hbm_eq]
  simp only [own, e4, e5]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0 m c (dats m 0 c) (A_eq m c 0) (after0_0 m c), before0_1 m c (dats m 0 c) (A_eq m c 1) (after0_1 m c),
    before0_2 m c (dats m 0 c) (A_eq m c 2) (after0_2 m c), before0_3 m c (dats m 0 c) (A_eq m c 3) (after0_3 m c)]
  rw [show (dats m 0 c).Φ t.succ = (dats m 0 c).Φ t.castSucc from rfl, after0_0, after0_1, after0_2, after0_3, after0_4]
  rw [show (dats m 0 c).Φ t.castSucc = Pipeline.ΦD osem0 spec0 H0 (V m) c from rfl, phi_eq]
  unfold Dat.owesAt Pipeline.owesWithin
  rw [show (dats m 0 c).owed t.castSucc = 0 from rfl, show (dats m 0 c).owed t.succ = 0 from rfl]
  rw [owns_eq_rep (c : Thread nD τ) (ms0_0 t), owns_eq_rep (c : Thread nD τ) (ms0_1 t), owns_eq_rep (c : Thread nD τ) (ms0_2 t), owns_eq_rep (c : Thread nD τ) (ms0_3 t), owns_eq_rep (c : Thread nD τ) (ms0_4 t) fullShare (outAt m c t)]
  unfold owns
  iintro ⟨⟨⟨B0, B1, B2, B3, ⟨%g13, B4⟩, ⟨%g14, B5⟩⟩, Hg, HC, A3, A4, A5, A6⟩, ⟨%W, -, HW⟩, ⟨%d0, H0⟩, ⟨%d1, H1⟩, ⟨%d2, H2⟩, ⟨%d3, H3⟩, ⟨%d4, %f4, -, H4⟩⟩
  ihave HF := (free_in c (V m c main_arg3) (V m c main_arg4) (V m c main_arg5) (V m c main_arg6)) $$ [B0 B1 B2 B3 HC A3 A4 A5 A6]
  · isplitl [B0]; · iexact B0
    isplitl [B1]; · iexact B1
    isplitl [B2]; · iexact B2
    isplitl [B3]; · iexact B3
    isplitl [HC]; · iexact HC
    isplitl [A3]; · iexact A3
    isplitl [A4]; · iexact A4
    isplitl [A5]; · iexact A5
    iexact A6
  icases HF with ⟨HF, HR⟩
  iapply ((bodyRun m c t).2 f4 g13 g14 W _)
  isplitl [H0]; · iexact H0
  isplitl [H1]; · iexact H1
  isplitl [H2]; · iexact H2
  isplitl [H3]; · iexact H3
  isplitl [H4]; · iexact H4
  isplitl [B4]; · iexact B4
  isplitl [B5]; · iexact B5
  isplitl [HF]; · iexact HF
  isplitl [HW]; · iexact HW
  iintro ⟨H0, H1, H2, H3, H4, B4, B5, HF, ⟨%W', HW'⟩⟩
  ihave HA := (free_out c (V m c main_arg3) (V m c main_arg4) (V m c main_arg5) (V m c main_arg6)) $$ [HF HR]
  · isplitl [HF]; · iexact HF
    iexact HR
  icases HA with ⟨B0, B1, B2, B3, HC, HA⟩
  isplitl [B0 B1 B2 B3 B4 B5 Hg HC HA]
  · isplitl [B0 B1 B2 B3 B4 B5]
    · isplitl [B0]; · iexact B0
      isplitl [B1]; · iexact B1
      isplitl [B2]; · iexact B2
      isplitl [B3]; · iexact B3
      isplitl [B4]; · iexact B4
      iexact B5
    isplitl [Hg]; · iexact Hg
    isplitl [HC]; · iexact HC
    iexact HA
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.KernelIdeal.Hand

end
-- ==== Proof.Hand.Value.RefVal.lean ====
module

public import proofs.«01_k».proof.Proof.Gen.ReferenceIdeal.Run
public import Idealize.ShloMosaic.Lib.Pointwise

@[expose] public section

set_option maxRecDepth 16384

noncomputable section

/-! The reference's result, cut into its steps. -/

namespace Cert.ReferenceIdeal.Hand

open Cert.ReferenceIdeal Cert.ReferenceIdeal.Gen Idealize.ShloMosaic Idealize.ShloMosaic.TcCoe

variable {F : FTy → Type} [FloatOps F]

/-- Which row chose which expert. -/
def hit (ids : IVec S32x1x2 32) : IVec S64x8 1 :=
  cmpi .eq (broadcastInDim S64x8 ![0, 1] bcast_S64x1_S64x8_0_1 (broadcastInDim S64x1 ![0] bcast_S64_S64x1_0 (shapeCast S64 ids shapeCasts_S32x1x2_S64))) (broadcastInDim S64x8 ![0, 1] bcast_S1x8_S64x8_0_1 (broadcastInDim S1x8 ![1] bcast_S8_S1x8_1 (iotaInDim S8 32 0)))

/-- The tokens, one row for each expert chosen. -/
def rows (x : FVec F S32x1x3072 .bf16) : FVec F S64x3072 .bf16 :=
  shapeCast S64x3072 (broadcastInDim S32x2x3072 ![0, 2] bcast_S32x3072_S32x2x3072_0_2 (shapeCast S32x3072 x shapeCasts_S32x1x3072_S32x3072)) shapeCasts_S32x2x3072_S64x3072

/-- The low and the high codes, as words. -/
def lowWords {s : Shape} (hb : S_.BroadcastsInDim s (![] : Fin 0 → Fin s.rank)) (w : IVec s 8) : IVec s 32 :=
  andi (extui 32 w natLt_8_32) (broadcastInDim s ![] hb (constantI S_ 32 15#32))
def highWords {s : Shape} (hb : S_.BroadcastsInDim s (![] : Fin 0 → Fin s.rank)) (w : IVec s 8) : IVec s 32 :=
  Host.shrsi (extui 32 w natLt_8_32) (broadcastInDim s ![] hb (constantI S_ 32 4#32))
def signed {s : Shape} (hb : S_.BroadcastsInDim s (![] : Fin 0 → Fin s.rank)) (w : IVec s 32) : FVec F s .bf16 :=
  sitofp .bf16 (select (cmpi .sge w (broadcastInDim s ![] hb (constantI S_ 32 8#32))) (subi w (broadcastInDim s ![] hb (constantI S_ 32 16#32))) w)

/-- Codes times their group's scale. -/
def scaleGu (v : FVec F S8x1536x2048 .bf16) (s : FVec F S8x24x2048 .bf16) : FVec F S8x1536x2048 .bf16 :=
  shapeCast S8x1536x2048 (mulf (shapeCast S8x24x64x2048 v shapeCasts_S8x1536x2048_S8x24x64x2048) (broadcastInDim S8x24x64x2048 ![0, 1, 2, 3] bcast_S8x24x1x2048_S8x24x64x2048_0_1_2_3 (broadcastInDim S8x24x1x2048 ![0, 1, 3] bcast_S8x24x2048_S8x24x1x2048_0_1_3 s))) shapeCasts_S8x24x64x2048_S8x1536x2048
def scaleD (v : FVec F S8x512x3072 .bf16) (s : FVec F S8x8x3072 .bf16) : FVec F S8x512x3072 .bf16 :=
  shapeCast S8x512x3072 (mulf (shapeCast S8x8x64x3072 v shapeCasts_S8x512x3072_S8x8x64x3072) (broadcastInDim S8x8x64x3072 ![0, 1, 2, 3] bcast_S8x8x1x3072_S8x8x64x3072_0_1_2_3 (broadcastInDim S8x8x1x3072 ![0, 1, 3] bcast_S8x8x3072_S8x8x1x3072_0_1_3 s))) shapeCasts_S8x8x64x3072_S8x512x3072

/-- A row times the weights of the expert it chose. -/
def routedGu (h : IVec S64x8 1) (a : FVec F S64x1536 .bf16) (w : FVec F S8x1536x2048 .bf16) : FVec F S64x2048 .f32 :=
  Host.reduceAdd (select (broadcastInDim S64x8x2048 ![0, 1, 2] bcast_S64x8x1_S64x8x2048_0_1_2 (broadcastInDim S64x8x1 ![0, 1] bcast_S64x8_S64x8x1_0_1 h)) (Host.dotGeneral dot_S64x1536_S8x1536x2048_S64x8x2048_1_1_0_02_n_n none a w) (broadcastInDim S64x8x2048 ![] bcast_S_S64x8x2048 (id (constant S_ .f32 0x00000000#32)))) (constant S_ .f32 0x00000000#32) reducesTo_S64x8x2048_S64x2048_d1 h_S_
def routedD (h : IVec S64x8 1) (a : FVec F S64x512 .bf16) (w : FVec F S8x512x3072 .bf16) : FVec F S64x3072 .f32 :=
  Host.reduceAdd (select (broadcastInDim S64x8x3072 ![0, 1, 2] bcast_S64x8x1_S64x8x3072_0_1_2 (broadcastInDim S64x8x1 ![0, 1] bcast_S64x8_S64x8x1_0_1 h)) (Host.dotGeneral dot_S64x512_S8x512x3072_S64x8x3072_1_1_0_02_n_n none a w) (broadcastInDim S64x8x3072 ![] bcast_S_S64x8x3072 (id (constant S_ .f32 0x00000000#32)))) (constant S_ .f32 0x00000000#32) reducesTo_S64x8x3072_S64x3072_d1 h_S_

/-- The first product. -/
def gu (x : FVec F S32x1x3072 .bf16) (ids : IVec S32x1x2 32) (w : IVec S8x1536x2048 8) (s : FVec F S8x24x2048 .bf16) : FVec F S64x2048 .f32 :=
  addf (routedGu (hit ids) (Host.slice S64x1536 ![0, 0] ![1, 2] (rows x) slicesBy_S64x3072_S64x1536_0s1_0s2) (scaleGu (signed bcast_S_S8x1536x2048 (lowWords bcast_S_S8x1536x2048 w)) s))
    (routedGu (hit ids) (Host.slice S64x1536 ![0, 1] ![1, 2] (rows x) slicesBy_S64x3072_S64x1536_0s1_1s2) (scaleGu (signed bcast_S_S8x1536x2048 (highWords bcast_S_S8x1536x2048 w)) s))

/-- The hidden features. -/
def hidden (g : FVec F S64x2048 .f32) : FVec F S64x1024 .bf16 :=
  truncf .bf16 (mulf (mulf (extractStridedSlice S64x1024 ![0, 0] g slices_S64x2048_S64x1024_0_0) (Host.divf (broadcastInDim S64x1024 ![] bcast_S_S64x1024 (constant S_ .f32 0x3F800000#32)) (addf (broadcastInDim S64x1024 ![] bcast_S_S64x1024 (constant S_ .f32 0x3F800000#32)) (Host.exp (Host.negf (extractStridedSlice S64x1024 ![0, 0] g slices_S64x2048_S64x1024_0_0)))))) (extractStridedSlice S64x1024 ![0, 1024] g slices_S64x2048_S64x1024_0_1024)) bitsLt_bf16_f32

/-- The second product. -/
def down (h : FVec F S64x1024 .bf16) (ids : IVec S32x1x2 32) (w : IVec S8x512x3072 8) (s : FVec F S8x8x3072 .bf16) : FVec F S64x3072 .f32 :=
  addf (routedD (hit ids) (Host.slice S64x512 ![0, 0] ![1, 2] h slicesBy_S64x1024_S64x512_0s1_0s2) (scaleD (signed bcast_S_S8x512x3072 (lowWords bcast_S_S8x512x3072 w)) s))
    (routedD (hit ids) (Host.slice S64x512 ![0, 1] ![1, 2] h slicesBy_S64x1024_S64x512_0s1_1s2) (scaleD (signed bcast_S_S8x512x3072 (highWords bcast_S_S8x512x3072 w)) s))

/-- The rows of a token, weighted and added. -/
def combined (y : FVec F S64x3072 .f32) (r : FVec F S32x1x2 .f32) : FVec F S32x3072 .bf16 :=
  truncf .bf16 (Host.reduceAdd (shapeCast S32x2x3072 (mulf y (broadcastInDim S64x3072 ![0, 1] bcast_S64x1_S64x3072_0_1 (broadcastInDim S64x1 ![0] bcast_S64_S64x1_0 (shapeCast S64 r shapeCasts_S32x1x2_S64)))) shapeCasts_S64x3072_S32x2x3072) (constant S_ .f32 0x00000000#32) reducesTo_S32x2x3072_S32x3072_d1 h_S_) bitsLt_bf16_f32

theorem res_eq (m : (ℓ : Loc nD τ sig) → Buf (Elt F) ℓ) (c : Dev nD) :
    Value.res_out0 m c = combined (down (hidden (gu (m ((c.tc : Thread nD τ).loc main_arg0)) (m ((c.tc : Thread nD τ).loc main_arg1)) (m ((c.tc : Thread nD τ).loc main_arg3)) (m ((c.tc : Thread nD τ).loc main_arg4))))
      (m ((c.tc : Thread nD τ).loc main_arg1)) (m ((c.tc : Thread nD τ).loc main_arg5)) (m ((c.tc : Thread nD τ).loc main_arg6))) (m ((c.tc : Thread nD τ).loc main_arg2)) := by
  unfold combined down hidden gu routedGu routedD scaleGu scaleD signed lowWords highWords rows hit Value.res_out0 Value.res_main_v115
  rfl

end Cert.ReferenceIdeal.Hand

end
-- ==== Proof.Hand.Value.Spec.lean ====
module

public import Idealize.ShloMosaic.Lib.Pointwise

@[expose] public section

noncomputable section

/-! The function both programs compute, over plain indices at the exact reals. -/

namespace Cert.Moe

open Idealize.ShloMosaic

/-- A sum cut into equal runs. -/
theorem sum_cut (a b n : ℕ) (h : a * b = n) (f : Fin n → EReal) :
    ∑ d, f d = ∑ r : Fin a, ∑ p : Fin b, f ⟨b * r.val + p.val, by
      have := r.isLt; have := p.isLt
      calc b * r.val + p.val < b * r.val + b := by omega
        _ = b * (r.val + 1) := by ring
        _ ≤ b * a := Nat.mul_le_mul_left _ (by omega)
        _ = n := by rw [← h, Nat.mul_comm]⟩ := by
  subst h
  rw [← finProdFinEquiv.sum_comp, Fintype.sum_prod_type]
  refine Finset.sum_congr rfl fun r _ => Finset.sum_congr rfl fun p _ => congrArg f (Fin.ext ?_)
  simp [finProdFinEquiv]; omega

/-- A sum cut into its even and its odd places. -/
theorem sum_even_odd (n m : ℕ) (h : n * 2 = m) (f : Fin m → EReal) :
    ∑ d, f d = (∑ p : Fin n, f ⟨2 * p.val, by omega⟩) + ∑ p : Fin n, f ⟨2 * p.val + 1, by omega⟩ := by
  rw [sum_cut n 2 m h f, ← Finset.sum_add_distrib]
  exact Finset.sum_congr rfl fun p _ => Fin.sum_univ_two _

/-- The code held in half `r % 2` of a packed byte, as a word: the low four bits or the high four, signed. -/
def nib (r : ℕ) (b : BitVec 8) : BitVec 32 :=
  (b.setWidth 32 <<< (if r % 2 = 0 then 28 else 24)).sshiftRight 28

def code (r : ℕ) (b : BitVec 8) : EReal := FloatOps.sitofp (F := Ideal) FTy.bf16 (nib r b)

section
variable (x : Fin 32 → Fin 3072 → EReal) (ids : Fin 32 → Fin 2 → BitVec 32) (rw : Fin 32 → Fin 2 → EReal)
  (w1 : Fin 8 → Fin 1536 → Fin 2048 → BitVec 8) (s1 : Fin 8 → Fin 24 → Fin 2048 → EReal)
  (w2 : Fin 8 → Fin 512 → Fin 3072 → BitVec 8) (s2 : Fin 8 → Fin 8 → Fin 3072 → EReal)

/-- The weights of expert `e`: a code times the scale of its group of 128 rows. -/
def W1 (e : Fin 8) (d : Fin 3072) (q : Fin 2048) : EReal :=
  code d.val (w1 e ⟨d.val / 2, by omega⟩ q) * s1 e ⟨d.val / 128, by omega⟩ q
def W2 (e : Fin 8) (d : Fin 1024) (n : Fin 3072) : EReal :=
  code d.val (w2 e ⟨d.val / 2, by omega⟩ n) * s2 e ⟨d.val / 128, by omega⟩ n

/-- The first product of token `t` with expert `e`. -/
def feat (e : Fin 8) (t : Fin 32) (q : Fin 2048) : EReal := ∑ d : Fin 3072, x t d * W1 w1 s1 e d q

/-- A gate and what it passes. -/
def gate (g u : EReal) : EReal := g * Ideal.div 1 (1 + Ideal.exp (-g)) * u

/-- The hidden features. -/
def hid (e : Fin 8) (t : Fin 32) (d : Fin 1024) : EReal :=
  gate (feat x w1 s1 e t ⟨d.val, by omega⟩) (feat x w1 s1 e t ⟨1024 + d.val, by omega⟩)

/-- Expert `e`'s result for token `t`. -/
def expertOut (e : Fin 8) (t : Fin 32) (n : Fin 3072) : EReal := ∑ d : Fin 1024, hid x w1 s1 e t d * W2 w2 s2 e d n

/-- The whole: the results of the experts a token chose, weighted and added. -/
def moe (t : Fin 32) (n : Fin 3072) : EReal :=
  ∑ j : Fin 2, (∑ e : Fin 8, if ids t j = BitVec.ofNat 32 e.val then expertOut x w1 s1 w2 s2 e t n else 0) * rw t j

end

theorem ofNat_inj8 : ∀ e e' : Fin 8, BitVec.ofNat 32 e.val = BitVec.ofNat 32 e'.val → e = e' := by decide

/-- Of the experts only the one chosen is left. -/
theorem sum_pick (i : BitVec 32) (e : Fin 8) (h : i = BitVec.ofNat 32 e.val) (f : Fin 8 → EReal) :
    (∑ e' : Fin 8, if i = BitVec.ofNat 32 e'.val then f e' else 0) = f e := by
  rw [Finset.sum_eq_single e (fun b _ hb => if_neg fun h' => hb (ofNat_inj8 b e (h'.symm.trans h))) (fun h' => absurd (Finset.mem_univ e) h')]
  exact if_pos h

end Cert.Moe

end
-- ==== Proof.Hand.Value.RefAt.lean ====
module

public import proofs.«01_k».proof.Proof.Hand.Value.RefVal
public import proofs.«01_k».proof.Proof.Hand.Value.Spec

@[expose] public section

set_option maxRecDepth 16384

noncomputable section

/-! The reference's steps at the exact reals, element by element, and its result: `Cert.Moe.moe` of the arguments. -/

namespace Cert.ReferenceIdeal.Hand

open Cert.ReferenceIdeal Cert.ReferenceIdeal.Gen Idealize.ShloMosaic Idealize.ShloMosaic.TcCoe
open Cert.Moe

/-- The row of token `t`'s choice `j`. -/
def row (t : Fin 32) (j : Fin 2) : Fin 64 := ⟨t.val * 2 + j.val, by omega⟩

theorem hit_at (ids : IVec S32x1x2 32) (t : Fin 32) (j : Fin 2) (e : Fin 8) :
    hit ids (ix2 (row t j) e) = IntOp.cmpi .eq (ids (ix3 t 0 j)) (BitVec.ofNat 32 e.val) := by
  unfold row
  pointwise [hit]

theorem rows_at (x : FVec Ideal S32x1x3072 .bf16) (t : Fin 32) (j : Fin 2) (d : Fin 3072) :
    rows x (ix2 (row t j) d) = x (ix3 t 0 d) := by
  unfold row
  pointwise [rows]

theorem low_word : ∀ b : BitVec 8, Scalar.select (IntOp.cmpi CmpIPredicate.sge (IntOp.andi (BitVec.setWidth 32 b) 15#32) 8#32)
    (IntOp.subi (IntOp.andi (BitVec.setWidth 32 b) 15#32) 16#32) (IntOp.andi (BitVec.setWidth 32 b) 15#32) = nib 0 b := by
  decide +kernel

theorem high_word : ∀ b : BitVec 8, Scalar.select (IntOp.cmpi CmpIPredicate.sge (IntOp.shrsi ArithUnit.host (BitVec.setWidth 32 b) 4#32) 8#32)
    (IntOp.subi (IntOp.shrsi ArithUnit.host (BitVec.setWidth 32 b) 4#32) 16#32) (IntOp.shrsi ArithUnit.host (BitVec.setWidth 32 b) 4#32) = nib 1 b := by
  decide +kernel

theorem nib_even (p : ℕ) (b : BitVec 8) : nib (2 * p) b = nib 0 b := by unfold nib; rw [Nat.mul_mod_right]
theorem nib_odd (p : ℕ) (b : BitVec 8) : nib (2 * p + 1) b = nib 1 b := by
  unfold nib; rw [show (2 * p + 1) % 2 = 1 from by omega]

theorem W1_even (w : Fin 8 → Fin 1536 → Fin 2048 → BitVec 8) (s : Fin 8 → Fin 24 → Fin 2048 → EReal) (e : Fin 8) (p : Fin 1536) (q : Fin 2048) :
    W1 w s e ⟨2 * p.val, by omega⟩ q = code 0 (w e p q) * s e ⟨p.val / 64, by omega⟩ q := by
  unfold W1 code
  simp only [nib_even, show (2 * p.val) / 2 = p.val from by omega, show (2 * p.val) / 128 = p.val / 64 from by omega]
theorem W1_odd (w : Fin 8 → Fin 1536 → Fin 2048 → BitVec 8) (s : Fin 8 → Fin 24 → Fin 2048 → EReal) (e : Fin 8) (p : Fin 1536) (q : Fin 2048) :
    W1 w s e ⟨2 * p.val + 1, by omega⟩ q = code 1 (w e p q) * s e ⟨p.val / 64, by omega⟩ q := by
  unfold W1 code
  simp only [nib_odd, show (2 * p.val + 1) / 2 = p.val from by omega, show (2 * p.val + 1) / 128 = p.val / 64 from by omega]
theorem W2_even (w : Fin 8 → Fin 512 → Fin 3072 → BitVec 8) (s : Fin 8 → Fin 8 → Fin 3072 → EReal) (e : Fin 8) (p : Fin 512) (q : Fin 3072) :
    W2 w s e ⟨2 * p.val, by omega⟩ q = code 0 (w e p q) * s e ⟨p.val / 64, by omega⟩ q := by
  unfold W2 code
  simp only [nib_even, show (2 * p.val) / 2 = p.val from by omega, show (2 * p.val) / 128 = p.val / 64 from by omega]
theorem W2_odd (w : Fin 8 → Fin 512 → Fin 3072 → BitVec 8) (s : Fin 8 → Fin 8 → Fin 3072 → EReal) (e : Fin 8) (p : Fin 512) (q : Fin 3072) :
    W2 w s e ⟨2 * p.val + 1, by omega⟩ q = code 1 (w e p q) * s e ⟨p.val / 64, by omega⟩ q := by
  unfold W2 code
  simp only [nib_odd, show (2 * p.val + 1) / 2 = p.val from by omega, show (2 * p.val + 1) / 128 = p.val / 64 from by omega]

theorem lowGu_at (w : IVec S8x1536x2048 8) (i) :
    signed (F := Ideal) bcast_S_S8x1536x2048 (lowWords bcast_S_S8x1536x2048 w) i = code 0 (w i) := by
  pointwise [signed, lowWords]
  exact congrArg _ (low_word (w i))
theorem highGu_at (w : IVec S8x1536x2048 8) (i) :
    signed (F := Ideal) bcast_S_S8x1536x2048 (highWords bcast_S_S8x1536x2048 w) i = code 1 (w i) := by
  pointwise [signed, highWords]
  exact congrArg _ (high_word (w i))
theorem lowD_at (w : IVec S8x512x3072 8) (i) :
    signed (F := Ideal) bcast_S_S8x512x3072 (lowWords bcast_S_S8x512x3072 w) i = code 0 (w i) := by
  pointwise [signed, lowWords]
  exact congrArg _ (low_word (w i))
theorem highD_at (w : IVec S8x512x3072 8) (i) :
    signed (F := Ideal) bcast_S_S8x512x3072 (highWords bcast_S_S8x512x3072 w) i = code 1 (w i) := by
  pointwise [signed, highWords]
  exact congrArg _ (high_word (w i))

theorem scaleGu_at (v : FVec Ideal S8x1536x2048 .bf16) (s : FVec Ideal S8x24x2048 .bf16) (e : Fin 8) (p : Fin 1536) (q : Fin 2048) :
    scaleGu v s (ix3 e p q) = v (ix3 e p q) * s (ix3 e ⟨p.val / 64, by omega⟩ q) := by
  pointwise [scaleGu]
theorem scaleD_at (v : FVec Ideal S8x512x3072 .bf16) (s : FVec Ideal S8x8x3072 .bf16) (e : Fin 8) (p : Fin 512) (q : Fin 3072) :
    scaleD v s (ix3 e p q) = v (ix3 e p q) * s (ix3 e ⟨p.val / 64, by omega⟩ q) := by
  pointwise [scaleD]

theorem zero_const : (id (constant (F := Ideal) S_ FTy.f32 0#32) ix0 : EReal) = 0 := by
  show constant (F := Ideal) S_ FTy.f32 0#32 ix0 = 0
  pointwise []

theorem select_eq (a b : BitVec 32) (u v : EReal) : Scalar.select (IntOp.cmpi .eq a b) u v = if a = b then u else v := by
  unfold Scalar.select
  by_cases h : a = b
  · exact (if_pos (IntOp.cmpi_eq.mpr h)).trans (if_pos h).symm
  · exact (if_neg fun h' => h (IntOp.cmpi_eq.mp h')).trans (if_neg h).symm

theorem routedGu_at (ids : IVec S32x1x2 32) (a : FVec Ideal S64x1536 .bf16) (w : FVec Ideal S8x1536x2048 .bf16) (t : Fin 32) (j : Fin 2) (q : Fin 2048) :
    routedGu (hit ids) a w (ix2 (row t j) q)
      = ∑ e : Fin 8, if ids (ix3 t 0 j) = BitVec.ofNat 32 e.val then ∑ p : Fin 1536, a (ix2 (row t j) p) * w (ix3 e p q) else 0 := by
  generalize hh : hit ids = h
  pointwise [routedGu]
  subst hh
  refine Finset.sum_congr rfl fun e _ => ?_
  rw [hit_at, select_eq, zero_const]
theorem routedD_at (ids : IVec S32x1x2 32) (a : FVec Ideal S64x512 .bf16) (w : FVec Ideal S8x512x3072 .bf16) (t : Fin 32) (j : Fin 2) (q : Fin 3072) :
    routedD (hit ids) a w (ix2 (row t j) q)
      = ∑ e : Fin 8, if ids (ix3 t 0 j) = BitVec.ofNat 32 e.val then ∑ p : Fin 512, a (ix2 (row t j) p) * w (ix3 e p q) else 0 := by
  generalize hh : hit ids = h
  pointwise [routedD]
  subst hh
  refine Finset.sum_congr rfl fun e _ => ?_
  rw [hit_at, select_eq, zero_const]

theorem evenX_at (a : FVec Ideal S64x3072 .bf16) (r : Fin 64) (p : Fin 1536) :
    Host.slice S64x1536 ![0, 0] ![1, 2] a slicesBy_S64x3072_S64x1536_0s1_0s2 (ix2 r p) = a (ix2 r ⟨2 * p.val, by omega⟩) := by
  pointwise []
theorem oddX_at (a : FVec Ideal S64x3072 .bf16) (r : Fin 64) (p : Fin 1536) :
    Host.slice S64x1536 ![0, 1] ![1, 2] a slicesBy_S64x3072_S64x1536_0s1_1s2 (ix2 r p) = a (ix2 r ⟨2 * p.val + 1, by omega⟩) := by
  pointwise []
  exact congrArg a (congrArg (ix2 r) (Fin.ext (Nat.add_comm _ _)))
theorem evenH_at (a : FVec Ideal S64x1024 .bf16) (r : Fin 64) (p : Fin 512) :
    Host.slice S64x512 ![0, 0] ![1, 2] a slicesBy_S64x1024_S64x512_0s1_0s2 (ix2 r p) = a (ix2 r ⟨2 * p.val, by omega⟩) := by
  pointwise []
theorem oddH_at (a : FVec Ideal S64x1024 .bf16) (r : Fin 64) (p : Fin 512) :
    Host.slice S64x512 ![0, 1] ![1, 2] a slicesBy_S64x1024_S64x512_0s1_1s2 (ix2 r p) = a (ix2 r ⟨2 * p.val + 1, by omega⟩) := by
  pointwise []
  exact congrArg a (congrArg (ix2 r) (Fin.ext (Nat.add_comm _ _)))

theorem hidden_at (g : FVec Ideal S64x2048 .f32) (r : Fin 64) (p : Fin 1024) :
    hidden g (ix2 r p) = gate (g (ix2 r ⟨p.val, by omega⟩)) (g (ix2 r ⟨1024 + p.val, by omega⟩)) := by
  unfold gate
  pointwise [hidden]

theorem combined_at (y : FVec Ideal S64x3072 .f32) (w : FVec Ideal S32x1x2 .f32) (t : Fin 32) (q : Fin 3072) :
    combined y w (ix2 t q) = ∑ j : Fin 2, y (ix2 (row t j) q) * w (ix3 t 0 j) := by
  unfold row
  pointwise [combined]

theorem ite_add_ite (c : Prop) [Decidable c] (a b : EReal) : (if c then a else 0) + (if c then b else 0) = if c then a + b else 0 := by
  split
  · rfl
  · exact add_zero 0

section
variable (x : FVec Ideal S32x1x3072 .bf16) (ids : IVec S32x1x2 32) (r : FVec Ideal S32x1x2 .f32)
  (w : IVec S8x1536x2048 8) (s : FVec Ideal S8x24x2048 .bf16) (w' : IVec S8x512x3072 8) (s' : FVec Ideal S8x8x3072 .bf16)

theorem gu_at (t : Fin 32) (j : Fin 2) (q : Fin 2048) :
    gu x ids w s (ix2 (row t j) q) = ∑ e : Fin 8, if ids (ix3 t 0 j) = BitVec.ofNat 32 e.val then
      feat (fun t d => x (ix3 t 0 d)) (fun e p q => w (ix3 e p q)) (fun e p q => s (ix3 e p q)) e t q else 0 := by
  show routedGu _ _ _ _ + routedGu _ _ _ _ = _
  rw [routedGu_at, routedGu_at, ← Finset.sum_add_distrib]
  refine Finset.sum_congr rfl fun e _ => ?_
  rw [ite_add_ite]
  refine if_congr Iff.rfl ?_ rfl
  unfold feat
  rw [sum_even_odd 1536 3072 rfl]
  refine congrArg₂ (· + ·) (Finset.sum_congr rfl fun p _ => ?_) (Finset.sum_congr rfl fun p _ => ?_)
  · rw [evenX_at, rows_at, scaleGu_at, lowGu_at]
    rw [W1_even]
  · rw [oddX_at, rows_at, scaleGu_at, highGu_at]
    rw [W1_odd]

theorem down_at (h : FVec Ideal S64x1024 .bf16) (t : Fin 32) (j : Fin 2) (q : Fin 3072) :
    down h ids w' s' (ix2 (row t j) q) = ∑ e : Fin 8, if ids (ix3 t 0 j) = BitVec.ofNat 32 e.val then
      ∑ d : Fin 1024, h (ix2 (row t j) d) * W2 (fun e p q => w' (ix3 e p q)) (fun e p q => s' (ix3 e p q)) e d q else 0 := by
  show routedD _ _ _ _ + routedD _ _ _ _ = _
  rw [routedD_at, routedD_at, ← Finset.sum_add_distrib]
  refine Finset.sum_congr rfl fun e _ => ?_
  rw [ite_add_ite]
  refine if_congr Iff.rfl ?_ rfl
  rw [sum_even_odd 512 1024 rfl]
  refine congrArg₂ (· + ·) (Finset.sum_congr rfl fun p _ => ?_) (Finset.sum_congr rfl fun p _ => ?_)
  · rw [evenH_at, scaleD_at, lowD_at]
    rw [W2_even]
  · rw [oddH_at, scaleD_at, highD_at]
    rw [W2_odd]

theorem ref_at (t : Fin 32) (n : Fin 3072) :
    combined (down (hidden (gu x ids w s)) ids w' s') r (ix2 t n)
      = moe (fun t d => x (ix3 t 0 d)) (fun t j => ids (ix3 t 0 j)) (fun t j => r (ix3 t 0 j)) (fun e p q => w (ix3 e p q))
          (fun e p q => s (ix3 e p q)) (fun e p q => w' (ix3 e p q)) (fun e p q => s' (ix3 e p q)) t n := by
  rw [combined_at]
  unfold moe
  refine Finset.sum_congr rfl fun j _ => congrArg (· * _) ?_
  rw [down_at]
  refine Finset.sum_congr rfl fun e _ => ?_
  by_cases he : ids (ix3 t 0 j) = BitVec.ofNat 32 e.val
  · rw [if_pos he, if_pos he]
    refine Finset.sum_congr rfl fun d _ => congrArg (· * _) ?_
    rw [hidden_at, gu_at, gu_at, sum_pick _ e he, sum_pick _ e he]
    rfl
  · rw [if_neg he, if_neg he]

end

end Cert.ReferenceIdeal.Hand

end
-- ==== Proof.Hand.Value.Tile.lean ====
module

public import proofs.«01_k».proof.Proof.Hand.KernelIdeal.Res

@[expose] public section

set_option maxRecDepth 16384

noncomputable section

/-! What one trip of the computing loop computes, written once with the tile as a variable: a tile of weights, the
product of a block with it, the gated block of hidden features, and what is added to one block of the accumulator. -/

namespace Cert.KernelIdeal.Hand

open Cert.KernelIdeal Cert.KernelIdeal.Gen
open Idealize.ShloMosaic Idealize.ShloMosaic.TcCoe

variable {F : FTy → Type} [FloatOps F]

/-- The two rows of codes held in each packed row, the low half first. -/
def codeRows (w : Vec F S128x256 .i8) : IVec S256x256 32 :=
  shapeCast S256x256 (concatenate S128x2x256 1
    [⟨S128x1x256, shapeCast S128x1x256 (shrsi (shli (extui 32 w natLt_8_32) (broadcast S128x256 28#32)) (broadcast S128x256 28#32)) shapeCasts_S128x256_S128x1x256⟩,
     ⟨S128x1x256, shapeCast S128x1x256 (shrsi (shli (extui 32 w natLt_8_32) (broadcast S128x256 24#32)) (broadcast S128x256 28#32)) shapeCasts_S128x256_S128x1x256⟩]
    concatenates_S128x1x256_S128x1x256_S128x2x256_d1) shapeCasts_S128x2x256_S256x256

/-- A tile of weights: the codes times their group's scale. -/
def deqTile (w : Vec F S128x256 .i8) (s0 s1 : Vec F S1x256 .bf16) : FVec F S256x256 .bf16 :=
  concatenate S256x256 0
    [⟨S128x256, mulf (extractStridedSlice S128x256 ![0, 0] (sitofp .bf16 (codeRows (F := F) w)) slices_S256x256_o0_0_S128x256) (broadcastTo S128x256 s0 broadcasts_S1x256_S128x256)⟩,
     ⟨S128x256, mulf (extractStridedSlice S128x256 ![128, 0] (sitofp .bf16 (codeRows (F := F) w)) slices_S256x256_o128_0_S128x256) (broadcastTo S128x256 s1 broadcasts_S1x256_S128x256)⟩]
    concatenates_S128x256_S128x256_S256x256_d0

/-- A block times a tile. -/
def dotTile (x : FVec F S32x256 .bf16) (w : FVec F S256x256 .bf16) : FVec F S32x256 .f32 :=
  matmul dot_S32x256_S256x256_S32x256_1_0_0_1_n_n none x w (constant S32x256 .f32 0x00000000#32)

def sum12 (f : Fin 12 → FVec F S32x256 .f32) : FVec F S32x256 .f32 :=
  addf (addf (addf (addf (addf (addf (addf (addf (addf (addf (addf (f 0) (f 1)) (f 2)) (f 3)) (f 4)) (f 5)) (f 6)) (f 7)) (f 8)) (f 9)) (f 10)) (f 11)

def sum4 (f : Fin 4 → FVec F S32x256 .f32) : FVec F S32x256 .f32 :=
  addf (addf (addf (f 0) (f 1)) (f 2)) (f 3)

/-- The gated block. -/
def gated (gate up : FVec F S32x256 .f32) : FVec F S32x256 .bf16 :=
  truncf .bf16 (mulf (mulf gate (logistic gate)) up) bitsLt_bf16_f32

/-- Which tokens chose the expert, and with what weight. -/
def chose (e : Elt F .i32) (ids : Vec F S32x2 .i32) : IVec S32x1 1 := k0_pay319 e ids
def coefOf (e : Elt F .i32) (ids : Vec F S32x2 .i32) (rw : Vec F S32x2 .f32) : FVec F S32x1 .f32 :=
  k0_pay321 (F := F) (k0_pay318 e ids) (k0_pay320 rw) (FloatOps.ofBits FTy.f32 0#32)

/-- One block of the accumulator after the expert. -/
def accBlock (a y : FVec F S32x256 .f32) (r : IVec S32x1 1) (w : FVec F S32x1 .f32) : FVec F S32x256 .f32 :=
  shapeCast S32x256 (addf a (select (broadcastTo S32x256 (shapeCast S32x1 r shapeCasts_S32x1_S32x1) broadcasts_S32x1_S32x256)
    (mulf y (broadcastTo S32x256 w broadcasts_S32x1_S32x256)) (broadcast S32x256 (Scalar.ofBits (F := F) .f32 0x00000000#32))))
    shapeCasts_S32x256_S32x256

/-! The blocks as they are read. -/

theorem inbX (k : Fin 12) : ∀ a, (![0, 256 * k.val] : Fin 2 → ℕ) a + S32x256.size a ≤ S32x3072.size a := by
  fin_cases k <;> decide
theorem inbW (r : Fin 12) (j : Fin 8) : ∀ a, (![128 * r.val, 256 * j.val] : Fin 2 → ℕ) a + S128x256.size a ≤ S1536x2048.size a := by
  have := r.isLt; have := j.isLt
  intro a; fin_cases a <;> simp [S128x256, S1536x2048] <;> omega
theorem inbS (r : Fin 24) (j : Fin 8) : ∀ a, (![r.val, 256 * j.val] : Fin 2 → ℕ) a + S1x256.size a ≤ S24x2048.size a := by
  have := r.isLt; have := j.isLt
  intro a; fin_cases a <;> simp [S1x256, S24x2048] <;> omega
theorem inbD (r : Fin 4) (n : Fin 12) : ∀ a, (![128 * r.val, 256 * n.val] : Fin 2 → ℕ) a + S128x256.size a ≤ S512x3072.size a := by
  have := r.isLt; have := n.isLt
  intro a; fin_cases a <;> simp [S128x256, S512x3072] <;> omega
theorem inbT (r : Fin 8) (n : Fin 12) : ∀ a, (![r.val, 256 * n.val] : Fin 2 → ℕ) a + S1x256.size a ≤ S8x3072.size a := by
  have := r.isLt; have := n.isLt
  intro a; fin_cases a <;> simp [S1x256, S8x3072] <;> omega

section Reads
variable (c : Dev nD) (M : Memref sig .tc .vmem S32x3072 .bf16) (f3 : Bf (F := F) c M) (s : Fin 8)
  (gw : Bf (F := F) c (sWgu s)) (gs : Bf (F := F) c (sSgu s)) (gv : Bf (F := F) c (sWd s)) (gt : Bf (F := F) c (sSd s))

def rdX (k : Fin 12) : Vec F S32x256 .bf16 := View.readAt (Elt F) M.view (Rect.unit (s := S32x3072) ![0, 256 * k.val] S32x256.size (inbX k)).toLoadRect f3
def rdW (r : Fin 12) (j : Fin 8) : Vec F S128x256 .i8 := View.readAt (Elt F) (sWgu s).view (Rect.unit (s := S1536x2048) ![128 * r.val, 256 * j.val] S128x256.size (inbW r j)).toLoadRect gw
def rdS (r : Fin 24) (j : Fin 8) : Vec F S1x256 .bf16 := View.readAt (Elt F) (sSgu s).view (Rect.unit (s := S24x2048) ![r.val, 256 * j.val] S1x256.size (inbS r j)).toLoadRect gs
def rdD (r : Fin 4) (n : Fin 12) : Vec F S128x256 .i8 := View.readAt (Elt F) (sWd s).view (Rect.unit (s := S512x3072) ![128 * r.val, 256 * n.val] S128x256.size (inbD r n)).toLoadRect gv
def rdT (r : Fin 8) (n : Fin 12) : Vec F S1x256 .bf16 := View.readAt (Elt F) (sSd s).view (Rect.unit (s := S8x3072) ![r.val, 256 * n.val] S1x256.size (inbT r n)).toLoadRect gt

end Reads

/-! The trip's blocks from the blocks read. -/

section Blocks
variable (X : Fin 12 → Vec F S32x256 .bf16) (W : Fin 12 → Fin 8 → Vec F S128x256 .i8) (S : Fin 24 → Fin 8 → Vec F S1x256 .bf16)
  (D : Fin 4 → Fin 12 → Vec F S128x256 .i8) (T : Fin 8 → Fin 12 → Vec F S1x256 .bf16)

/-- One block of columns of the first product. -/
def guBlock (j : Fin 8) : FVec F S32x256 .f32 :=
  sum12 fun r => dotTile (shapeCast S32x256 (X r) shapeCasts_S32x256_S32x256)
    (deqTile (W r j) (S ⟨2 * r.val, by omega⟩ j) (S ⟨2 * r.val + 1, by omega⟩ j))

/-- One block of hidden features. -/
def hBlock (j : Fin 4) : FVec F S32x256 .bf16 :=
  gated (guBlock X W S ⟨j.val, by omega⟩) (guBlock X W S ⟨4 + j.val, by omega⟩)

/-- One block of columns of the second product. -/
def yBlock (H : Fin 4 → FVec F S32x256 .bf16) (n : Fin 12) : FVec F S32x256 .f32 :=
  sum4 fun r => dotTile (H r) (deqTile (D r n) (T ⟨2 * r.val, by omega⟩ n) (T ⟨2 * r.val + 1, by omega⟩ n))

end Blocks

/-- What an expert adds to one block of the accumulator. -/
def accOne (X : Fin 12 → Vec F S32x256 .bf16) (W : Fin 12 → Fin 8 → Vec F S128x256 .i8) (S : Fin 24 → Fin 8 → Vec F S1x256 .bf16)
    (D : Fin 4 → Fin 12 → Vec F S128x256 .i8) (T : Fin 8 → Fin 12 → Vec F S1x256 .bf16)
    (e : Elt F .i32) (ids : Vec F S32x2 .i32) (rw : Vec F S32x2 .f32) (n : Fin 12) (a : FVec F S32x256 .f32) : FVec F S32x256 .f32 :=
  accBlock a (yBlock D T (hBlock X W S) n) (chose (F := F) e ids) (coefOf e ids rw)

end Cert.KernelIdeal.Hand

end
-- ==== Proof.Hand.Value.TileAt.lean ====
module

public import proofs.«01_k».proof.Proof.Hand.Value.Tile
public import proofs.«01_k».proof.Proof.Hand.Value.Spec

@[expose] public section

set_option maxRecDepth 16384

noncomputable section

/-! The tile's values at the exact reals, element by element: what a trip adds to one element of the accumulator is
`Cert.Moe.expertOut` times the weight the token gave the expert. -/

namespace Cert.KernelIdeal.Hand

open Cert.KernelIdeal Cert.KernelIdeal.Gen
open Idealize.ShloMosaic Idealize.ShloMosaic.TcCoe
open Cert.Moe

theorem nib_low : ∀ b : BitVec 8, IntOp.shrsi ArithUnit.vector (IntOp.shli ArithUnit.vector (BitVec.setWidth 32 b) 28#32) 28#32 = nib 0 b := by
  decide +kernel
theorem nib_high : ∀ b : BitVec 8, IntOp.shrsi ArithUnit.vector (IntOp.shli ArithUnit.vector (BitVec.setWidth 32 b) 24#32) 28#32 = nib 1 b := by
  decide +kernel

theorem nib_par {r p : ℕ} (b : BitVec 8) (h : r % 2 = p % 2) : nib r b = nib p b := by unfold nib; rw [h]

theorem codeRows_at (w : Vec Ideal S128x256 .i8) (p q : Fin 256) :
    codeRows (F := Ideal) w (ix2 p q) = nib p.val (w (ix2 ⟨p.val / 2, by omega⟩ q)) := by
  pointwise [codeRows]
  by_cases h : p.val % 2 = 0
  · exact (dif_pos (by omega)).trans ((nib_low _).trans (nib_par (r := 0) _ h.symm))
  · exact (dif_neg (by omega)).trans ((nib_high _).trans (nib_par (r := 1) _ (by omega)))

theorem deqTile_at (w : Vec Ideal S128x256 .i8) (s0 s1 : Vec Ideal S1x256 .bf16) (p q : Fin 256) :
    deqTile w s0 s1 (ix2 p q) = code p.val (w (ix2 ⟨p.val / 2, by omega⟩ q)) * (if p.val < 128 then s0 (ix2 0 q) else s1 (ix2 0 q)) := by
  pointwise [deqTile]
  unfold code
  by_cases h : p.val < 128
  · rw [dif_pos h, if_pos h, codeRows_at]
  · rw [dif_neg h, if_neg h, ← codeRows_at]
    exact congrArg (fun i => FloatOps.sitofp (F := Ideal) FTy.bf16 (codeRows (F := Ideal) w (ix2 i q)) * s1 (ix2 0 q)) (Fin.ext (by show 128 + (p.val - 128) = p.val; omega))

theorem dotTile_at (x : FVec Ideal S32x256 .bf16) (w : FVec Ideal S256x256 .bf16) (t : Fin 32) (q : Fin 256) :
    dotTile x w (ix2 t q) = ∑ p : Fin 256, x (ix2 t p) * w (ix2 p q) := by
  pointwise [dotTile]

theorem gated_at (x y : FVec Ideal S32x256 .f32) (t : Fin 32) (q : Fin 256) :
    gated x y (ix2 t q) = gate (x (ix2 t q)) (y (ix2 t q)) := by
  pointwise [gated]
  rfl

theorem select_eq (a b : BitVec 32) (u v : EReal) : Scalar.select (IntOp.cmpi .eq a b) u v = if a = b then u else v := by
  unfold Scalar.select
  by_cases h : a = b
  · exact (if_pos (IntOp.cmpi_eq.mpr h)).trans (if_pos h).symm
  · exact (if_neg fun h' => h (IntOp.cmpi_eq.mp h')).trans (if_neg h).symm

theorem coefOf_at (e : Elt Ideal .i32) (ids : Vec Ideal S32x2 .i32) (rw : Vec Ideal S32x2 .f32) (t : Fin 32) :
    coefOf e ids rw (ix2 t 0) = ∑ j : Fin 2, if ids (ix2 t j) = e then rw (ix2 t j) else (0 : EReal) := by
  pointwise [coefOf, k0_pay321, k0_pay318, k0_pay320]
  exact Finset.sum_congr rfl fun j _ => select_eq _ _ _ _

theorem chose_at (e : Elt Ideal .i32) (ids : Vec Ideal S32x2 .i32) (t : Fin 32) :
    chose (F := Ideal) e ids (ix2 t 0) = BitVec.ofBool (decide (∃ j : Fin 2, ids (ix2 t j) = e)) := by
  pointwise [chose, k0_pay319, k0_pay318]
  refine congrArg BitVec.ofBool (decide_eq_decide.mpr ?_)
  have hb : Ideal.ofBits FTy.f32 4286578688#32 = ⊥ := by
    simp [Ideal.ofBits, Ideal.ieee]
  rw [Finset.lt_fold_max, hb]
  constructor
  · rintro (h | ⟨j, -, h⟩)
    · exact absurd h (not_lt_of_ge bot_le)
    · refine ⟨j, ?_⟩
      by_contra hn
      rw [select_eq, if_neg hn] at h
      exact lt_irrefl _ h
  · rintro ⟨j, h⟩
    refine Or.inr ⟨j, Finset.mem_univ j, ?_⟩
    rw [select_eq, if_pos h]
    exact zero_lt_one

theorem accBlock_at (a y : FVec Ideal S32x256 .f32) (r : IVec S32x1 1) (w : FVec Ideal S32x1 .f32) (t : Fin 32) (q : Fin 256) :
    accBlock a y r w (ix2 t q) = a (ix2 t q) + Scalar.select (r (ix2 t 0)) (y (ix2 t q) * w (ix2 t 0)) 0 := by
  pointwise [accBlock]

theorem sum12_at (f : Fin 12 → FVec Ideal S32x256 .f32) (i) : sum12 f i = ∑ r, f r i := by
  simp only [Fin.sum_univ_castSucc, Finset.univ_eq_empty, Finset.sum_empty, zero_add]
  rfl
theorem sum4_at (f : Fin 4 → FVec Ideal S32x256 .f32) (i) : sum4 f i = ∑ r, f r i := by
  simp only [Fin.sum_univ_castSucc, Finset.univ_eq_empty, Finset.sum_empty, zero_add]
  rfl

/-- An element of a block lies within the whole. -/
theorem blk_lt {m b : ℕ} (r : Fin m) (p : Fin b) : b * r.val + p.val < m * b :=
  calc b * r.val + p.val < b * r.val + b := Nat.add_lt_add_left p.isLt _
    _ = (r.val + 1) * b := by ring
    _ ≤ m * b := Nat.mul_le_mul_right b r.isLt

section
variable (x : Fin 32 → Fin 3072 → EReal)
  (w1 : Fin 8 → Fin 1536 → Fin 2048 → BitVec 8) (s1 : Fin 8 → Fin 24 → Fin 2048 → EReal)
  (w2 : Fin 8 → Fin 512 → Fin 3072 → BitVec 8) (s2 : Fin 8 → Fin 8 → Fin 3072 → EReal)
  (X : Fin 12 → Vec Ideal S32x256 .bf16) (W : Fin 12 → Fin 8 → Vec Ideal S128x256 .i8) (S : Fin 24 → Fin 8 → Vec Ideal S1x256 .bf16)
  (D : Fin 4 → Fin 12 → Vec Ideal S128x256 .i8) (T : Fin 8 → Fin 12 → Vec Ideal S1x256 .bf16) (e : Fin 8)
  (hX : ∀ (r : Fin 12) (t : Fin 32) (p : Fin 256), X r (ix2 t p) = x t ⟨256 * r.val + p.val, blk_lt r p⟩)
  (hW : ∀ (r : Fin 12) (j : Fin 8) (p : Fin 128) (q : Fin 256), W r j (ix2 p q) = w1 e ⟨128 * r.val + p.val, blk_lt r p⟩ ⟨256 * j.val + q.val, blk_lt j q⟩)
  (hS : ∀ (r : Fin 24) (j : Fin 8) (q : Fin 256), S r j (ix2 0 q) = s1 e r ⟨256 * j.val + q.val, blk_lt j q⟩)
  (hD : ∀ (r : Fin 4) (j : Fin 12) (p : Fin 128) (q : Fin 256), D r j (ix2 p q) = w2 e ⟨128 * r.val + p.val, blk_lt r p⟩ ⟨256 * j.val + q.val, blk_lt j q⟩)
  (hT : ∀ (r : Fin 8) (j : Fin 12) (q : Fin 256), T r j (ix2 0 q) = s2 e r ⟨256 * j.val + q.val, blk_lt j q⟩)

theorem nib_tile (r p : ℕ) (b : BitVec 8) : nib (256 * r + p) b = nib p b := by
  unfold nib; rw [show (256 * r + p) % 2 = p % 2 from by omega]

include hW hS in
theorem tileW_at (r : Fin 12) (j : Fin 8) (p q : Fin 256) :
    deqTile (W r j) (S ⟨2 * r.val, by omega⟩ j) (S ⟨2 * r.val + 1, by omega⟩ j) (ix2 p q)
      = W1 w1 s1 e ⟨256 * r.val + p.val, by omega⟩ ⟨256 * j.val + q.val, by omega⟩ := by
  rw [deqTile_at, hW]
  unfold W1 code
  simp only [nib_tile, show (256 * r.val + p.val) / 2 = 128 * r.val + p.val / 2 from by omega]
  refine congrArg (_ * ·) ?_
  by_cases h : p.val < 128
  · rw [if_pos h, hS]; simp only [show (256 * r.val + p.val) / 128 = 2 * r.val from by omega]
  · rw [if_neg h, hS]; simp only [show (256 * r.val + p.val) / 128 = 2 * r.val + 1 from by omega]

include hD hT in
theorem tileD_at (r : Fin 4) (j : Fin 12) (p q : Fin 256) :
    deqTile (D r j) (T ⟨2 * r.val, by omega⟩ j) (T ⟨2 * r.val + 1, by omega⟩ j) (ix2 p q)
      = W2 w2 s2 e ⟨256 * r.val + p.val, by omega⟩ ⟨256 * j.val + q.val, by omega⟩ := by
  rw [deqTile_at, hD]
  unfold W2 code
  simp only [nib_tile, show (256 * r.val + p.val) / 2 = 128 * r.val + p.val / 2 from by omega]
  refine congrArg (_ * ·) ?_
  by_cases h : p.val < 128
  · rw [if_pos h, hT]; simp only [show (256 * r.val + p.val) / 128 = 2 * r.val from by omega]
  · rw [if_neg h, hT]; simp only [show (256 * r.val + p.val) / 128 = 2 * r.val + 1 from by omega]

theorem castX_at (v : Vec Ideal S32x256 .bf16) (i) : shapeCast S32x256 v shapeCasts_S32x256_S32x256 i = v i := by
  pointwise []

include hX hW hS in
theorem guBlock_at (j : Fin 8) (t : Fin 32) (q : Fin 256) :
    guBlock X W S j (ix2 t q) = feat x w1 s1 e t ⟨256 * j.val + q.val, by omega⟩ := by
  unfold guBlock feat
  rw [sum12_at, sum_cut 12 256 3072 rfl]
  refine Finset.sum_congr rfl fun r _ => ?_
  rw [dotTile_at]
  refine Finset.sum_congr rfl fun p _ => ?_
  rw [castX_at, hX, tileW_at w1 s1 W S e hW hS]

include hX hW hS in
theorem hBlock_at (j : Fin 4) (t : Fin 32) (q : Fin 256) :
    hBlock X W S j (ix2 t q) = hid x w1 s1 e t ⟨256 * j.val + q.val, by omega⟩ := by
  unfold hBlock hid
  rw [gated_at, guBlock_at x w1 s1 X W S e hX hW hS, guBlock_at x w1 s1 X W S e hX hW hS]
  simp only [show 256 * (4 + j.val) + q.val = 1024 + (256 * j.val + q.val) from by omega]

include hX hW hS hD hT in
theorem yBlock_at (n : Fin 12) (t : Fin 32) (q : Fin 256) :
    yBlock D T (hBlock X W S) n (ix2 t q) = expertOut x w1 s1 w2 s2 e t ⟨256 * n.val + q.val, by omega⟩ := by
  unfold yBlock expertOut
  rw [sum4_at, sum_cut 4 256 1024 rfl]
  refine Finset.sum_congr rfl fun r _ => ?_
  rw [dotTile_at]
  refine Finset.sum_congr rfl fun p _ => ?_
  rw [hBlock_at x w1 s1 X W S e hX hW hS, tileD_at w2 s2 D T e hD hT]

/-- What expert `e` adds for token `t`: its result times the weights of the token's choices of it. -/
def addend (ids : Fin 32 → Fin 2 → BitVec 32) (rw : Fin 32 → Fin 2 → EReal) (e : Fin 8) (t : Fin 32) (n : Fin 3072) : EReal :=
  if ∃ j, ids t j = BitVec.ofNat 32 e.val then
    expertOut x w1 s1 w2 s2 e t n * ∑ j, (if ids t j = BitVec.ofNat 32 e.val then rw t j else 0)
  else 0

include hX hW hS hD hT in
theorem accOne_at (ids : Vec Ideal S32x2 .i32) (rw : Vec Ideal S32x2 .f32) (n : Fin 12) (a : FVec Ideal S32x256 .f32) (t : Fin 32) (q : Fin 256) :
    accOne X W S D T (BitVec.ofNat 32 e.val) ids rw n a (ix2 t q)
      = a (ix2 t q) + addend x w1 s1 w2 s2 (fun t j => ids (ix2 t j)) (fun t j => rw (ix2 t j)) e t ⟨256 * n.val + q.val, by omega⟩ := by
  unfold accOne addend
  rw [accBlock_at, chose_at, coefOf_at, yBlock_at x w1 s1 w2 s2 X W S D T e hX hW hS hD hT]
  refine congrArg (_ + ·) ?_
  by_cases h : ∃ j : Fin 2, ids (ix2 t j) = BitVec.ofNat 32 e.val
  · rw [if_pos h, decide_eq_true h]; exact if_pos rfl
  · rw [if_neg h, decide_eq_false h]; exact if_neg (by decide)

end

end Cert.KernelIdeal.Hand

end
-- ==== Proof.Hand.Value.TripVal.lean ====
module

public import proofs.«01_k».proof.Proof.Hand.KernelIdeal.Loops
public import proofs.«01_k».proof.Proof.Hand.Value.TileAt

@[expose] public section

set_option maxRecDepth 65536

noncomputable section

/-! The computing trip's contents of the accumulator, as the blocks of `accOne`. -/

namespace Cert.KernelIdeal.Hand

open Cert.KernelIdeal Cert.KernelIdeal.Gen
open Idealize.ShloMosaic Idealize.ShloMosaic.TcCoe Idealize.ShloMosaic.Tactic
open Idealize.SL Idealize.SL.RA

variable {F : FTy → Type} [FloatOps F]

/-- The accumulator's block `n` after the expert, as the piece that is stored. -/
def accPiece (X : Fin 12 → Vec F S32x256 .bf16) (W : Fin 12 → Fin 8 → Vec F S128x256 .i8) (S : Fin 24 → Fin 8 → Vec F S1x256 .bf16)
    (D : Fin 4 → Fin 12 → Vec F S128x256 .i8) (T : Fin 8 → Fin 12 → Vec F S1x256 .bf16)
    (e : Elt F .i32) (ids : Vec F S32x2 .i32) (rw : Vec F S32x2 .f32) (A : Fin 12 → Vec F S32x256 .f32) (n : Fin 12) : View.Piece (Elt F) S32x3072 .f32 :=
  ⟨Rect.unit (s := S32x3072) ![0, 256 * n.val] S32x256.size (inbX n), accOne X W S D T e ids rw n (A n)⟩

def accPieces (P : Fin 12 → View.Piece (Elt F) S32x3072 .f32) : List (View.Piece (Elt F) S32x3072 .f32) :=
  [P 11, P 10, P 9, P 8, P 7, P 6, P 5, P 4, P 3, P 2, P 1, P 0]

def rdA (c : Dev nD) (f13 : Bf (F := F) c bAcc) (n : Fin 12) : Vec F S32x256 .f32 :=
  View.readAt (Elt F) bAcc.view (Rect.unit (s := S32x3072) ![0, 256 * n.val] S32x256.size (inbX n)).toLoadRect f13

variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

theorem trip3_val (c : Dev nD)
    (arg0 : Memref sig .tc .smem S64 .i32) (harg0 : arg0.IsWhole) (arg1 : Memref sig .tc .vmem S32x2 .i32) (harg1 : arg1.IsWhole)
    (arg2 : Memref sig .tc .vmem S32x2 .f32) (harg2 : arg2.IsWhole) (arg3 : Memref sig .tc .vmem S32x3072 .bf16) (harg3 : arg3.IsWhole)
    (arg8 : Memref sig .tc .vmem S32x3072 .bf16) (harg8 : arg8.IsWhole)
    (h4 : hWgu.IsWhole) (h5 : hSgu.IsWhole) (h6 : hWd.IsWhole) (h7 : hSd.IsWhole)
    (h9 : bWgu.IsWhole) (h10 : bSgu.IsWhole) (h11 : bWd.IsWhole) (h12 : bSd.IsWhole) (h13 : bAcc.IsWhole) (h14 : bAct.IsWhole)
    (hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (z : BitVec 32) (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips)
    (f1 : Bf (F := F) c arg1) (f2 : Bf (F := F) c arg2) (f3 : Bf (F := F) c arg3) (f13 : Bf (F := F) c bAcc) (f14 : Bf (F := F) c bAct)
    (gw : Bf (F := F) c (sWgu (slot3 k))) (gs : Bf (F := F) c (sSgu (slot3 k))) (gv : Bf (F := F) c (sWd (slot3 k))) (gt : Bf (F := F) c (sSd (slot3 k)))
    (hword : (word c f14 (slot3 k)).toNat < 8) (e : Fin 8) (q : PosShare TreeShare)
    (r0 : Bf (F := F) c (rSgu e)) (r1 : Bf (F := F) c (rWgu e)) (r2 : Bf (F := F) c (rSd e)) (r3 : Bf (F := F) c (rWd e))
    (hoff : ∀ a, (k0_off47 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) a + S1.size a ≤ S8.size a) :
    (trip3 c arg0 harg0 arg1 harg1 arg2 harg2 arg3 harg3 arg8 harg8 h4 h5 h6 h7 h9 h10 h11 h12 h13 h14 hw1 z k f1 f2 f3 f13 f14 gw gs gv gt hword e q r0 r1 r2 r3).1
      = bAcc.view.writes (Elt F) f13 (accPieces (accPiece (rdX c arg3 f3) (rdW c (slot3 k) gw) (rdS c (slot3 k) gs) (rdD c (slot3 k) gv) (rdT c (slot3 k) gt)
          (View.readAt (Elt F) bAct.view (Rect.unit (s := S8) (k0_off47 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 k) S1.size hoff).toLoadRect f14 (Shape.Idx.first (show 0 < S1.numel by decide)))
          (View.readAt (Elt F) arg1.view (Rect.unit (s := S32x2) ![0, 0] S32x2.size inb_S32x2_S32x2_0_0).toLoadRect f1)
          (View.readAt (Elt F) arg2.view (Rect.unit (s := S32x2) ![0, 0] S32x2.size inb_S32x2_S32x2_0_0).toLoadRect f2)
          (rdA c f13))) := by
  sl_kernel_rfl

end Cert.KernelIdeal.Hand

end
-- ==== Proof.Hand.Value.TripAt.lean ====
module

public import proofs.«01_k».proof.Proof.Hand.Value.TripVal
public import Idealize.ShloMosaic.Lib.WritesUnit
public import Idealize.ShloMosaic.Lib.ValueLayout

@[expose] public section

set_option maxRecDepth 65536

noncomputable section

/-! A trip of the computing loop, element by element: the accumulator gains the expert's addend. -/

namespace Cert.KernelIdeal.Hand

open Cert.KernelIdeal Cert.KernelIdeal.Gen
open Idealize.ShloMosaic Idealize.ShloMosaic.TcCoe
open Cert.Moe

/-- An element of a slice's squeeze is the element of the sliced array at the slice's leading index. -/
theorem read_slot {sp : Space} {A B C : ℕ} {φ : EltTy} (M : Memref sig .tc sp ⟨3, ![A, B, C]⟩ φ) (j : Fin A)
    (inb : ∀ a, (![j.val, 0, 0] : Fin 3 → ℕ) a + (![1, B, C] : Fin 3 → ℕ) a ≤ (⟨3, ![A, B, C]⟩ : Shape).size a) (hr)
    (hq : (⟨3, ![1, B, C]⟩ : Shape).Squeezes ⟨2, ![B, C]⟩) (f : M.view.ty.Contents (Elt Ideal)) (p : Fin B) (q : Fin C) :
    ((M.slice (Rect.unit (s := ⟨3, ![A, B, C]⟩) ![j.val, 0, 0] ![1, B, C] inb) hr).squeeze ⟨2, ![B, C]⟩ hq).view.read (Elt Ideal) f (ix2 p q)
      = M.view.read (Elt Ideal) f (ix3 j p q) := by
  show M.view.read (Elt Ideal) f ((Rect.unit (s := ⟨3, ![A, B, C]⟩) ![j.val, 0, 0] ![1, B, C] inb).emb (Shape.reshapeEquiv hq.numel_eq (ix2 p q))) = _
  rw [show Shape.reshapeEquiv hq.numel_eq (ix2 p q) = ix3 (0 : Fin 1) p q from ValueIdx.reshapeEquiv_ix2_1ab _ p q]
  refine congrArg (M.view.read (Elt Ideal) f) (funext fun a => Fin.ext ?_)
  fin_cases a
  · show j.val + 1 * 0 = j.val; omega
  · show 0 + 1 * p.val = p.val; omega
  · show 0 + 1 * q.val = q.val; omega

theorem rWgu_at (e : Fin 8) (f : hWgu.view.ty.Contents (Elt Ideal)) (p : Fin 1536) (q : Fin 2048) :
    (rWgu e).view.read (Elt Ideal) f (ix2 p q) = hWgu.view.read (Elt Ideal) f (ix3 e p q) := read_slot hWgu e _ (fun _ => rfl) squeezes_S1x1536x2048_S1536x2048 f p q
theorem rSgu_at (e : Fin 8) (f : hSgu.view.ty.Contents (Elt Ideal)) (p : Fin 24) (q : Fin 2048) :
    (rSgu e).view.read (Elt Ideal) f (ix2 p q) = hSgu.view.read (Elt Ideal) f (ix3 e p q) := read_slot hSgu e _ (fun _ => rfl) squeezes_S1x24x2048_S24x2048 f p q
theorem rWd_at (e : Fin 8) (f : hWd.view.ty.Contents (Elt Ideal)) (p : Fin 512) (q : Fin 3072) :
    (rWd e).view.read (Elt Ideal) f (ix2 p q) = hWd.view.read (Elt Ideal) f (ix3 e p q) := read_slot hWd e _ (fun _ => rfl) squeezes_S1x512x3072_S512x3072 f p q
theorem rSd_at (e : Fin 8) (f : hSd.view.ty.Contents (Elt Ideal)) (p : Fin 8) (q : Fin 3072) :
    (rSd e).view.read (Elt Ideal) f (ix2 p q) = hSd.view.read (Elt Ideal) f (ix3 e p q) := read_slot hSd e _ (fun _ => rfl) squeezes_S1x8x3072_S8x3072 f p q

/-- A load at a unit rectangle, at an element. -/
theorem readAt_ix2 {sp : Space} {A B a b : ℕ} {φ : EltTy} (M : Memref sig .tc sp ⟨2, ![A, B]⟩ φ) (o0 o1 : ℕ)
    (inb : ∀ i, (![o0, o1] : Fin 2 → ℕ) i + (![a, b] : Fin 2 → ℕ) i ≤ (⟨2, ![A, B]⟩ : Shape).size i)
    (f : M.view.ty.Contents (Elt Ideal)) (p : Fin a) (q : Fin b) (p' : Fin A) (q' : Fin B) (hp : p'.val = o0 + p.val) (hq : q'.val = o1 + q.val) :
    View.readAt (Elt Ideal) M.view (Rect.unit (s := ⟨2, ![A, B]⟩) ![o0, o1] ![a, b] inb).toLoadRect f (ix2 p q)
      = M.view.read (Elt Ideal) f (ix2 p' q') := by
  rw [View.readAt_apply]
  refine congrArg (M.view.read (Elt Ideal) f) (funext fun i => Fin.ext ?_)
  fin_cases i
  · show o0 + 1 * p.val = p'.val; omega
  · show o1 + 1 * q.val = q'.val; omega

/-- Blocks of 256 columns stored one after another: an element reads the block it lies in. -/
theorem read_blocks (M : Memref sig .tc .vmem S32x3072 .f32) (f : M.view.ty.Contents (Elt Ideal)) (v : Fin 12 → Vec Ideal S32x256 .f32) (n : Fin 12) (t : Fin 32) (q : Fin 256) :
    ∀ l : List (Fin 12), n ∈ l →
      M.view.read (Elt Ideal) (M.view.writes (Elt Ideal) f
        (l.map fun i => (⟨Rect.unit (s := S32x3072) ![0, 256 * i.val] S32x256.size (inbX i), v i⟩ : View.Piece (Elt Ideal) S32x3072 .f32)))
        (ix2 t ⟨256 * n.val + q.val, by omega⟩) = v n (ix2 t q)
  | [], h => absurd h List.not_mem_nil
  | i :: l, h => by
    rw [List.map_cons]
    by_cases hi : n = i
    · subst hi
      refine View.read_writes_cons_unit_of_mem M.view f _ _ _ _ (ix2 t q) rfl fun a => ?_
      fin_cases a
      · show t.val = 0 + t.val; omega
      · rfl
    · refine (View.read_writes_cons_unit_of_not_mem M.view f _ _ _ _ rfl (1 : Fin 2) ?_).trans
        (read_blocks M f v n t q l ((List.mem_cons.mp h).resolve_left hi))
      have hne : n.val ≠ i.val := fun e => hi (Fin.ext e)
      show 256 * n.val + q.val < 256 * i.val ∨ 256 * i.val + 256 ≤ 256 * n.val + q.val
      omega

theorem accPieces_read (f : bAcc.view.ty.Contents (Elt Ideal)) (X : Fin 12 → Vec Ideal S32x256 .bf16) (W : Fin 12 → Fin 8 → Vec Ideal S128x256 .i8)
    (S : Fin 24 → Fin 8 → Vec Ideal S1x256 .bf16) (D : Fin 4 → Fin 12 → Vec Ideal S128x256 .i8) (T : Fin 8 → Fin 12 → Vec Ideal S1x256 .bf16)
    (e : BitVec 32) (ids : Vec Ideal S32x2 .i32) (rw : Vec Ideal S32x2 .f32) (A : Fin 12 → Vec Ideal S32x256 .f32) (n : Fin 12) (t : Fin 32) (q : Fin 256) :
    bAcc.view.read (Elt Ideal) (bAcc.view.writes (Elt Ideal) f (accPieces (accPiece X W S D T e ids rw A))) (ix2 t ⟨256 * n.val + q.val, by omega⟩)
      = accOne (F := Ideal) X W S D T e ids rw n (A n) (ix2 t q) :=
  read_blocks bAcc f (fun n => accOne (F := Ideal) X W S D T e ids rw n (A n)) n t q [11, 10, 9, 8, 7, 6, 5, 4, 3, 2, 1, 0] (by fin_cases n <;> decide)

variable {v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189 : BitVec 32}

theorem L3_at (c : Dev nD)
    (arg0 : Memref sig .tc .smem S64 .i32) (harg0 : arg0.IsWhole) (arg1 : Memref sig .tc .vmem S32x2 .i32) (harg1 : arg1.IsWhole)
    (arg2 : Memref sig .tc .vmem S32x2 .f32) (harg2 : arg2.IsWhole) (arg3 : Memref sig .tc .vmem S32x3072 .bf16) (harg3 : arg3.IsWhole)
    (arg8 : Memref sig .tc .vmem S32x3072 .bf16) (harg8 : arg8.IsWhole)
    (h4 : hWgu.IsWhole) (h5 : hSgu.IsWhole) (h6 : hWd.IsWhole) (h7 : hSd.IsWhole)
    (h9 : bWgu.IsWhole) (h10 : bSgu.IsWhole) (h11 : bWd.IsWhole) (h12 : bSd.IsWhole) (h13 : bAcc.IsWhole) (h14 : bAct.IsWhole)
    (hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189) (k : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips)
    (f1 : Bf (F := Ideal) c arg1) (f2 : Bf (F := Ideal) c arg2) (f3 : Bf (F := Ideal) c arg3)
    (fW : Bf (F := Ideal) c hWgu) (fS : Bf (F := Ideal) c hSgu) (fD : Bf (F := Ideal) c hWd) (fT : Bf (F := Ideal) c hSd)
    (f13 : Bf (F := Ideal) c bAcc) (e : Fin 8) (t : Fin 32) (n : Fin 3072) :
    bAcc.view.read (Elt Ideal) (L3 c arg0 harg0 arg1 harg1 arg2 harg2 arg3 harg3 arg8 harg8 h4 h5 h6 h7 h9 h10 h11 h12 h13 h14 hw1 f1 f2 f3 fW fS fD fT k f13 e) (ix2 t n)
      = bAcc.view.read (Elt Ideal) f13 (ix2 t n)
        + addend (fun t d => arg3.view.read (Elt Ideal) f3 (ix2 t d)) (fun e p q => hWgu.view.read (Elt Ideal) fW (ix3 e p q))
            (fun e p q => hSgu.view.read (Elt Ideal) fS (ix3 e p q)) (fun e p q => hWd.view.read (Elt Ideal) fD (ix3 e p q))
            (fun e p q => hSd.view.read (Elt Ideal) fT (ix3 e p q)) (fun t j => arg1.view.read (Elt Ideal) f1 (ix2 t j))
            (fun t j => arg2.view.read (Elt Ideal) f2 (ix2 t j)) e t n := by
  obtain ⟨b, q, rfl⟩ : ∃ (b : Fin 12) (q : Fin 256), n = ⟨256 * b.val + q.val, by omega⟩ :=
    ⟨⟨n.val / 256, by omega⟩, ⟨n.val % 256, by omega⟩, Fin.ext (by show n.val = 256 * (n.val / 256) + n.val % 256; omega)⟩
  unfold L3
  refine (congrArg (fun g : Bf (F := Ideal) c bAcc => bAcc.view.read (Elt Ideal) g (ix2 t (⟨256 * b.val + q.val, by omega⟩ : Fin 3072)))
    (trip3_val c arg0 harg0 arg1 harg1 arg2 harg2 arg3 harg3 arg8 harg8 h4 h5 h6 h7 h9 h10 h11 h12 h13 h14 hw1 0#32 k f1 f2 f3 f13 (one14 c e) _ _ _ _
      (by rw [one14_word]; exact ofNat_lt e) e Idealize.SL.RA.fullShare fS fW fT fD (inb1 (off47_eq k) (t3_lt k)))).trans ?_
  rw [accPieces_read, readAct c (one14 c e) (j := slot3 k) (off47_eq k), one14_word]
  refine (accOne_at (fun t d => arg3.view.read (Elt Ideal) f3 (ix2 t d)) (fun e p q => hWgu.view.read (Elt Ideal) fW (ix3 e p q))
            (fun e p q => hSgu.view.read (Elt Ideal) fS (ix3 e p q)) (fun e p q => hWd.view.read (Elt Ideal) fD (ix3 e p q))
            (fun e p q => hSd.view.read (Elt Ideal) fT (ix3 e p q)) _ _ _ _ _ e ?_ ?_ ?_ ?_ ?_ _ _ b _ t q).trans ?_
  · intro r t p
    exact readAt_ix2 arg3 _ _ _ f3 t p t ⟨256 * r.val + p.val, by omega⟩ (Nat.zero_add _).symm rfl
  · intro r j p q
    refine (readAt_ix2 (sWgu (slot3 k)) _ _ _ _ p q ⟨128 * r.val + p.val, by omega⟩ ⟨256 * j.val + q.val, by omega⟩ rfl rfl).trans ?_
    exact (congrFun (View.read_rep _ _) _).trans <| rWgu_at e fW _ _
  · intro r j q
    refine (readAt_ix2 (sSgu (slot3 k)) _ _ _ _ 0 q r ⟨256 * j.val + q.val, by omega⟩ rfl rfl).trans ?_
    exact (congrFun (View.read_rep _ _) _).trans <| rSgu_at e fS _ _
  · intro r j p q
    refine (readAt_ix2 (sWd (slot3 k)) _ _ _ _ p q ⟨128 * r.val + p.val, by omega⟩ ⟨256 * j.val + q.val, by omega⟩ rfl rfl).trans ?_
    exact (congrFun (View.read_rep _ _) _).trans <| rWd_at e fD _ _
  · intro r j q
    refine (readAt_ix2 (sSd (slot3 k)) _ _ _ _ 0 q r ⟨256 * j.val + q.val, by omega⟩ rfl rfl).trans ?_
    exact (congrFun (View.read_rep _ _) _).trans <| rSd_at e fT _ _
  · refine congrArg₂ (· + ·) (readAt_ix2 bAcc _ _ _ f13 t q t _ (Nat.zero_add _).symm rfl) ?_
    have hi : (fun (t : Fin 32) (j : Fin 2) => View.readAt (Elt Ideal) arg1.view (Rect.unit (s := S32x2) ![0, 0] S32x2.size inb_S32x2_S32x2_0_0).toLoadRect f1 (ix2 t j))
        = fun t j => arg1.view.read (Elt Ideal) f1 (ix2 t j) :=
      funext fun t => funext fun j => readAt_ix2 arg1 _ _ _ f1 t j t j (Nat.zero_add _).symm (Nat.zero_add _).symm
    have hr : (fun (t : Fin 32) (j : Fin 2) => View.readAt (Elt Ideal) arg2.view (Rect.unit (s := S32x2) ![0, 0] S32x2.size inb_S32x2_S32x2_0_0).toLoadRect f2 (ix2 t j))
        = fun t j => arg2.view.read (Elt Ideal) f2 (ix2 t j) :=
      funext fun t => funext fun j => readAt_ix2 arg2 _ _ _ f2 t j t j (Nat.zero_add _).symm (Nat.zero_add _).symm
    exact congrArg₂ (fun (i : Fin 32 → Fin 2 → BitVec 32) (w : Fin 32 → Fin 2 → EReal) => addend _ _ _ _ _ i w e t _) hi hr

/-- One more slot. -/
theorem sum_lt_succ (g : Fin 8 → EReal) (k : ℕ) (hk : k < 8) :
    (∑ j : Fin 8, if j.val < k then g j else 0) + g ⟨k, hk⟩ = ∑ j : Fin 8, if j.val < k + 1 then g j else 0 := by
  have h1 := Finset.sum_erase_add Finset.univ (fun j : Fin 8 => if j.val < k then g j else 0) (Finset.mem_univ ⟨k, hk⟩)
  have h2 := Finset.sum_erase_add Finset.univ (fun j : Fin 8 => if j.val < k + 1 then g j else 0) (Finset.mem_univ ⟨k, hk⟩)
  rw [← h1, ← h2, if_neg (lt_irrefl _), if_pos (Nat.lt_succ_self _), add_zero]
  refine congrArg (· + g ⟨k, hk⟩) (Finset.sum_congr rfl fun j hj => ?_)
  have hne : j.val ≠ k := fun e => (Finset.mem_erase.mp hj).1 (Fin.ext e)
  by_cases hlt : j.val < k
  · rw [if_pos hlt, if_pos (by omega)]
  · rw [if_neg hlt, if_neg (by omega)]

/-- The accumulator after `k` slots: what it held and the addends of the experts in them. -/
theorem accAt_at (c : Dev nD)
    (arg0 : Memref sig .tc .smem S64 .i32) (harg0 : arg0.IsWhole) (arg1 : Memref sig .tc .vmem S32x2 .i32) (harg1 : arg1.IsWhole)
    (arg2 : Memref sig .tc .vmem S32x2 .f32) (harg2 : arg2.IsWhole) (arg3 : Memref sig .tc .vmem S32x3072 .bf16) (harg3 : arg3.IsWhole)
    (arg8 : Memref sig .tc .vmem S32x3072 .bf16) (harg8 : arg8.IsWhole)
    (h4 : hWgu.IsWhole) (h5 : hSgu.IsWhole) (h6 : hWd.IsWhole) (h7 : hSd.IsWhole)
    (h9 : bWgu.IsWhole) (h10 : bSgu.IsWhole) (h11 : bWd.IsWhole) (h12 : bSd.IsWhole) (h13 : bAcc.IsWhole) (h14 : bAct.IsWhole)
    (hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189)
    (f1 : Bf (F := Ideal) c arg1) (f2 : Bf (F := Ideal) c arg2) (f3 : Bf (F := Ideal) c arg3)
    (fW : Bf (F := Ideal) c hWgu) (fS : Bf (F := Ideal) c hSgu) (fD : Bf (F := Ideal) c hWd) (fT : Bf (F := Ideal) c hSd)
    (ex : Fin 8 → Fin 8) (a : Bf (F := Ideal) c bAcc) (t : Fin 32) (n : Fin 3072) : ∀ k : ℕ, k ≤ (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips →
    bAcc.view.read (Elt Ideal) (accAt c arg0 harg0 arg1 harg1 arg2 harg2 arg3 harg3 arg8 harg8 h4 h5 h6 h7 h9 h10 h11 h12 h13 h14 hw1 f1 f2 f3 fW fS fD fT ex a k) (ix2 t n)
      = bAcc.view.read (Elt Ideal) a (ix2 t n)
        + ∑ j : Fin 8, if j.val < k then addend (fun t d => arg3.view.read (Elt Ideal) f3 (ix2 t d)) (fun e p q => hWgu.view.read (Elt Ideal) fW (ix3 e p q))
            (fun e p q => hSgu.view.read (Elt Ideal) fS (ix3 e p q)) (fun e p q => hWd.view.read (Elt Ideal) fD (ix3 e p q))
            (fun e p q => hSd.view.read (Elt Ideal) fT (ix3 e p q)) (fun t j => arg1.view.read (Elt Ideal) f1 (ix2 t j))
            (fun t j => arg2.view.read (Elt Ideal) f2 (ix2 t j)) (ex j) t n else 0
  | 0, _ => by
    rw [Finset.sum_eq_zero fun j _ => if_neg (Nat.not_lt_zero _), add_zero]; rfl
  | k + 1, h => by
    rw [accAt, dif_pos (show k < (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips from h), L3_at,
      accAt_at c arg0 harg0 arg1 harg1 arg2 harg2 arg3 harg3 arg8 harg8 h4 h5 h6 h7 h9 h10 h11 h12 h13 h14 hw1 f1 f2 f3 fW fS fD fT ex a t n k (by omega), add_assoc]
    refine congrArg₂ (fun a b : EReal => a + b) rfl ?_
    have hk : k < 8 := t3_lt (⟨k, h⟩ : Fin (k0_t3_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 v144 v147 v150 v153 v156 v159 v162 v165 v168 v171 v174 v177 v180 v183 v186 v189).trips)
    generalize addend (fun t d => arg3.view.read (Elt Ideal) f3 (ix2 t d)) (fun e p q => hWgu.view.read (Elt Ideal) fW (ix3 e p q))
            (fun e p q => hSgu.view.read (Elt Ideal) fS (ix3 e p q)) (fun e p q => hWd.view.read (Elt Ideal) fD (ix3 e p q))
            (fun e p q => hSd.view.read (Elt Ideal) fT (ix3 e p q)) (fun t j => arg1.view.read (Elt Ideal) f1 (ix2 t j))
            (fun t j => arg2.view.read (Elt Ideal) f2 (ix2 t j)) = g
    exact sum_lt_succ (fun j => g (ex j) t n) k hk

end Cert.KernelIdeal.Hand

end
-- ==== Proof.Hand.Value.SlotSum.lean ====
module

public import proofs.«01_k».proof.Proof.Hand.KernelIdeal.Body
public import proofs.«01_k».proof.Proof.Hand.Value.TileAt

@[expose] public section

set_option maxRecDepth 16384

noncomputable section

/-! The slots hold every expert some token chose, each once; so the sum over the slots is the sum over the experts, and
at a token whose two choices differ it is the token's weighted sum. -/

namespace Cert.KernelIdeal.Hand

open Cert.KernelIdeal Cert.KernelIdeal.Gen
open Idealize.ShloMosaic Idealize.ShloMosaic.TcCoe
open Cert.Moe

/-- A slot in use holds an active expert, whose place in the list is the slot. -/
theorem exOf_spec (m : BitVec 32) (j : Fin 8) (hj : j.val < (act m 8).toNat) :
    (act m (exOf m j).val).toNat = j.val ∧ (bit m (exOf m j).val).toNat = 1 := by
  have b := fun e he => act_succ m e he
  have b0 := b 0 (by omega); have b1 := b 1 (by omega); have b2 := b 2 (by omega); have b3 := b 3 (by omega)
  have b4 := b 4 (by omega); have b5 := b 5 (by omega); have b6 := b 6 (by omega); have b7 := b 7 (by omega)
  have z0 : (act m 0).toNat = 0 := rfl
  have l := fun e => bit_le m e
  have l0 := l 0; have l1 := l 1; have l2 := l 2; have l3 := l 3; have l4 := l 4; have l5 := l 5; have l6 := l 6; have l7 := l 7
  clear b l
  unfold exOf
  generalize act m = A at *
  generalize bit m = B at *
  simp only [Nat.reduceAdd] at b0 b1 b2 b3 b4 b5 b6 b7
  split_ifs with i7 i6 i5 i4 i3 i2 i1
  · show (A 7).toNat = _ ∧ (B 7).toNat = 1; omega
  · show (A 6).toNat = _ ∧ (B 6).toNat = 1; omega
  · show (A 5).toNat = _ ∧ (B 5).toNat = 1; omega
  · show (A 4).toNat = _ ∧ (B 4).toNat = 1; omega
  · show (A 3).toNat = _ ∧ (B 3).toNat = 1; omega
  · show (A 2).toNat = _ ∧ (B 2).toNat = 1; omega
  · show (A 1).toNat = _ ∧ (B 1).toNat = 1; omega
  · show (A 0).toNat = _ ∧ (B 0).toNat = 1; omega

/-- The places grow with the experts. -/
theorem act_mono (m : BitVec 32) : ∀ a b, a ≤ b → b ≤ 8 → (act m a).toNat ≤ (act m b).toNat
  | a, 0, h, _ => by obtain rfl : a = 0 := by omega
                     exact le_rfl
  | a, b + 1, h, h8 => by
    rcases Nat.lt_or_ge b a with h' | h'
    · obtain rfl : a = b + 1 := by omega
      exact le_rfl
    · have := act_mono m a b h' (by omega)
      have := act_succ m b (by omega)
      omega

/-- Two active experts at one place are one expert. -/
theorem act_inj (m : BitVec 32) (a b : Fin 8) (ha : (bit m a.val).toNat = 1) (hb : (bit m b.val).toNat = 1)
    (h : (act m a.val).toNat = (act m b.val).toNat) : a = b := by
  have sa := act_succ m a.val a.isLt
  have sb := act_succ m b.val b.isLt
  rcases lt_trichotomy a.val b.val with hl | hl | hl
  · have := act_mono m (a.val + 1) b.val hl (by omega); omega
  · exact Fin.ext hl
  · have := act_mono m (b.val + 1) a.val hl (by omega); omega

/-- The sum over the slots in use is the sum over the experts, when an expert nobody chose adds nothing. -/
theorem sum_slots (m : BitVec 32) (f : Fin 8 → EReal) (h0 : ∀ e : Fin 8, (bit m e.val).toNat ≠ 1 → f e = 0) :
    (∑ j : Fin 8, if j.val < (act m 8).toNat then f (exOf m j) else 0) = ∑ e, f e := by
  have hr : (∑ e, f e) = ∑ e ∈ Finset.univ.filter (fun e : Fin 8 => (bit m e.val).toNat = 1), f e :=
    (Finset.sum_filter_of_ne fun e _ hne => by by_contra hb; exact hne (h0 e hb)).symm
  rw [hr, ← Finset.sum_filter]
  refine Finset.sum_nbij' (exOf m) (fun e => ⟨(act m e.val).toNat, lt_of_le_of_lt (act_le m e.val (by omega)) e.isLt⟩) ?_ ?_ ?_ ?_ ?_
  · intro j hj
    exact Finset.mem_filter.mpr ⟨Finset.mem_univ _, (exOf_spec m j (Finset.mem_filter.mp hj).2).2⟩
  · intro e he
    have hb := (Finset.mem_filter.mp he).2
    have := act_succ m e.val e.isLt
    have := act_mono m (e.val + 1) 8 (by omega) le_rfl
    exact Finset.mem_filter.mpr ⟨Finset.mem_univ _, by show (act m e.val).toNat < _; omega⟩
  · intro j hj
    exact Fin.ext (exOf_spec m j (Finset.mem_filter.mp hj).2).1
  · intro e he
    have hb := (Finset.mem_filter.mp he).2
    have := act_succ m e.val e.isLt
    have := act_mono m (e.val + 1) 8 (by omega) le_rfl
    have hs := exOf_spec m ⟨(act m e.val).toNat, lt_of_le_of_lt (act_le m e.val (by omega)) e.isLt⟩ (by show (act m e.val).toNat < _; omega)
    exact act_inj m _ _ hs.2 hb hs.1
  · intro j _
    rfl

/-- A chosen expert's bit is set. -/
theorem bit_eq (m : BitVec 32) (e : Fin 8) (h : m.getLsbD e.val = true) : (bit m e.val).toNat = 1 := by
  have hs : bit m e.val = (m.sshiftRight e.val) &&& 1#32 := by
    show (if (BitVec.ofNat 32 e.val).toNat < 32 then m.sshiftRight' (BitVec.ofNat 32 e.val) else _) &&& 1#32 = _
    have he : (BitVec.ofNat 32 e.val).toNat = e.val := by rw [BitVec.toNat_ofNat]; omega
    rw [if_pos (by omega)]
    show m.sshiftRight (BitVec.ofNat 32 e.val).toNat &&& 1#32 = _
    rw [he]
  have hb : bit m e.val = 1#32 := by
    rw [hs]
    apply BitVec.eq_of_getLsbD_eq
    intro i hi
    rw [BitVec.getLsbD_and]
    by_cases hz : i = 0
    · subst hz
      rw [BitVec.getLsbD_sshiftRight]
      have : e.val + 0 < 32 := by omega
      simp [this, h]
      omega
    · have : (1#32).getLsbD i = false := by simp [BitVec.getLsbD_one, hz]
      rw [this, Bool.and_false]
  rw [hb]; rfl

theorem maskStep_keep (m v : BitVec 32) (i : ℕ) (h : m.getLsbD i = true) : (maskStep m v).getLsbD i = true := by
  show (m ||| _).getLsbD i = true
  rw [BitVec.getLsbD_or, h, Bool.true_or]

theorem maskStep_set (m : BitVec 32) (e : Fin 8) : (maskStep m (BitVec.ofNat 32 e.val)).getLsbD e.val = true := by
  show (m ||| Scalar.shli 1#32 (BitVec.ofNat 32 e.val)).getLsbD e.val = true
  rw [BitVec.getLsbD_or]
  have : (Scalar.shli 1#32 (BitVec.ofNat 32 e.val)).getLsbD e.val = true := by revert e; decide
  rw [this, Bool.or_true]

theorem mask_bit (e : Fin 8) : ∀ (l : List (BitVec 32)) (m : BitVec 32), m.getLsbD e.val = true ∨ BitVec.ofNat 32 e.val ∈ l →
    (l.foldl maskStep m).getLsbD e.val = true
  | [], m, h => h.resolve_right List.not_mem_nil
  | v :: l, m, h => by
    rw [List.foldl_cons]
    refine mask_bit e l _ ?_
    rcases h with h | h
    · exact Or.inl (maskStep_keep m v _ h)
    · rcases List.mem_cons.mp h with h | h
      · subst h; exact Or.inl (maskStep_set m e)
      · exact Or.inr h

theorem bit_of_mem (l : List (BitVec 32)) (e : Fin 8) (h : BitVec.ofNat 32 e.val ∈ l) : (bit (maskOf l) e.val).toNat = 1 :=
  bit_eq _ e (mask_bit e l _ (Or.inr h))

section
variable (x : Fin 32 → Fin 3072 → EReal) (w1 : Fin 8 → Fin 1536 → Fin 2048 → BitVec 8) (s1 : Fin 8 → Fin 24 → Fin 2048 → EReal) (w2 : Fin 8 → Fin 512 → Fin 3072 → BitVec 8) (s2 : Fin 8 → Fin 8 → Fin 3072 → EReal)
  (ids : Fin 32 → Fin 2 → BitVec 32) (rw : Fin 32 → Fin 2 → EReal)

/-- An expert not in the list adds nothing. -/
theorem addend_zero (l : List (BitVec 32)) (hl : ∀ t j, ids t j ∈ l) (e : Fin 8) (t : Fin 32) (n : Fin 3072)
    (h : (bit (maskOf l) e.val).toNat ≠ 1) : addend x w1 s1 w2 s2 ids rw e t n = 0 := by
  unfold addend
  refine if_neg fun ⟨j, hj⟩ => h (bit_of_mem l e ?_)
  rw [← hj]; exact hl t j

/-- The addends of a token whose two choices differ make its weighted sum. -/
theorem sum_addend (t : Fin 32) (n : Fin 3072) (hne : ids t 0 ≠ ids t 1) :
    (∑ e : Fin 8, addend x w1 s1 w2 s2 ids rw e t n) = moe x ids rw w1 s1 w2 s2 t n := by
  have ha : ∀ e : Fin 8, addend x w1 s1 w2 s2 ids rw e t n
      = (if ids t 0 = BitVec.ofNat 32 e.val then expertOut x w1 s1 w2 s2 e t n * rw t 0 else 0)
        + (if ids t 1 = BitVec.ofNat 32 e.val then expertOut x w1 s1 w2 s2 e t n * rw t 1 else 0) := by
    intro e
    unfold addend
    rw [Fin.sum_univ_two]
    by_cases h0 : ids t 0 = BitVec.ofNat 32 e.val
    · have h1 : ids t 1 ≠ BitVec.ofNat 32 e.val := fun h => hne (h0.trans h.symm)
      rw [if_pos ⟨0, h0⟩, if_pos h0, if_pos h0, if_neg h1, if_neg h1, add_zero, add_zero]
    · by_cases h1 : ids t 1 = BitVec.ofNat 32 e.val
      · rw [if_pos ⟨1, h1⟩, if_neg h0, if_neg h0, if_pos h1, if_pos h1, zero_add, zero_add]
      · rw [if_neg (fun ⟨j, hj⟩ => by fin_cases j; exacts [h0 hj, h1 hj]), if_neg h0, if_neg h1, add_zero]
  have hm : ∀ j : Fin 2, (∑ e : Fin 8, if ids t j = BitVec.ofNat 32 e.val then expertOut x w1 s1 w2 s2 e t n * rw t j else 0)
      = (∑ e : Fin 8, if ids t j = BitVec.ofNat 32 e.val then expertOut x w1 s1 w2 s2 e t n else 0) * rw t j := by
    intro j
    by_cases h : ∃ e : Fin 8, ids t j = BitVec.ofNat 32 e.val
    · obtain ⟨e, he⟩ := h
      have hz : ∀ (g : Fin 8 → EReal), (∑ e : Fin 8, if ids t j = BitVec.ofNat 32 e.val then g e else 0) = g e := sum_pick _ e he
      rw [hz, hz]
    · have hz : ∀ (g : Fin 8 → EReal), (∑ e : Fin 8, if ids t j = BitVec.ofNat 32 e.val then g e else 0) = 0 := fun g =>
        Finset.sum_eq_zero fun e _ => if_neg fun h' => h ⟨e, h'⟩
      rw [hz, hz, zero_mul]
  rw [Finset.sum_congr rfl fun e _ => ha e, Finset.sum_add_distrib, hm 0, hm 1]
  unfold moe
  rw [Fin.sum_univ_two]
end

end Cert.KernelIdeal.Hand

end
-- ==== Proof.Hand.Value.BodyAt.lean ====
module

public import proofs.«01_k».proof.Proof.Hand.Value.TripAt
public import proofs.«01_k».proof.Proof.Hand.Value.SlotSum

@[expose] public section

set_option maxRecDepth 65536

noncomputable section

/-! What the kernel leaves in the result's buffer, element by element. -/

namespace Cert.KernelIdeal.Hand

open Cert.KernelIdeal Cert.KernelIdeal.Gen
open Idealize.ShloMosaic Idealize.ShloMosaic.TcCoe
open Cert.Moe

/-- The accumulator starts at zero. -/
theorem acc0_at (c : Dev nD) (t : Fin 32) (n : Fin 3072) : bAcc.view.read (Elt Ideal) (acc0 (F := Ideal) c) (ix2 t n) = (0 : EReal) := by
  refine (congrFun (View.read_rep _ _) _).trans ?_
  pointwise [k0_pay860]

variable (c : Dev nD)
    (arg0 : Memref sig .tc .smem S64 .i32) (harg0 : arg0.IsWhole) (arg1 : Memref sig .tc .vmem S32x2 .i32) (harg1 : arg1.IsWhole)
    (arg2 : Memref sig .tc .vmem S32x2 .f32) (harg2 : arg2.IsWhole) (arg3 : Memref sig .tc .vmem S32x3072 .bf16) (harg3 : arg3.IsWhole)
    (arg8 : Memref sig .tc .vmem S32x3072 .bf16) (harg8 : arg8.IsWhole)
    (h4 : hWgu.IsWhole) (h5 : hSgu.IsWhole) (h6 : hWd.IsWhole) (h7 : hSd.IsWhole)
    (h9 : bWgu.IsWhole) (h10 : bSgu.IsWhole) (h11 : bWd.IsWhole) (h12 : bSd.IsWhole) (h13 : bAcc.IsWhole) (h14 : bAct.IsWhole)

variable (f0 : Bf (F := Ideal) c arg0) (f1 : Bf (F := Ideal) c arg1) (f2 : Bf (F := Ideal) c arg2) (f3 : Bf (F := Ideal) c arg3)
    (fW : Bf (F := Ideal) c hWgu) (fS : Bf (F := Ideal) c hSgu) (fD : Bf (F := Ideal) c hWd) (fT : Bf (F := Ideal) c hSd)

/-- One id as the kernel reads it. -/
theorem cell_at (i : Fin 64) (inb : ∀ a, (![i.val] : Fin 1 → ℕ) a + S1.size a ≤ S64.size a) (h) :
    View.readAt (Elt Ideal) arg0.view (Rect.unit (s := S64) ![i.val] S1.size inb).toLoadRect f0 (Shape.Idx.first h) = arg0.view.read (Elt Ideal) f0 (ix1 i) := by
  rw [View.readAt_apply]
  refine congrArg (arg0.view.read (Elt Ideal) f0) (funext fun a => Fin.ext ?_)
  fin_cases a
  show i.val + 1 * 0 = i.val; omega

/-- The sixty-four ids the mask is made of, in the order in which they are read. -/
def idList : List (BitVec 32) := [body.sl.r c arg0 f0, body.sl.r_1 c arg0 f0, body.sl.r_2 c arg0 f0, body.sl.r_3 c arg0 f0, body.sl.r_4 c arg0 f0, body.sl.r_5 c arg0 f0, body.sl.r_6 c arg0 f0, body.sl.r_7 c arg0 f0, body.sl.r_8 c arg0 f0, body.sl.r_9 c arg0 f0, body.sl.r_10 c arg0 f0, body.sl.r_11 c arg0 f0, body.sl.r_12 c arg0 f0, body.sl.r_13 c arg0 f0, body.sl.r_14 c arg0 f0, body.sl.r_15 c arg0 f0, body.sl.r_16 c arg0 f0, body.sl.r_17 c arg0 f0, body.sl.r_18 c arg0 f0, body.sl.r_19 c arg0 f0, body.sl.r_20 c arg0 f0, body.sl.r_21 c arg0 f0, body.sl.r_22 c arg0 f0, body.sl.r_23 c arg0 f0, body.sl.r_24 c arg0 f0, body.sl.r_25 c arg0 f0, body.sl.r_26 c arg0 f0, body.sl.r_27 c arg0 f0, body.sl.r_28 c arg0 f0, body.sl.r_29 c arg0 f0, body.sl.r_30 c arg0 f0, body.sl.r_31 c arg0 f0, body.sl.r_32 c arg0 f0, body.sl.r_33 c arg0 f0, body.sl.r_34 c arg0 f0, body.sl.r_35 c arg0 f0, body.sl.r_36 c arg0 f0, body.sl.r_37 c arg0 f0, body.sl.r_38 c arg0 f0, body.sl.r_39 c arg0 f0, body.sl.r_40 c arg0 f0, body.sl.r_41 c arg0 f0, body.sl.r_42 c arg0 f0, body.sl.r_43 c arg0 f0, body.sl.r_44 c arg0 f0, body.sl.r_45 c arg0 f0, body.sl.r_46 c arg0 f0, body.sl.r_47 c arg0 f0, body.sl.r_48 c arg0 f0, body.sl.r_49 c arg0 f0, body.sl.r_50 c arg0 f0, body.sl.r_51 c arg0 f0, body.sl.r_52 c arg0 f0, body.sl.r_53 c arg0 f0, body.sl.r_54 c arg0 f0, body.sl.r_55 c arg0 f0, body.sl.r_56 c arg0 f0, body.sl.r_57 c arg0 f0, body.sl.r_58 c arg0 f0, body.sl.r_59 c arg0 f0, body.sl.r_60 c arg0 f0, body.sl.r_61 c arg0 f0, body.sl.r_62 c arg0 f0, body.sl.r_63 c arg0 f0]

/-- Every id is one of them. -/
theorem mem_idList : ∀ i : Fin 64, arg0.view.read (Elt Ideal) f0 (ix1 i) ∈ idList c arg0 f0
  | ⟨0, _⟩ => List.mem_of_getElem? (i := 0) (congrArg some (cell_at c arg0 f0 0 _ _))
  | ⟨1, _⟩ => List.mem_of_getElem? (i := 1) (congrArg some (cell_at c arg0 f0 1 _ _))
  | ⟨2, _⟩ => List.mem_of_getElem? (i := 2) (congrArg some (cell_at c arg0 f0 2 _ _))
  | ⟨3, _⟩ => List.mem_of_getElem? (i := 3) (congrArg some (cell_at c arg0 f0 3 _ _))
  | ⟨4, _⟩ => List.mem_of_getElem? (i := 4) (congrArg some (cell_at c arg0 f0 4 _ _))
  | ⟨5, _⟩ => List.mem_of_getElem? (i := 5) (congrArg some (cell_at c arg0 f0 5 _ _))
  | ⟨6, _⟩ => List.mem_of_getElem? (i := 6) (congrArg some (cell_at c arg0 f0 6 _ _))
  | ⟨7, _⟩ => List.mem_of_getElem? (i := 7) (congrArg some (cell_at c arg0 f0 7 _ _))
  | ⟨8, _⟩ => List.mem_of_getElem? (i := 8) (congrArg some (cell_at c arg0 f0 8 _ _))
  | ⟨9, _⟩ => List.mem_of_getElem? (i := 9) (congrArg some (cell_at c arg0 f0 9 _ _))
  | ⟨10, _⟩ => List.mem_of_getElem? (i := 10) (congrArg some (cell_at c arg0 f0 10 _ _))
  | ⟨11, _⟩ => List.mem_of_getElem? (i := 11) (congrArg some (cell_at c arg0 f0 11 _ _))
  | ⟨12, _⟩ => List.mem_of_getElem? (i := 12) (congrArg some (cell_at c arg0 f0 12 _ _))
  | ⟨13, _⟩ => List.mem_of_getElem? (i := 13) (congrArg some (cell_at c arg0 f0 13 _ _))
  | ⟨14, _⟩ => List.mem_of_getElem? (i := 14) (congrArg some (cell_at c arg0 f0 14 _ _))
  | ⟨15, _⟩ => List.mem_of_getElem? (i := 15) (congrArg some (cell_at c arg0 f0 15 _ _))
  | ⟨16, _⟩ => List.mem_of_getElem? (i := 16) (congrArg some (cell_at c arg0 f0 16 _ _))
  | ⟨17, _⟩ => List.mem_of_getElem? (i := 17) (congrArg some (cell_at c arg0 f0 17 _ _))
  | ⟨18, _⟩ => List.mem_of_getElem? (i := 18) (congrArg some (cell_at c arg0 f0 18 _ _))
  | ⟨19, _⟩ => List.mem_of_getElem? (i := 19) (congrArg some (cell_at c arg0 f0 19 _ _))
  | ⟨20, _⟩ => List.mem_of_getElem? (i := 20) (congrArg some (cell_at c arg0 f0 20 _ _))
  | ⟨21, _⟩ => List.mem_of_getElem? (i := 21) (congrArg some (cell_at c arg0 f0 21 _ _))
  | ⟨22, _⟩ => List.mem_of_getElem? (i := 22) (congrArg some (cell_at c arg0 f0 22 _ _))
  | ⟨23, _⟩ => List.mem_of_getElem? (i := 23) (congrArg some (cell_at c arg0 f0 23 _ _))
  | ⟨24, _⟩ => List.mem_of_getElem? (i := 24) (congrArg some (cell_at c arg0 f0 24 _ _))
  | ⟨25, _⟩ => List.mem_of_getElem? (i := 25) (congrArg some (cell_at c arg0 f0 25 _ _))
  | ⟨26, _⟩ => List.mem_of_getElem? (i := 26) (congrArg some (cell_at c arg0 f0 26 _ _))
  | ⟨27, _⟩ => List.mem_of_getElem? (i := 27) (congrArg some (cell_at c arg0 f0 27 _ _))
  | ⟨28, _⟩ => List.mem_of_getElem? (i := 28) (congrArg some (cell_at c arg0 f0 28 _ _))
  | ⟨29, _⟩ => List.mem_of_getElem? (i := 29) (congrArg some (cell_at c arg0 f0 29 _ _))
  | ⟨30, _⟩ => List.mem_of_getElem? (i := 30) (congrArg some (cell_at c arg0 f0 30 _ _))
  | ⟨31, _⟩ => List.mem_of_getElem? (i := 31) (congrArg some (cell_at c arg0 f0 31 _ _))
  | ⟨32, _⟩ => List.mem_of_getElem? (i := 32) (congrArg some (cell_at c arg0 f0 32 _ _))
  | ⟨33, _⟩ => List.mem_of_getElem? (i := 33) (congrArg some (cell_at c arg0 f0 33 _ _))
  | ⟨34, _⟩ => List.mem_of_getElem? (i := 34) (congrArg some (cell_at c arg0 f0 34 _ _))
  | ⟨35, _⟩ => List.mem_of_getElem? (i := 35) (congrArg some (cell_at c arg0 f0 35 _ _))
  | ⟨36, _⟩ => List.mem_of_getElem? (i := 36) (congrArg some (cell_at c arg0 f0 36 _ _))
  | ⟨37, _⟩ => List.mem_of_getElem? (i := 37) (congrArg some (cell_at c arg0 f0 37 _ _))
  | ⟨38, _⟩ => List.mem_of_getElem? (i := 38) (congrArg some (cell_at c arg0 f0 38 _ _))
  | ⟨39, _⟩ => List.mem_of_getElem? (i := 39) (congrArg some (cell_at c arg0 f0 39 _ _))
  | ⟨40, _⟩ => List.mem_of_getElem? (i := 40) (congrArg some (cell_at c arg0 f0 40 _ _))
  | ⟨41, _⟩ => List.mem_of_getElem? (i := 41) (congrArg some (cell_at c arg0 f0 41 _ _))
  | ⟨42, _⟩ => List.mem_of_getElem? (i := 42) (congrArg some (cell_at c arg0 f0 42 _ _))
  | ⟨43, _⟩ => List.mem_of_getElem? (i := 43) (congrArg some (cell_at c arg0 f0 43 _ _))
  | ⟨44, _⟩ => List.mem_of_getElem? (i := 44) (congrArg some (cell_at c arg0 f0 44 _ _))
  | ⟨45, _⟩ => List.mem_of_getElem? (i := 45) (congrArg some (cell_at c arg0 f0 45 _ _))
  | ⟨46, _⟩ => List.mem_of_getElem? (i := 46) (congrArg some (cell_at c arg0 f0 46 _ _))
  | ⟨47, _⟩ => List.mem_of_getElem? (i := 47) (congrArg some (cell_at c arg0 f0 47 _ _))
  | ⟨48, _⟩ => List.mem_of_getElem? (i := 48) (congrArg some (cell_at c arg0 f0 48 _ _))
  | ⟨49, _⟩ => List.mem_of_getElem? (i := 49) (congrArg some (cell_at c arg0 f0 49 _ _))
  | ⟨50, _⟩ => List.mem_of_getElem? (i := 50) (congrArg some (cell_at c arg0 f0 50 _ _))
  | ⟨51, _⟩ => List.mem_of_getElem? (i := 51) (congrArg some (cell_at c arg0 f0 51 _ _))
  | ⟨52, _⟩ => List.mem_of_getElem? (i := 52) (congrArg some (cell_at c arg0 f0 52 _ _))
  | ⟨53, _⟩ => List.mem_of_getElem? (i := 53) (congrArg some (cell_at c arg0 f0 53 _ _))
  | ⟨54, _⟩ => List.mem_of_getElem? (i := 54) (congrArg some (cell_at c arg0 f0 54 _ _))
  | ⟨55, _⟩ => List.mem_of_getElem? (i := 55) (congrArg some (cell_at c arg0 f0 55 _ _))
  | ⟨56, _⟩ => List.mem_of_getElem? (i := 56) (congrArg some (cell_at c arg0 f0 56 _ _))
  | ⟨57, _⟩ => List.mem_of_getElem? (i := 57) (congrArg some (cell_at c arg0 f0 57 _ _))
  | ⟨58, _⟩ => List.mem_of_getElem? (i := 58) (congrArg some (cell_at c arg0 f0 58 _ _))
  | ⟨59, _⟩ => List.mem_of_getElem? (i := 59) (congrArg some (cell_at c arg0 f0 59 _ _))
  | ⟨60, _⟩ => List.mem_of_getElem? (i := 60) (congrArg some (cell_at c arg0 f0 60 _ _))
  | ⟨61, _⟩ => List.mem_of_getElem? (i := 61) (congrArg some (cell_at c arg0 f0 61 _ _))
  | ⟨62, _⟩ => List.mem_of_getElem? (i := 62) (congrArg some (cell_at c arg0 f0 62 _ _))
  | ⟨63, _⟩ => List.mem_of_getElem? (i := 63) (congrArg some (cell_at c arg0 f0 63 _ _))
  | ⟨_ + 64, h⟩ => absurd h (by omega)

theorem pay3_at (v : Vec Ideal S32x3072 .f32) (t : Fin 32) (n : Fin 3072) : k0_pay3 (F := Ideal) v (ix2 t n) = v (ix2 t n) := by
  pointwise [k0_pay3]

/-- The result at an element: what all experts together give. -/
theorem body_at (hids : ∀ (t : Fin 32) (j : Fin 2), arg1.view.read (Elt Ideal) f1 (ix2 t j) = arg0.view.read (Elt Ideal) f0 (ix1 ⟨2 * t.val + j.val, blk_lt t j⟩))
    (t : Fin 32) (n : Fin 3072) (hne : arg1.view.read (Elt Ideal) f1 (ix2 t 0) ≠ arg1.view.read (Elt Ideal) f1 (ix2 t 1)) :
    (body (F := Ideal) c arg0 harg0 arg1 harg1 arg2 harg2 arg3 harg3 arg8 harg8 h4 h5 h6 h7 h9 h10 h11 h12 h13 h14 f0 f1 f2 f3 fW fS fD fT).1 (ix2 t n)
      = moe (fun t d => arg3.view.read (Elt Ideal) f3 (ix2 t d)) (fun t j => arg1.view.read (Elt Ideal) f1 (ix2 t j)) (fun t j => arg2.view.read (Elt Ideal) f2 (ix2 t j))
          (fun e p q => hWgu.view.read (Elt Ideal) fW (ix3 e p q)) (fun e p q => hSgu.view.read (Elt Ideal) fS (ix3 e p q))
          (fun e p q => hWd.view.read (Elt Ideal) fD (ix3 e p q)) (fun e p q => hSd.view.read (Elt Ideal) fT (ix3 e p q)) t n := by
  rw [← sum_addend _ _ _ _ _ _ _ t n hne]
  delta body
  dsimp only
  refine (pay3_at _ t n).trans ?_
  delta body.sl.v245
  refine (readAt_ix2 bAcc _ _ _ _ t n t n (Nat.zero_add _).symm (Nat.zero_add _).symm).trans ?_
  refine (accAt_at c arg0 harg0 arg1 harg1 arg2 harg2 arg3 harg3 arg8 harg8 h4 h5 h6 h7 h9 h10 h11 h12 h13 h14 _ f1 f2 f3 fW fS fD fT (exV (body.sl.r c arg0 f0) (body.sl.r_1 c arg0 f0) (body.sl.r_2 c arg0 f0) (body.sl.r_3 c arg0 f0) (body.sl.r_4 c arg0 f0) (body.sl.r_5 c arg0 f0) (body.sl.r_6 c arg0 f0) (body.sl.r_7 c arg0 f0) (body.sl.r_8 c arg0 f0) (body.sl.r_9 c arg0 f0) (body.sl.r_10 c arg0 f0) (body.sl.r_11 c arg0 f0) (body.sl.r_12 c arg0 f0) (body.sl.r_13 c arg0 f0) (body.sl.r_14 c arg0 f0) (body.sl.r_15 c arg0 f0) (body.sl.r_16 c arg0 f0) (body.sl.r_17 c arg0 f0) (body.sl.r_18 c arg0 f0) (body.sl.r_19 c arg0 f0) (body.sl.r_20 c arg0 f0) (body.sl.r_21 c arg0 f0) (body.sl.r_22 c arg0 f0) (body.sl.r_23 c arg0 f0) (body.sl.r_24 c arg0 f0) (body.sl.r_25 c arg0 f0) (body.sl.r_26 c arg0 f0) (body.sl.r_27 c arg0 f0) (body.sl.r_28 c arg0 f0) (body.sl.r_29 c arg0 f0) (body.sl.r_30 c arg0 f0) (body.sl.r_31 c arg0 f0) (body.sl.r_32 c arg0 f0) (body.sl.r_33 c arg0 f0) (body.sl.r_34 c arg0 f0) (body.sl.r_35 c arg0 f0) (body.sl.r_36 c arg0 f0) (body.sl.r_37 c arg0 f0) (body.sl.r_38 c arg0 f0) (body.sl.r_39 c arg0 f0) (body.sl.r_40 c arg0 f0) (body.sl.r_41 c arg0 f0) (body.sl.r_42 c arg0 f0) (body.sl.r_43 c arg0 f0) (body.sl.r_44 c arg0 f0) (body.sl.r_45 c arg0 f0) (body.sl.r_46 c arg0 f0) (body.sl.r_47 c arg0 f0) (body.sl.r_48 c arg0 f0) (body.sl.r_49 c arg0 f0) (body.sl.r_50 c arg0 f0) (body.sl.r_51 c arg0 f0) (body.sl.r_52 c arg0 f0) (body.sl.r_53 c arg0 f0) (body.sl.r_54 c arg0 f0) (body.sl.r_55 c arg0 f0) (body.sl.r_56 c arg0 f0) (body.sl.r_57 c arg0 f0) (body.sl.r_58 c arg0 f0) (body.sl.r_59 c arg0 f0) (body.sl.r_60 c arg0 f0) (body.sl.r_61 c arg0 f0) (body.sl.r_62 c arg0 f0) (body.sl.r_63 c arg0 f0)) (acc0 c) t n _ le_rfl).trans ?_
  rw [acc0_at, zero_add, t3_trips]
  exact sum_slots (maskOf (idList c arg0 f0)) (fun e => addend _ _ _ _ _ _ _ e t n)
    fun e h => addend_zero _ _ _ _ _ _ _ (idList c arg0 f0) (fun t j => by rw [hids]; exact mem_idList c arg0 f0 _) e t n h

end Cert.KernelIdeal.Hand

end
-- ==== Proof.Hand.Value.Blocks.lean ====
module

public import proofs.«01_k».proof.Proof.Hand.KernelIdeal.Frame
public import Idealize.ShloMosaic.Lib.Pipeline.ValueKit
public import Idealize.ShloMosaic.Lib.Pointwise
public import Idealize.ShloMosaic.Lib.Claim

@[expose] public section

set_option maxRecDepth 65536

noncomputable section

/-! The blocks the kernel reads, as elements of the arguments. -/

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- Every window's block index at the one point. -/
theorem idx_blocks : ∀ t : Fin cfg0.N, win0_0.index t = ![0] ∧ win0_1.index t = ![0, 0] ∧ win0_2.index t = ![0, 0] ∧ win0_3.index t = ![0, 0] ∧ win0_4.index t = ![0, 0] :=
  (by decide +kernel : ∀ t : Fin grid0.N, _)

theorem V_v0 : V m c main_v0 = shapeCast S32x2 (m ((c : Thread nD τ).loc main_arg1)) shapeCasts_S32x1x2_S32x2 := by
  entry_read; rfl
theorem V_v1 : V m c main_v1 = shapeCast S64 (shapeCast S32x2 (m ((c : Thread nD τ).loc main_arg1)) shapeCasts_S32x1x2_S32x2) shapeCasts_S32x2_S64 := by
  entry_read; rfl
theorem V_v2 : V m c main_v2 = shapeCast S32x2 (m ((c : Thread nD τ).loc main_arg2)) shapeCasts_S32x1x2_S32x2 := by
  entry_read; rfl
theorem V_v3 : V m c main_v3 = shapeCast S32x3072 (m ((c : Thread nD τ).loc main_arg0)) shapeCasts_S32x1x3072_S32x3072 := by
  entry_read; rfl

theorem iblk0 (i : S64.Idx) : iblk m c 0 t0_0 i = V m c main_v1 i := by
  unfold iblk; blk_ext [idx_blocks t0_0]
theorem iblk1 (i : S32x2.Idx) : iblk m c 1 t0_0 i = V m c main_v0 i := by
  unfold iblk; blk_ext [idx_blocks t0_0]
theorem iblk2 (i : S32x2.Idx) : iblk m c 2 t0_0 i = V m c main_v2 i := by
  unfold iblk; blk_ext [idx_blocks t0_0]
theorem iblk3 (i : S32x3072.Idx) : iblk m c 3 t0_0 i = V m c main_v3 i := by
  unfold iblk; blk_ext [idx_blocks t0_0]

theorem block0_at (t : Fin 32) (j : Fin 2) (h : 2 * t.val + j.val < 64) : iblk m c 0 t0_0 (ix1 ⟨2 * t.val + j.val, h⟩) = m ((c : Thread nD τ).loc main_arg1) (ix3 t 0 j) := by
  rw [iblk0, V_v1]
  pointwise []

theorem block1_at (t : Fin 32) (j : Fin 2) : iblk m c 1 t0_0 (ix2 t j) = m ((c : Thread nD τ).loc main_arg1) (ix3 t 0 j) := by
  rw [iblk1, V_v0]
  pointwise []

theorem block2_at (t : Fin 32) (j : Fin 2) : iblk m c 2 t0_0 (ix2 t j) = m ((c : Thread nD τ).loc main_arg2) (ix3 t 0 j) := by
  rw [iblk2, V_v2]
  pointwise []

theorem block3_at (t : Fin 32) (d : Fin 3072) : iblk m c 3 t0_0 (ix2 t d) = m ((c : Thread nD τ).loc main_arg0) (ix3 t 0 d) := by
  rw [iblk3, V_v3]
  pointwise []

end Cert.KernelIdeal.Hand

end
-- ==== Proof.Hand.Value.OutAt.lean ====
module

public import proofs.«01_k».proof.Proof.Hand.Value.BodyAt
public import proofs.«01_k».proof.Proof.Hand.Value.Blocks

@[expose] public section

set_option maxRecDepth 65536

noncomputable section

/-! The result array of the kernel, element by element. -/

namespace Cert.KernelIdeal.Hand

open Cert.KernelIdeal Cert.KernelIdeal.Gen
open Idealize.ShloMosaic Idealize.ShloMosaic.TcCoe
open Cert.Moe

theorem moe_congr {x x' : Fin 32 → Fin 3072 → EReal} {ids ids' : Fin 32 → Fin 2 → BitVec 32} {r r' : Fin 32 → Fin 2 → EReal}
    {w1 w1' : Fin 8 → Fin 1536 → Fin 2048 → BitVec 8} {s1 s1' : Fin 8 → Fin 24 → Fin 2048 → EReal}
    {w2 w2' : Fin 8 → Fin 512 → Fin 3072 → BitVec 8} {s2 s2' : Fin 8 → Fin 8 → Fin 3072 → EReal} (t : Fin 32) (n : Fin 3072)
    (hx : ∀ t d, x t d = x' t d) (hi : ∀ t j, ids t j = ids' t j) (hr : ∀ t j, r t j = r' t j) (hw1 : w1 = w1') (hs1 : s1 = s1') (hw2 : w2 = w2') (hs2 : s2 = s2') :
    moe x ids r w1 s1 w2 s2 t n = moe x' ids' r' w1' s1' w2' s2' t n := by
  obtain rfl : x = x' := funext fun t => funext fun d => hx t d
  obtain rfl : ids = ids' := funext fun t => funext fun j => hi t j
  obtain rfl : r = r' := funext fun t => funext fun j => hr t j
  subst hw1 hs1 hw2 hs2
  rfl

variable (m : (ℓ : Loc nD τ sig) → Buf (Elt Ideal) ℓ) (c : Dev nD)

/-- What the body leaves in the result's block. -/
theorem outAt_at (t : Fin 32) (n : Fin 3072) (hne : m ((c : Thread nD τ).loc main_arg1) (ix3 t 0 0) ≠ m ((c : Thread nD τ).loc main_arg1) (ix3 t 0 1)) :
    outAt m c t0_0 (ix2 t n)
      = moe (fun t d => m ((c : Thread nD τ).loc main_arg0) (ix3 t 0 d)) (fun t j => m ((c : Thread nD τ).loc main_arg1) (ix3 t 0 j))
          (fun t j => m ((c : Thread nD τ).loc main_arg2) (ix3 t 0 j)) (fun e p q => m ((c : Thread nD τ).loc main_arg3) (ix3 e p q))
          (fun e p q => m ((c : Thread nD τ).loc main_arg4) (ix3 e p q)) (fun e p q => m ((c : Thread nD τ).loc main_arg5) (ix3 e p q))
          (fun e p q => m ((c : Thread nD τ).loc main_arg6) (ix3 e p q)) t n := by
  have h1 : ∀ (t : Fin 32) (j : Fin 2), (ms0_1 t0_0).view.read (Elt Ideal) ((ms0_1 t0_0).view.rep (iblk m c 1 t0_0)) (ix2 t j) = m ((c : Thread nD τ).loc main_arg1) (ix3 t 0 j) :=
    fun t j => (congrFun (View.read_rep _ _) _).trans (block1_at m c t j)
  unfold outAt bodyRun
  refine (body_at _ _ _ _ _ _ _ _ _ _ _ _ _ _ _ _ _ _ _ _ _ _ _ _ _ _ _ _ _ (fun t j => ?_) t n ?_).trans (moe_congr t n (fun t d => ?_) h1 (fun t j => ?_) ?_ ?_ ?_ ?_)
  · exact (h1 t j).trans ((congrFun (View.read_rep _ _) _).trans (block0_at m c t j _)).symm
  · exact fun e => hne ((h1 t 0).symm.trans (e.trans (h1 t 1)))
  · exact (congrFun (View.read_rep _ _) _).trans (block3_at m c t d)
  · exact (congrFun (View.read_rep _ _) _).trans (block2_at m c t j)
  · rw [V_main_arg3]; rfl
  · rw [V_main_arg4]; rfl
  · rw [V_main_arg5]; rfl
  · rw [V_main_arg6]; rfl

/-- The result array after the run. -/
theorem final_out (G : S32x3072.Idx → EReal) (hG : ∀ (t : Fin 32) (n : Fin 3072), outAt m c t0_0 (ix2 t n) = G (ix2 t n)) :
    (dats m 0 c).arrAt 4 cfg0.N = G := by
  refine (dats m 0 c).arrAt_eq_of_after_last 4 t0_0 (by decide +kernel) _ fun j => ?_
  blk_simp
  rw [after0_4]
  have e : (j : S32x3072.Idx) = ix2 (j 0) (j 1) := funext fun a => by fin_cases a <;> rfl
  exact (congrArg (outAt m c t0_0) e).trans ((hG _ _).trans (congrArg G e).symm)

end Cert.KernelIdeal.Hand

end
-- ==== Proof.Hand.Value.Claim.lean ====
module

public import proofs.«01_k».proof.Defs
public import proofs.«01_k».proof.Proof.Gen.ReferenceIdeal.Run
public import proofs.«01_k».proof.Proof.Hand.Value.RefAt
public import proofs.«01_k».proof.Proof.Hand.Value.OutAt

@[expose] public section

set_option maxRecDepth 65536

noncomputable section

/-! The kernel's result and the reference's are the same at the exact reals. -/

namespace Cert.Proof.Hand

open Idealize.ShloMosaic Idealize.ShloMosaic.TcCoe

/-- The precondition's side conditions. -/
theorem preFacts : Cert.Pre_distinct_experts.Facts := ⟨by decide, by decide, by decide⟩

/-- What the precondition says: a token's two ids differ. -/
theorem ids_ne [Cert.Pre_distinct_experts.Facts] (a0 a1 a2 a3 a4 a5 a6)
    (h : Cert.Pre_distinct_experts.fn (F := Ideal) a0 a1 a2 a3 a4 a5 a6 = fun _ => 1#1) (t : Fin 32) : a1 (ix3 t 0 0) ≠ a1 (ix3 t 0 1) := by
  have h := congrFun h (ix2 t 0)
  have e : Cert.Pre_distinct_experts.fn (F := Ideal) a0 a1 a2 a3 a4 a5 a6 (ix2 t 0) = IntOp.cmpi .ne (a1 (ix3 t 0 0)) (a1 (ix3 t 0 1)) := by
    pointwise [Cert.Pre_distinct_experts.fn]
  rw [e] at h
  intro he
  rw [he] at h
  exact absurd h (by simp [IntOp.cmpi])

theorem algebraic : Cert.algebraic_KernelIdeal_ReferenceIdeal_pre_distinct_experts (hKernelIdeal := Cert.KernelIdeal.Gen.facts)
    (hReferenceIdeal := Cert.ReferenceIdeal.Gen.facts) (hPre_distinct_experts := preFacts) := by
  intro m g m' g' hpre hagree
  refine ⟨fun c => Cert.ReferenceIdeal.Value.res_out0 m' c, ?_, ?_⟩
  · refine (θ_run _ _ _).mono (fun r h c => ?_) (Cert.KernelIdeal.Hand.run_main m g)
    refine ⟨((h.1 c).1 4).trans (Cert.KernelIdeal.Hand.final_out m c _ fun t n => ?_), ?_⟩
    · refine (Cert.KernelIdeal.Hand.outAt_at m c t n (@ids_ne preFacts _ _ _ _ _ _ _ (hpre c) t)).trans ?_
      show _ = Cert.ReferenceIdeal.Value.res_out0 m' c (ix2 t n)
      rw [Cert.ReferenceIdeal.Hand.res_eq, (hagree c).1, (hagree c).2.1, (hagree c).2.2.1, (hagree c).2.2.2.1, (hagree c).2.2.2.2.1, (hagree c).2.2.2.2.2.1, (hagree c).2.2.2.2.2.2]
      exact (Cert.ReferenceIdeal.Hand.ref_at _ _ _ _ _ _ _ t n).symm
    · exact ⟨((h.1 c).2 Cert.KernelIdeal.main_arg0 (Pipeline.mem_restRefs_of Cert.KernelIdeal.main_arg0 (by decide) (by decide))).trans (Cert.KernelIdeal.Gen.V_main_arg0 m c),
        ((h.1 c).2 Cert.KernelIdeal.main_arg1 (Pipeline.mem_restRefs_of Cert.KernelIdeal.main_arg1 (by decide) (by decide))).trans (Cert.KernelIdeal.Gen.V_main_arg1 m c),
        ((h.1 c).2 Cert.KernelIdeal.main_arg2 (Pipeline.mem_restRefs_of Cert.KernelIdeal.main_arg2 (by decide) (by decide))).trans (Cert.KernelIdeal.Gen.V_main_arg2 m c),
        ((h.1 c).2 Cert.KernelIdeal.main_arg3 (Pipeline.mem_restRefs_of Cert.KernelIdeal.main_arg3 (by decide) (by decide))).trans (Cert.KernelIdeal.Gen.V_main_arg3 m c),
        ((h.1 c).2 Cert.KernelIdeal.main_arg4 (Pipeline.mem_restRefs_of Cert.KernelIdeal.main_arg4 (by decide) (by decide))).trans (Cert.KernelIdeal.Gen.V_main_arg4 m c),
        ((h.1 c).2 Cert.KernelIdeal.main_arg5 (Pipeline.mem_restRefs_of Cert.KernelIdeal.main_arg5 (by decide) (by decide))).trans (Cert.KernelIdeal.Gen.V_main_arg5 m c),
        ((h.1 c).2 Cert.KernelIdeal.main_arg6 (Pipeline.mem_restRefs_of Cert.KernelIdeal.main_arg6 (by decide) (by decide))).trans (Cert.KernelIdeal.Gen.V_main_arg6 m c)⟩
  · exact Cert.ReferenceIdeal.Value.run m' g'

end Cert.Proof.Hand

end
-- ==== Proof.lean ====
/-
  The proof of the certificate's claims.

  Proof/Hand/Kernel: the kernel's frame at any floats. `Words` reads the kernel's word arithmetic (which experts are
  active, and each one's place in the list); `Slots` and `Res` name the slots, cells and rows and what is held of each;
  `Trip1` and `Trip3` are one trip of the copying and of the computing loop; `Loops` the two loops; `Body` the kernel's
  body; `Launch` and `Frame` the launch and the run.  Proof/Hand/KernelIdeal: the same for the idealized program.

  Proof/Hand/Value: the result at the exact reals. `Spec` states it as plain mathematics (`Cert.Moe.moe`); `RefVal` and
  `RefAt` show that the reference gives it; `Tile` and `TileAt` read the kernel's arithmetic on its tiles; `TripVal`
  and `TripAt` what one trip of the computing loop, and the whole loop, add to the accumulator; `SlotSum` passes from
  the kernel's list of active experts to all experts; `BodyAt`, `Blocks` and `OutAt` give the result array of the
  kernel; `Claim` puts the two sides together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Hand.Kernel.Frame
public import proofs.«01_k».proof.Proof.Hand.RefFrame
public import proofs.«01_k».proof.Proof.Hand.KernelIdeal.Frame
public import proofs.«01_k».proof.Proof.Hand.Value.Claim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Proof.Hand.preFacts,
    fun m g _ => Cert.Kernel.Hand.frame m g,
    fun m g _ => Cert.KernelIdeal.Hand.frame m g,
    fun m g _ => Cert.KernelIdeal.Hand.frame m g,
    Cert.ReferenceIdeal.Hand.frame,
    fun m g _ => Cert.ReferenceIdeal.Hand.frame m g trivial,
    trivial,
    Cert.Proof.Hand.algebraic⟩

end Cert.Proof

end
